-- ==== Defs.lean ====
def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsRefIdeal (m : (ℓ : Loc Cert.ExpertsRefIdeal.nD Cert.ExpertsRefIdeal.τ Cert.ExpertsRefIdeal.sig) → Buf (Elt Ideal) ℓ) : Prop :=
  True

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_mla_finite [hPre_mla_finite : Cert.Pre_mla_finite.Facts] (m : (ℓ : Loc Cert.MlaIdeal.nD Cert.MlaIdeal.τ Cert.MlaIdeal.sig) → Buf (Elt Ideal) ℓ) : Prop :=
  ∀ c : Dev Cert.MlaIdeal.nD,
    (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_mla_finite [hPre_mla_finite : Cert.Pre_mla_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4))) = (fun _ => 1#1)

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInRefIdeal (m : (ℓ : Loc Cert.OddInRefIdeal.nD Cert.OddInRefIdeal.τ Cert.OddInRefIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutRefIdeal (m : (ℓ : Loc Cert.OddOutRefIdeal.nD Cert.OddOutRefIdeal.τ Cert.OddOutRefIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutRefIdeal (m : (ℓ : Loc Cert.EvenOutRefIdeal.nD Cert.EvenOutRefIdeal.τ Cert.EvenOutRefIdeal.sig) → Buf (Elt Ideal) ℓ) : Prop :=
  True

def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_gqa_finite [hPre_gqa_finite : Cert.Pre_gqa_finite.Facts] (m : (ℓ : Loc Cert.GqaIdeal.nD Cert.GqaIdeal.τ Cert.GqaIdeal.sig) → Buf (Elt Ideal) ℓ) : Prop :=
  ∀ c : Dev Cert.GqaIdeal.nD,
    (Cert.Pre_gqa_finite.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3)) (m ((c.tc : Thread Cert.GqaIdeal.nD Cert.GqaIdeal.τ).loc Cert.GqaIdeal.main_arg4))) = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_gqa_finite [hPre_gqa_finite : Cert.Pre_gqa_finite.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_gqa_finite.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3)) (m ((c.tc : Thread Cert.GqaRefIdeal.nD Cert.GqaRefIdeal.τ).loc Cert.GqaRefIdeal.main_arg4))) = (fun _ => 1#1)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ r.2.sem = fun _ => 0)

def quiescent_MlaIdeal_pre_mla_finite [hMlaIdeal : Cert.MlaIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_mla_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4))
      ∧ r.2.sem = fun _ => 0)

def quiescent_MlaRefIdeal_pre_mla_finite [hMlaRefIdeal : Cert.MlaRefIdeal.Facts] [hPre_mla_finite : Cert.Pre_mla_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_mla_finite m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2)
      ∧ r.2.mem ((c.tc : Thread Cert.EvenIn.nD Cert.EvenIn.τ).loc Cert.EvenIn.main_arg3) = m ((c.tc : Thread Cert.EvenIn.nD Cert.EvenIn.τ).loc Cert.EvenIn.main_arg3)
      ∧ r.2.mem ((c.tc : Thread Cert.EvenIn.nD Cert.EvenIn.τ).loc Cert.EvenIn.main_arg4) = m ((c.tc : Thread Cert.EvenIn.nD Cert.EvenIn.τ).loc Cert.EvenIn.main_arg4)
      ∧ r.2.mem ((c.tc : Thread Cert.EvenIn.nD Cert.EvenIn.τ).loc Cert.EvenIn.main_arg5) = m ((c.tc : Thread Cert.EvenIn.nD Cert.EvenIn.τ).loc Cert.EvenIn.main_arg5))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
      ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3)
      ∧ r.2.mem ((c.tc : Thread Cert.EvenInIdeal.nD Cert.EvenInIdeal.τ).loc Cert.EvenInIdeal.main_arg4) = m ((c.tc : Thread Cert.EvenInIdeal.nD Cert.EvenInIdeal.τ).loc Cert.EvenInIdeal.main_arg4)
      ∧ r.2.mem ((c.tc : Thread Cert.EvenInIdeal.nD Cert.EvenInIdeal.τ).loc Cert.EvenInIdeal.main_arg5) = m ((c.tc : Thread Cert.EvenInIdeal.nD Cert.EvenInIdeal.τ).loc Cert.EvenInIdeal.main_arg5))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1)
      ∧ r.2.mem ((c.tc : Thread Cert.EvenInRefIdeal.nD Cert.EvenInRefIdeal.τ).loc Cert.EvenInRefIdeal.main_arg2) = m ((c.tc : Thread Cert.EvenInRefIdeal.nD Cert.EvenInRefIdeal.τ).loc Cert.EvenInRefIdeal.main_arg2)
      ∧ r.2.mem ((c.tc : Thread Cert.EvenInRefIdeal.nD Cert.EvenInRefIdeal.τ).loc Cert.EvenInRefIdeal.main_arg3) = m ((c.tc : Thread Cert.EvenInRefIdeal.nD Cert.EvenInRefIdeal.τ).loc Cert.EvenInRefIdeal.main_arg3)
      ∧ r.2.mem ((c.tc : Thread Cert.EvenInRefIdeal.nD Cert.EvenInRefIdeal.τ).loc Cert.EvenInRefIdeal.main_arg4) = m ((c.tc : Thread Cert.EvenInRefIdeal.nD Cert.EvenInRefIdeal.τ).loc Cert.EvenInRefIdeal.main_arg4)
      ∧ r.2.mem ((c.tc : Thread Cert.EvenInRefIdeal.nD Cert.EvenInRefIdeal.τ).loc Cert.EvenInRefIdeal.main_arg5) = m ((c.tc : Thread Cert.EvenInRefIdeal.nD Cert.EvenInRefIdeal.τ).loc Cert.EvenInRefIdeal.main_arg5))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1)
      ∧ r.2.mem ((c.tc : Thread Cert.OddIn.nD Cert.OddIn.τ).loc Cert.OddIn.main_arg2) = m ((c.tc : Thread Cert.OddIn.nD Cert.OddIn.τ).loc Cert.OddIn.main_arg2)
      ∧ r.2.mem ((c.tc : Thread Cert.OddIn.nD Cert.OddIn.τ).loc Cert.OddIn.main_arg3) = m ((c.tc : Thread Cert.OddIn.nD Cert.OddIn.τ).loc Cert.OddIn.main_arg3)
      ∧ r.2.mem ((c.tc : Thread Cert.OddIn.nD Cert.OddIn.τ).loc Cert.OddIn.main_arg4) = m ((c.tc : Thread Cert.OddIn.nD Cert.OddIn.τ).loc Cert.OddIn.main_arg4)
      ∧ r.2.mem ((c.tc : Thread Cert.OddIn.nD Cert.OddIn.τ).loc Cert.OddIn.main_arg5) = m ((c.tc : Thread Cert.OddIn.nD Cert.OddIn.τ).loc Cert.OddIn.main_arg5)
      ∧ r.2.mem ((c.tc : Thread Cert.OddIn.nD Cert.OddIn.τ).loc Cert.OddIn.main_arg6) = m ((c.tc : Thread Cert.OddIn.nD Cert.OddIn.τ).loc Cert.OddIn.main_arg6)
      ∧ r.2.mem ((c.tc : Thread Cert.OddIn.nD Cert.OddIn.τ).loc Cert.OddIn.main_arg7) = m ((c.tc : Thread Cert.OddIn.nD Cert.OddIn.τ).loc Cert.OddIn.main_arg7)
      ∧ r.2.mem ((c.tc : Thread Cert.OddIn.nD Cert.OddIn.τ).loc Cert.OddIn.main_arg8) = m ((c.tc : Thread Cert.OddIn.nD Cert.OddIn.τ).loc Cert.OddIn.main_arg8)
      ∧ r.2.mem ((c.tc : Thread Cert.OddIn.nD Cert.OddIn.τ).loc Cert.OddIn.main_arg9) = m ((c.tc : Thread Cert.OddIn.nD Cert.OddIn.τ).loc Cert.OddIn.main_arg9))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
      ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2)
      ∧ r.2.mem ((c.tc : Thread Cert.OddInIdeal.nD Cert.OddInIdeal.τ).loc Cert.OddInIdeal.main_arg3) = m ((c.tc : Thread Cert.OddInIdeal.nD Cert.OddInIdeal.τ).loc Cert.OddInIdeal.main_arg3)
      ∧ r.2.mem ((c.tc : Thread Cert.OddInIdeal.nD Cert.OddInIdeal.τ).loc Cert.OddInIdeal.main_arg4) = m ((c.tc : Thread Cert.OddInIdeal.nD Cert.OddInIdeal.τ).loc Cert.OddInIdeal.main_arg4)
      ∧ r.2.mem ((c.tc : Thread Cert.OddInIdeal.nD Cert.OddInIdeal.τ).loc Cert.OddInIdeal.main_arg5) = m ((c.tc : Thread Cert.OddInIdeal.nD Cert.OddInIdeal.τ).loc Cert.OddInIdeal.main_arg5)
      ∧ r.2.mem ((c.tc : Thread Cert.OddInIdeal.nD Cert.OddInIdeal.τ).loc Cert.OddInIdeal.main_arg6) = m ((c.tc : Thread Cert.OddInIdeal.nD Cert.OddInIdeal.τ).loc Cert.OddInIdeal.main_arg6)
      ∧ r.2.mem ((c.tc : Thread Cert.OddInIdeal.nD Cert.OddInIdeal.τ).loc Cert.OddInIdeal.main_arg7) = m ((c.tc : Thread Cert.OddInIdeal.nD Cert.OddInIdeal.τ).loc Cert.OddInIdeal.main_arg7)
      ∧ r.2.mem ((c.tc : Thread Cert.OddInIdeal.nD Cert.OddInIdeal.τ).loc Cert.OddInIdeal.main_arg8) = m ((c.tc : Thread Cert.OddInIdeal.nD Cert.OddInIdeal.τ).loc Cert.OddInIdeal.main_arg8)
      ∧ r.2.mem ((c.tc : Thread Cert.OddInIdeal.nD Cert.OddInIdeal.τ).loc Cert.OddInIdeal.main_arg9) = m ((c.tc : Thread Cert.OddInIdeal.nD Cert.OddInIdeal.τ).loc Cert.OddInIdeal.main_arg9))
      ∧ r.2.sem = fun _ => 0)

def quiescent_OddInRefIdeal [hOddInRefIdeal : Cert.OddInRefIdeal.Facts] : Prop :=
  ∀ (m : (ℓ : Loc Cert.OddInRefIdeal.nD Cert.OddInRefIdeal.τ Cert.OddInRefIdeal.sig) → Buf (Elt Ideal) ℓ) (g : Dev Cert.OddInRefIdeal.nD → PrngReg), Pre_OddInRefIdeal m →
    θ_run (Cert.OddInRefIdeal.defs (F := Ideal)) (onTc (τ := Cert.OddInRefIdeal.τ) (Cert.OddInRefIdeal.main (F := Ideal))) ⟨m, fun _ => 0, g⟩ (fun r => (∀ c : Dev Cert.OddInRefIdeal.nD,
      r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1)
      ∧ r.2.mem ((c.tc : Thread Cert.OddInRefIdeal.nD Cert.OddInRefIdeal.τ).loc Cert.OddInRefIdeal.main_arg2) = m ((c.tc : Thread Cert.OddInRefIdeal.nD Cert.OddInRefIdeal.τ).loc Cert.OddInRefIdeal.main_arg2)
      ∧ r.2.mem ((c.tc : Thread Cert.OddInRefIdeal.nD Cert.OddInRefIdeal.τ).loc Cert.OddInRefIdeal.main_arg3) = m ((c.tc : Thread Cert.OddInRefIdeal.nD Cert.OddInRefIdeal.τ).loc Cert.OddInRefIdeal.main_arg3)
      ∧ r.2.mem ((c.tc : Thread Cert.OddInRefIdeal.nD Cert.OddInRefIdeal.τ).loc Cert.OddInRefIdeal.main_arg4) = m ((c.tc : Thread Cert.OddInRefIdeal.nD Cert.OddInRefIdeal.τ).loc Cert.OddInRefIdeal.main_arg4)
      ∧ r.2.mem ((c.tc : Thread Cert.OddInRefIdeal.nD Cert.OddInRefIdeal.τ).loc Cert.OddInRefIdeal.main_arg5) = m ((c.tc : Thread Cert.OddInRefIdeal.nD Cert.OddInRefIdeal.τ).loc Cert.OddInRefIdeal.main_arg5)
      ∧ r.2.mem ((c.tc : Thread Cert.OddInRefIdeal.nD Cert.OddInRefIdeal.τ).loc Cert.OddInRefIdeal.main_arg6) = m ((c.tc : Thread Cert.OddInRefIdeal.nD Cert.OddInRefIdeal.τ).loc Cert.OddInRefIdeal.main_arg6)
      ∧ r.2.mem ((c.tc : Thread Cert.OddInRefIdeal.nD Cert.OddInRefIdeal.τ).loc Cert.OddInRefIdeal.main_arg7) = m ((c.tc : Thread Cert.OddInRefIdeal.nD Cert.OddInRefIdeal.τ).loc Cert.OddInRefIdeal.main_arg7)
      ∧ r.2.mem ((c.tc : Thread Cert.OddInRefIdeal.nD Cert.OddInRefIdeal.τ).loc Cert.OddInRefIdeal.main_arg8) = m ((c.tc : Thread Cert.OddInRefIdeal.nD Cert.OddInRefIdeal.τ).loc Cert.OddInRefIdeal.main_arg8)
      ∧ r.2.mem ((c.tc : Thread Cert.OddInRefIdeal.nD Cert.OddInRefIdeal.τ).loc Cert.OddInRefIdeal.main_arg9) = m ((c.tc : Thread Cert.OddInRefIdeal.nD Cert.OddInRefIdeal.τ).loc Cert.OddInRefIdeal.main_arg9))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2)
      ∧ r.2.mem ((c.tc : Thread Cert.OddOut.nD Cert.OddOut.τ).loc Cert.OddOut.main_arg3) = m ((c.tc : Thread Cert.OddOut.nD Cert.OddOut.τ).loc Cert.OddOut.main_arg3)
      ∧ r.2.mem ((c.tc : Thread Cert.OddOut.nD Cert.OddOut.τ).loc Cert.OddOut.main_arg4) = m ((c.tc : Thread Cert.OddOut.nD Cert.OddOut.τ).loc Cert.OddOut.main_arg4))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
      ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
      ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4))
      ∧ r.2.sem = fun _ => 0)

def quiescent_OddOutRefIdeal [hOddOutRefIdeal : Cert.OddOutRefIdeal.Facts] : Prop :=
  ∀ (m : (ℓ : Loc Cert.OddOutRefIdeal.nD Cert.OddOutRefIdeal.τ Cert.OddOutRefIdeal.sig) → Buf (Elt Ideal) ℓ) (g : Dev Cert.OddOutRefIdeal.nD → PrngReg), Pre_OddOutRefIdeal m →
    θ_run (Cert.OddOutRefIdeal.defs (F := Ideal)) (onTc (τ := Cert.OddOutRefIdeal.τ) (Cert.OddOutRefIdeal.main (F := Ideal))) ⟨m, fun _ => 0, g⟩ (fun r => (∀ c : Dev Cert.OddOutRefIdeal.nD,
      r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
      ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1)
      ∧ r.2.mem ((c.tc : Thread Cert.OddOutRefIdeal.nD Cert.OddOutRefIdeal.τ).loc Cert.OddOutRefIdeal.main_arg2) = m ((c.tc : Thread Cert.OddOutRefIdeal.nD Cert.OddOutRefIdeal.τ).loc Cert.OddOutRefIdeal.main_arg2)
      ∧ r.2.mem ((c.tc : Thread Cert.OddOutRefIdeal.nD Cert.OddOutRefIdeal.τ).loc Cert.OddOutRefIdeal.main_arg3) = m ((c.tc : Thread Cert.OddOutRefIdeal.nD Cert.OddOutRefIdeal.τ).loc Cert.OddOutRefIdeal.main_arg3)
      ∧ r.2.mem ((c.tc : Thread Cert.OddOutRefIdeal.nD Cert.OddOutRefIdeal.τ).loc Cert.OddOutRefIdeal.main_arg4) = m ((c.tc : Thread Cert.OddOutRefIdeal.nD Cert.OddOutRefIdeal.τ).loc Cert.OddOutRefIdeal.main_arg4))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3)
      ∧ r.2.mem ((c.tc : Thread Cert.EvenOut.nD Cert.EvenOut.τ).loc Cert.EvenOut.main_arg4) = m ((c.tc : Thread Cert.EvenOut.nD Cert.EvenOut.τ).loc Cert.EvenOut.main_arg4)
      ∧ r.2.mem ((c.tc : Thread Cert.EvenOut.nD Cert.EvenOut.τ).loc Cert.EvenOut.main_arg5) = m ((c.tc : Thread Cert.EvenOut.nD Cert.EvenOut.τ).loc Cert.EvenOut.main_arg5)
      ∧ r.2.mem ((c.tc : Thread Cert.EvenOut.nD Cert.EvenOut.τ).loc Cert.EvenOut.main_arg6) = m ((c.tc : Thread Cert.EvenOut.nD Cert.EvenOut.τ).loc Cert.EvenOut.main_arg6))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
      ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
      ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5)
      ∧ r.2.mem ((c.tc : Thread Cert.EvenOutIdeal.nD Cert.EvenOutIdeal.τ).loc Cert.EvenOutIdeal.main_arg6) = m ((c.tc : Thread Cert.EvenOutIdeal.nD Cert.EvenOutIdeal.τ).loc Cert.EvenOutIdeal.main_arg6))
      ∧ r.2.sem = fun _ => 0)

def quiescent_EvenOutRefIdeal [hEvenOutRefIdeal : Cert.EvenOutRefIdeal.Facts] : Prop :=
  ∀ (m : (ℓ : Loc Cert.EvenOutRefIdeal.nD Cert.EvenOutRefIdeal.τ Cert.EvenOutRefIdeal.sig) → Buf (Elt Ideal) ℓ) (g : Dev Cert.EvenOutRefIdeal.nD → PrngReg), Pre_EvenOutRefIdeal m →
    θ_run (Cert.EvenOutRefIdeal.defs (F := Ideal)) (onTc (τ := Cert.EvenOutRefIdeal.τ) (Cert.EvenOutRefIdeal.main (F := Ideal))) ⟨m, fun _ => 0, g⟩ (fun r => (∀ c : Dev Cert.EvenOutRefIdeal.nD,
      r.2.mem ((c.tc : Thread Cert.EvenOutRefIdeal.nD Cert.EvenOutRefIdeal.τ).loc Cert.EvenOutRefIdeal.main_arg0) = m ((c.tc : Thread Cert.EvenOutRefIdeal.nD Cert.EvenOutRefIdeal.τ).loc Cert.EvenOutRefIdeal.main_arg0)
      ∧ r.2.mem ((c.tc : Thread Cert.EvenOutRefIdeal.nD Cert.EvenOutRefIdeal.τ).loc Cert.EvenOutRefIdeal.main_arg1) = m ((c.tc : Thread Cert.EvenOutRefIdeal.nD Cert.EvenOutRefIdeal.τ).loc Cert.EvenOutRefIdeal.main_arg1)
      ∧ r.2.mem ((c.tc : Thread Cert.EvenOutRefIdeal.nD Cert.EvenOutRefIdeal.τ).loc Cert.EvenOutRefIdeal.main_arg2) = m ((c.tc : Thread Cert.EvenOutRefIdeal.nD Cert.EvenOutRefIdeal.τ).loc Cert.EvenOutRefIdeal.main_arg2)
      ∧ r.2.mem ((c.tc : Thread Cert.EvenOutRefIdeal.nD Cert.EvenOutRefIdeal.τ).loc Cert.EvenOutRefIdeal.main_arg3) = m ((c.tc : Thread Cert.EvenOutRefIdeal.nD Cert.EvenOutRefIdeal.τ).loc Cert.EvenOutRefIdeal.main_arg3)
      ∧ r.2.mem ((c.tc : Thread Cert.EvenOutRefIdeal.nD Cert.EvenOutRefIdeal.τ).loc Cert.EvenOutRefIdeal.main_arg4) = m ((c.tc : Thread Cert.EvenOutRefIdeal.nD Cert.EvenOutRefIdeal.τ).loc Cert.EvenOutRefIdeal.main_arg4)
      ∧ r.2.mem ((c.tc : Thread Cert.EvenOutRefIdeal.nD Cert.EvenOutRefIdeal.τ).loc Cert.EvenOutRefIdeal.main_arg5) = m ((c.tc : Thread Cert.EvenOutRefIdeal.nD Cert.EvenOutRefIdeal.τ).loc Cert.EvenOutRefIdeal.main_arg5)
      ∧ r.2.mem ((c.tc : Thread Cert.EvenOutRefIdeal.nD Cert.EvenOutRefIdeal.τ).loc Cert.EvenOutRefIdeal.main_arg6) = m ((c.tc : Thread Cert.EvenOutRefIdeal.nD Cert.EvenOutRefIdeal.τ).loc Cert.EvenOutRefIdeal.main_arg6))
      ∧ r.2.sem = fun _ => 0)

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2)
      ∧ r.2.mem ((c.tc : Thread Cert.Gqa.nD Cert.Gqa.τ).loc Cert.Gqa.main_arg3) = m ((c.tc : Thread Cert.Gqa.nD Cert.Gqa.τ).loc Cert.Gqa.main_arg3)
      ∧ r.2.mem ((c.tc : Thread Cert.Gqa.nD Cert.Gqa.τ).loc Cert.Gqa.main_arg4) = m ((c.tc : Thread Cert.Gqa.nD Cert.Gqa.τ).loc Cert.Gqa.main_arg4))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
      ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4))
      ∧ r.2.sem = fun _ => 0)

def quiescent_GqaIdeal_pre_gqa_finite [hGqaIdeal : Cert.GqaIdeal.Facts] [hPre_gqa_finite : Cert.Pre_gqa_finite.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_gqa_finite m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
      ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3)
      ∧ r.2.mem ((c.tc : Thread Cert.GqaRefIdeal.nD Cert.GqaRefIdeal.τ).loc Cert.GqaRefIdeal.main_arg4) = m ((c.tc : Thread Cert.GqaRefIdeal.nD Cert.GqaRefIdeal.τ).loc Cert.GqaRefIdeal.main_arg4))
      ∧ r.2.sem = fun _ => 0)

def quiescent_GqaRefIdeal_pre_gqa_finite [hGqaRefIdeal : Cert.GqaRefIdeal.Facts] [hPre_gqa_finite : Cert.Pre_gqa_finite.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_gqa_finite m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3)
      ∧ r.2.mem ((c.tc : Thread Cert.GqaRefIdeal.nD Cert.GqaRefIdeal.τ).loc Cert.GqaRefIdeal.main_arg4) = m ((c.tc : Thread Cert.GqaRefIdeal.nD Cert.GqaRefIdeal.τ).loc Cert.GqaRefIdeal.main_arg4))
      ∧ r.2.sem = fun _ => 0)

def preserves_Experts_ExpertsIdeal : Prop :=
  True

def algebraic_ExpertsIdeal_ExpertsRefIdeal [hExpertsIdeal : Cert.ExpertsIdeal.Facts] [hExpertsRefIdeal : Cert.ExpertsRefIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v1)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v1) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v17) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6))

def preserves_Mla_MlaIdeal : Prop :=
  IdealRules.named_const.Statement Cert.MlaIdeal.κ "mla_scale" .f32 0x3E16C740#32 (((Real.sqrt 96)⁻¹ * (Real.log 2)⁻¹ : ℝ) : EReal)

def algebraic_MlaIdeal_MlaRefIdeal_pre_mla_finite [hMlaIdeal : Cert.MlaIdeal.Facts] [hMlaRefIdeal : Cert.MlaRefIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_mla_finite m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)
      ∧ m' ((c.tc : Thread Cert.MlaRefIdeal.nD Cert.MlaRefIdeal.τ).loc Cert.MlaRefIdeal.main_arg4) = m ((c.tc : Thread Cert.MlaIdeal.nD Cert.MlaIdeal.τ).loc Cert.MlaIdeal.main_arg4)) →
    ∃ (v0 : (c : Dev Cert.MlaIdeal.nD) → Buf (Elt Ideal) ((c.tc : Thread Cert.MlaIdeal.nD Cert.MlaIdeal.τ).loc Cert.MlaIdeal.main_v12)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v12) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
          ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v20) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)
      ∧ m' ((c.tc : Thread Cert.EvenInRefIdeal.nD Cert.EvenInRefIdeal.τ).loc Cert.EvenInRefIdeal.main_arg2) = m ((c.tc : Thread Cert.EvenInIdeal.nD Cert.EvenInIdeal.τ).loc Cert.EvenInIdeal.main_arg2)
      ∧ m' ((c.tc : Thread Cert.EvenInRefIdeal.nD Cert.EvenInRefIdeal.τ).loc Cert.EvenInRefIdeal.main_arg3) = m ((c.tc : Thread Cert.EvenInIdeal.nD Cert.EvenInIdeal.τ).loc Cert.EvenInIdeal.main_arg3)
      ∧ m' ((c.tc : Thread Cert.EvenInRefIdeal.nD Cert.EvenInRefIdeal.τ).loc Cert.EvenInRefIdeal.main_arg4) = m ((c.tc : Thread Cert.EvenInIdeal.nD Cert.EvenInIdeal.τ).loc Cert.EvenInIdeal.main_arg4)
      ∧ m' ((c.tc : Thread Cert.EvenInRefIdeal.nD Cert.EvenInRefIdeal.τ).loc Cert.EvenInRefIdeal.main_arg5) = m ((c.tc : Thread Cert.EvenInIdeal.nD Cert.EvenInIdeal.τ).loc Cert.EvenInIdeal.main_arg5)) →
    ∃ (v0 : (c : Dev Cert.EvenInIdeal.nD) → Buf (Elt Ideal) ((c.tc : Thread Cert.EvenInIdeal.nD Cert.EvenInIdeal.τ).loc Cert.EvenInIdeal.main_v100_0)) (v1 : (c : Dev Cert.EvenInIdeal.nD) → Buf (Elt Ideal) ((c.tc : Thread Cert.EvenInIdeal.nD Cert.EvenInIdeal.τ).loc Cert.EvenInIdeal.main_v100_3)) (v2 : (c : Dev Cert.EvenInIdeal.nD) → Buf (Elt Ideal) ((c.tc : Thread Cert.EvenInIdeal.nD Cert.EvenInIdeal.τ).loc Cert.EvenInIdeal.main_v100_4)) (v3 : (c : Dev Cert.EvenInIdeal.nD) → Buf (Elt Ideal) ((c.tc : Thread Cert.EvenInIdeal.nD Cert.EvenInIdeal.τ).loc Cert.EvenInIdeal.main_v100_5)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v100_0) = v0 c
          ∧ r.2.mem ((c.tc : Thread Cert.EvenInIdeal.nD Cert.EvenInIdeal.τ).loc Cert.EvenInIdeal.main_v100_3) = v1 c
          ∧ r.2.mem ((c.tc : Thread Cert.EvenInIdeal.nD Cert.EvenInIdeal.τ).loc Cert.EvenInIdeal.main_v100_4) = v2 c
          ∧ r.2.mem ((c.tc : Thread Cert.EvenInIdeal.nD Cert.EvenInIdeal.τ).loc Cert.EvenInIdeal.main_v100_5) = v3 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
          ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3)
          ∧ r.2.mem ((c.tc : Thread Cert.EvenInIdeal.nD Cert.EvenInIdeal.τ).loc Cert.EvenInIdeal.main_arg4) = m ((c.tc : Thread Cert.EvenInIdeal.nD Cert.EvenInIdeal.τ).loc Cert.EvenInIdeal.main_arg4)
          ∧ r.2.mem ((c.tc : Thread Cert.EvenInIdeal.nD Cert.EvenInIdeal.τ).loc Cert.EvenInIdeal.main_arg5) = m ((c.tc : Thread Cert.EvenInIdeal.nD Cert.EvenInIdeal.τ).loc Cert.EvenInIdeal.main_arg5))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v52) = v0 c
          ∧ r.2.mem ((c.tc : Thread Cert.EvenInRefIdeal.nD Cert.EvenInRefIdeal.τ).loc Cert.EvenInRefIdeal.main_v53) = v1 c
          ∧ r.2.mem ((c.tc : Thread Cert.EvenInRefIdeal.nD Cert.EvenInRefIdeal.τ).loc Cert.EvenInRefIdeal.main_v54) = v2 c
          ∧ r.2.mem ((c.tc : Thread Cert.EvenInRefIdeal.nD Cert.EvenInRefIdeal.τ).loc Cert.EvenInRefIdeal.main_v37) = v3 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1)
          ∧ r.2.mem ((c.tc : Thread Cert.EvenInRefIdeal.nD Cert.EvenInRefIdeal.τ).loc Cert.EvenInRefIdeal.main_arg2) = m' ((c.tc : Thread Cert.EvenInRefIdeal.nD Cert.EvenInRefIdeal.τ).loc Cert.EvenInRefIdeal.main_arg2)
          ∧ r.2.mem ((c.tc : Thread Cert.EvenInRefIdeal.nD Cert.EvenInRefIdeal.τ).loc Cert.EvenInRefIdeal.main_arg3) = m' ((c.tc : Thread Cert.EvenInRefIdeal.nD Cert.EvenInRefIdeal.τ).loc Cert.EvenInRefIdeal.main_arg3)
          ∧ r.2.mem ((c.tc : Thread Cert.EvenInRefIdeal.nD Cert.EvenInRefIdeal.τ).loc Cert.EvenInRefIdeal.main_arg4) = m' ((c.tc : Thread Cert.EvenInRefIdeal.nD Cert.EvenInRefIdeal.τ).loc Cert.EvenInRefIdeal.main_arg4)
          ∧ r.2.mem ((c.tc : Thread Cert.EvenInRefIdeal.nD Cert.EvenInRefIdeal.τ).loc Cert.EvenInRefIdeal.main_arg5) = m' ((c.tc : Thread Cert.EvenInRefIdeal.nD Cert.EvenInRefIdeal.τ).loc Cert.EvenInRefIdeal.main_arg5))

def preserves_OddIn_OddInIdeal : Prop :=
  True

def algebraic_OddInIdeal_OddInRefIdeal [hOddInIdeal : Cert.OddInIdeal.Facts] [hOddInRefIdeal : Cert.OddInRefIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInRefIdeal.nD Cert.OddInRefIdeal.τ Cert.OddInRefIdeal.sig) → Buf (Elt Ideal) ℓ) (g' : Dev Cert.OddInRefIdeal.nD → PrngReg), Pre_OddInIdeal m →
    (∀ c : Dev Cert.OddInIdeal.nD,
      m' ((c.tc : Thread Cert.OddInRefIdeal.nD Cert.OddInRefIdeal.τ).loc Cert.OddInRefIdeal.main_arg0) = m ((c.tc : Thread Cert.OddInIdeal.nD Cert.OddInIdeal.τ).loc Cert.OddInIdeal.main_arg0)
      ∧ m' ((c.tc : Thread Cert.OddInRefIdeal.nD Cert.OddInRefIdeal.τ).loc Cert.OddInRefIdeal.main_arg1) = m ((c.tc : Thread Cert.OddInIdeal.nD Cert.OddInIdeal.τ).loc Cert.OddInIdeal.main_arg1)
      ∧ m' ((c.tc : Thread Cert.OddInRefIdeal.nD Cert.OddInRefIdeal.τ).loc Cert.OddInRefIdeal.main_arg2) = m ((c.tc : Thread Cert.OddInIdeal.nD Cert.OddInIdeal.τ).loc Cert.OddInIdeal.main_arg2)
      ∧ m' ((c.tc : Thread Cert.OddInRefIdeal.nD Cert.OddInRefIdeal.τ).loc Cert.OddInRefIdeal.main_arg3) = m ((c.tc : Thread Cert.OddInIdeal.nD Cert.OddInIdeal.τ).loc Cert.OddInIdeal.main_arg3)
      ∧ m' ((c.tc : Thread Cert.OddInRefIdeal.nD Cert.OddInRefIdeal.τ).loc Cert.OddInRefIdeal.main_arg4) = m ((c.tc : Thread Cert.OddInIdeal.nD Cert.OddInIdeal.τ).loc Cert.OddInIdeal.main_arg4)
      ∧ m' ((c.tc : Thread Cert.OddInRefIdeal.nD Cert.OddInRefIdeal.τ).loc Cert.OddInRefIdeal.main_arg5) = m ((c.tc : Thread Cert.OddInIdeal.nD Cert.OddInIdeal.τ).loc Cert.OddInIdeal.main_arg5)
      ∧ m' ((c.tc : Thread Cert.OddInRefIdeal.nD Cert.OddInRefIdeal.τ).loc Cert.OddInRefIdeal.main_arg6) = m ((c.tc : Thread Cert.OddInIdeal.nD Cert.OddInIdeal.τ).loc Cert.OddInIdeal.main_arg6)
      ∧ m' ((c.tc : Thread Cert.OddInRefIdeal.nD Cert.OddInRefIdeal.τ).loc Cert.OddInRefIdeal.main_arg7) = m ((c.tc : Thread Cert.OddInIdeal.nD Cert.OddInIdeal.τ).loc Cert.OddInIdeal.main_arg7)
      ∧ m' ((c.tc : Thread Cert.OddInRefIdeal.nD Cert.OddInRefIdeal.τ).loc Cert.OddInRefIdeal.main_arg8) = m ((c.tc : Thread Cert.OddInIdeal.nD Cert.OddInIdeal.τ).loc Cert.OddInIdeal.main_arg8)
      ∧ m' ((c.tc : Thread Cert.OddInRefIdeal.nD Cert.OddInRefIdeal.τ).loc Cert.OddInRefIdeal.main_arg9) = m ((c.tc : Thread Cert.OddInIdeal.nD Cert.OddInIdeal.τ).loc Cert.OddInIdeal.main_arg9)) →
    ∃ (v0 : (c : Dev Cert.OddInIdeal.nD) → Buf (Elt Ideal) ((c.tc : Thread Cert.OddInIdeal.nD Cert.OddInIdeal.τ).loc Cert.OddInIdeal.main_v128_2)) (v1 : (c : Dev Cert.OddInIdeal.nD) → Buf (Elt Ideal) ((c.tc : Thread Cert.OddInIdeal.nD Cert.OddInIdeal.τ).loc Cert.OddInIdeal.main_v128_3)) (v2 : (c : Dev Cert.OddInIdeal.nD) → Buf (Elt Ideal) ((c.tc : Thread Cert.OddInIdeal.nD Cert.OddInIdeal.τ).loc Cert.OddInIdeal.main_v128_4)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v128_2) = v0 c
          ∧ r.2.mem ((c.tc : Thread Cert.OddInIdeal.nD Cert.OddInIdeal.τ).loc Cert.OddInIdeal.main_v128_3) = v1 c
          ∧ r.2.mem ((c.tc : Thread Cert.OddInIdeal.nD Cert.OddInIdeal.τ).loc Cert.OddInIdeal.main_v128_4) = v2 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
          ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2)
          ∧ r.2.mem ((c.tc : Thread Cert.OddInIdeal.nD Cert.OddInIdeal.τ).loc Cert.OddInIdeal.main_arg3) = m ((c.tc : Thread Cert.OddInIdeal.nD Cert.OddInIdeal.τ).loc Cert.OddInIdeal.main_arg3)
          ∧ r.2.mem ((c.tc : Thread Cert.OddInIdeal.nD Cert.OddInIdeal.τ).loc Cert.OddInIdeal.main_arg4) = m ((c.tc : Thread Cert.OddInIdeal.nD Cert.OddInIdeal.τ).loc Cert.OddInIdeal.main_arg4)
          ∧ r.2.mem ((c.tc : Thread Cert.OddInIdeal.nD Cert.OddInIdeal.τ).loc Cert.OddInIdeal.main_arg5) = m ((c.tc : Thread Cert.OddInIdeal.nD Cert.OddInIdeal.τ).loc Cert.OddInIdeal.main_arg5)
          ∧ r.2.mem ((c.tc : Thread Cert.OddInIdeal.nD Cert.OddInIdeal.τ).loc Cert.OddInIdeal.main_arg6) = m ((c.tc : Thread Cert.OddInIdeal.nD Cert.OddInIdeal.τ).loc Cert.OddInIdeal.main_arg6)
          ∧ r.2.mem ((c.tc : Thread Cert.OddInIdeal.nD Cert.OddInIdeal.τ).loc Cert.OddInIdeal.main_arg7) = m ((c.tc : Thread Cert.OddInIdeal.nD Cert.OddInIdeal.τ).loc Cert.OddInIdeal.main_arg7)
          ∧ r.2.mem ((c.tc : Thread Cert.OddInIdeal.nD Cert.OddInIdeal.τ).loc Cert.OddInIdeal.main_arg8) = m ((c.tc : Thread Cert.OddInIdeal.nD Cert.OddInIdeal.τ).loc Cert.OddInIdeal.main_arg8)
          ∧ r.2.mem ((c.tc : Thread Cert.OddInIdeal.nD Cert.OddInIdeal.τ).loc Cert.OddInIdeal.main_arg9) = m ((c.tc : Thread Cert.OddInIdeal.nD Cert.OddInIdeal.τ).loc Cert.OddInIdeal.main_arg9))
      ∧ θ_run (Cert.OddInRefIdeal.defs (F := Ideal)) (onTc (τ := Cert.OddInRefIdeal.τ) (Cert.OddInRefIdeal.main (F := Ideal))) ⟨m', fun _ => 0, g'⟩ (fun r => ∀ c : Dev Cert.OddInRefIdeal.nD,
          r.2.mem ((c.tc : Thread Cert.OddInRefIdeal.nD Cert.OddInRefIdeal.τ).loc Cert.OddInRefIdeal.main_v55) = v0 c
          ∧ r.2.mem ((c.tc : Thread Cert.OddInRefIdeal.nD Cert.OddInRefIdeal.τ).loc Cert.OddInRefIdeal.main_v49) = v1 c
          ∧ r.2.mem ((c.tc : Thread Cert.OddInRefIdeal.nD Cert.OddInRefIdeal.τ).loc Cert.OddInRefIdeal.main_v56) = v2 c
          ∧ r.2.mem ((c.tc : Thread Cert.OddInRefIdeal.nD Cert.OddInRefIdeal.τ).loc Cert.OddInRefIdeal.main_arg0) = m' ((c.tc : Thread Cert.OddInRefIdeal.nD Cert.OddInRefIdeal.τ).loc Cert.OddInRefIdeal.main_arg0)
          ∧ r.2.mem ((c.tc : Thread Cert.OddInRefIdeal.nD Cert.OddInRefIdeal.τ).loc Cert.OddInRefIdeal.main_arg1) = m' ((c.tc : Thread Cert.OddInRefIdeal.nD Cert.OddInRefIdeal.τ).loc Cert.OddInRefIdeal.main_arg1)
          ∧ r.2.mem ((c.tc : Thread Cert.OddInRefIdeal.nD Cert.OddInRefIdeal.τ).loc Cert.OddInRefIdeal.main_arg2) = m' ((c.tc : Thread Cert.OddInRefIdeal.nD Cert.OddInRefIdeal.τ).loc Cert.OddInRefIdeal.main_arg2)
          ∧ r.2.mem ((c.tc : Thread Cert.OddInRefIdeal.nD Cert.OddInRefIdeal.τ).loc Cert.OddInRefIdeal.main_arg3) = m' ((c.tc : Thread Cert.OddInRefIdeal.nD Cert.OddInRefIdeal.τ).loc Cert.OddInRefIdeal.main_arg3)
          ∧ r.2.mem ((c.tc : Thread Cert.OddInRefIdeal.nD Cert.OddInRefIdeal.τ).loc Cert.OddInRefIdeal.main_arg4) = m' ((c.tc : Thread Cert.OddInRefIdeal.nD Cert.OddInRefIdeal.τ).loc Cert.OddInRefIdeal.main_arg4)
          ∧ r.2.mem ((c.tc : Thread Cert.OddInRefIdeal.nD Cert.OddInRefIdeal.τ).loc Cert.OddInRefIdeal.main_arg5) = m' ((c.tc : Thread Cert.OddInRefIdeal.nD Cert.OddInRefIdeal.τ).loc Cert.OddInRefIdeal.main_arg5)
          ∧ r.2.mem ((c.tc : Thread Cert.OddInRefIdeal.nD Cert.OddInRefIdeal.τ).loc Cert.OddInRefIdeal.main_arg6) = m' ((c.tc : Thread Cert.OddInRefIdeal.nD Cert.OddInRefIdeal.τ).loc Cert.OddInRefIdeal.main_arg6)
          ∧ r.2.mem ((c.tc : Thread Cert.OddInRefIdeal.nD Cert.OddInRefIdeal.τ).loc Cert.OddInRefIdeal.main_arg7) = m' ((c.tc : Thread Cert.OddInRefIdeal.nD Cert.OddInRefIdeal.τ).loc Cert.OddInRefIdeal.main_arg7)
          ∧ r.2.mem ((c.tc : Thread Cert.OddInRefIdeal.nD Cert.OddInRefIdeal.τ).loc Cert.OddInRefIdeal.main_arg8) = m' ((c.tc : Thread Cert.OddInRefIdeal.nD Cert.OddInRefIdeal.τ).loc Cert.OddInRefIdeal.main_arg8)
          ∧ r.2.mem ((c.tc : Thread Cert.OddInRefIdeal.nD Cert.OddInRefIdeal.τ).loc Cert.OddInRefIdeal.main_arg9) = m' ((c.tc : Thread Cert.OddInRefIdeal.nD Cert.OddInRefIdeal.τ).loc Cert.OddInRefIdeal.main_arg9))

def preserves_OddOut_OddOutIdeal : Prop :=
  True

def algebraic_OddOutIdeal_OddOutRefIdeal [hOddOutIdeal : Cert.OddOutIdeal.Facts] [hOddOutRefIdeal : Cert.OddOutRefIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutRefIdeal.nD Cert.OddOutRefIdeal.τ Cert.OddOutRefIdeal.sig) → Buf (Elt Ideal) ℓ) (g' : Dev Cert.OddOutRefIdeal.nD → PrngReg), Pre_OddOutIdeal m →
    (∀ c : Dev Cert.OddOutIdeal.nD,
      m' ((c.tc : Thread Cert.OddOutRefIdeal.nD Cert.OddOutRefIdeal.τ).loc Cert.OddOutRefIdeal.main_arg0) = m ((c.tc : Thread Cert.OddOutIdeal.nD Cert.OddOutIdeal.τ).loc Cert.OddOutIdeal.main_arg0)
      ∧ m' ((c.tc : Thread Cert.OddOutRefIdeal.nD Cert.OddOutRefIdeal.τ).loc Cert.OddOutRefIdeal.main_arg1) = m ((c.tc : Thread Cert.OddOutIdeal.nD Cert.OddOutIdeal.τ).loc Cert.OddOutIdeal.main_arg1)
      ∧ m' ((c.tc : Thread Cert.OddOutRefIdeal.nD Cert.OddOutRefIdeal.τ).loc Cert.OddOutRefIdeal.main_arg2) = m ((c.tc : Thread Cert.OddOutIdeal.nD Cert.OddOutIdeal.τ).loc Cert.OddOutIdeal.main_arg2)
      ∧ m' ((c.tc : Thread Cert.OddOutRefIdeal.nD Cert.OddOutRefIdeal.τ).loc Cert.OddOutRefIdeal.main_arg3) = m ((c.tc : Thread Cert.OddOutIdeal.nD Cert.OddOutIdeal.τ).loc Cert.OddOutIdeal.main_arg3)
      ∧ m' ((c.tc : Thread Cert.OddOutRefIdeal.nD Cert.OddOutRefIdeal.τ).loc Cert.OddOutRefIdeal.main_arg4) = m ((c.tc : Thread Cert.OddOutIdeal.nD Cert.OddOutIdeal.τ).loc Cert.OddOutIdeal.main_arg4)) →
    ∃ (v0 : (c : Dev Cert.OddOutIdeal.nD) → Buf (Elt Ideal) ((c.tc : Thread Cert.OddOutIdeal.nD Cert.OddOutIdeal.τ).loc Cert.OddOutIdeal.main_v3)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v3) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
          ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
          ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4))
      ∧ θ_run (Cert.OddOutRefIdeal.defs (F := Ideal)) (onTc (τ := Cert.OddOutRefIdeal.τ) (Cert.OddOutRefIdeal.main (F := Ideal))) ⟨m', fun _ => 0, g'⟩ (fun r => ∀ c : Dev Cert.OddOutRefIdeal.nD,
          r.2.mem ((c.tc : Thread Cert.OddOutRefIdeal.nD Cert.OddOutRefIdeal.τ).loc Cert.OddOutRefIdeal.main_v11) = v0 c
          ∧ r.2.mem ((c.tc : Thread Cert.OddOutRefIdeal.nD Cert.OddOutRefIdeal.τ).loc Cert.OddOutRefIdeal.main_arg0) = m' ((c.tc : Thread Cert.OddOutRefIdeal.nD Cert.OddOutRefIdeal.τ).loc Cert.OddOutRefIdeal.main_arg0)
          ∧ r.2.mem ((c.tc : Thread Cert.OddOutRefIdeal.nD Cert.OddOutRefIdeal.τ).loc Cert.OddOutRefIdeal.main_arg1) = m' ((c.tc : Thread Cert.OddOutRefIdeal.nD Cert.OddOutRefIdeal.τ).loc Cert.OddOutRefIdeal.main_arg1)
          ∧ r.2.mem ((c.tc : Thread Cert.OddOutRefIdeal.nD Cert.OddOutRefIdeal.τ).loc Cert.OddOutRefIdeal.main_arg2) = m' ((c.tc : Thread Cert.OddOutRefIdeal.nD Cert.OddOutRefIdeal.τ).loc Cert.OddOutRefIdeal.main_arg2)
          ∧ r.2.mem ((c.tc : Thread Cert.OddOutRefIdeal.nD Cert.OddOutRefIdeal.τ).loc Cert.OddOutRefIdeal.main_arg3) = m' ((c.tc : Thread Cert.OddOutRefIdeal.nD Cert.OddOutRefIdeal.τ).loc Cert.OddOutRefIdeal.main_arg3)
          ∧ r.2.mem ((c.tc : Thread Cert.OddOutRefIdeal.nD Cert.OddOutRefIdeal.τ).loc Cert.OddOutRefIdeal.main_arg4) = m' ((c.tc : Thread Cert.OddOutRefIdeal.nD Cert.OddOutRefIdeal.τ).loc Cert.OddOutRefIdeal.main_arg4))

def preserves_EvenOut_EvenOutIdeal : Prop :=
  True

def algebraic_EvenOutIdeal_EvenOutRefIdeal [hEvenOutIdeal : Cert.EvenOutIdeal.Facts] [hEvenOutRefIdeal : Cert.EvenOutRefIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutRefIdeal.nD Cert.EvenOutRefIdeal.τ Cert.EvenOutRefIdeal.sig) → Buf (Elt Ideal) ℓ) (g' : Dev Cert.EvenOutRefIdeal.nD → PrngReg), Pre_EvenOutIdeal m →
    (∀ c : Dev Cert.EvenOutIdeal.nD,
      m' ((c.tc : Thread Cert.EvenOutRefIdeal.nD Cert.EvenOutRefIdeal.τ).loc Cert.EvenOutRefIdeal.main_arg0) = m ((c.tc : Thread Cert.EvenOutIdeal.nD Cert.EvenOutIdeal.τ).loc Cert.EvenOutIdeal.main_arg0)
      ∧ m' ((c.tc : Thread Cert.EvenOutRefIdeal.nD Cert.EvenOutRefIdeal.τ).loc Cert.EvenOutRefIdeal.main_arg1) = m ((c.tc : Thread Cert.EvenOutIdeal.nD Cert.EvenOutIdeal.τ).loc Cert.EvenOutIdeal.main_arg1)
      ∧ m' ((c.tc : Thread Cert.EvenOutRefIdeal.nD Cert.EvenOutRefIdeal.τ).loc Cert.EvenOutRefIdeal.main_arg2) = m ((c.tc : Thread Cert.EvenOutIdeal.nD Cert.EvenOutIdeal.τ).loc Cert.EvenOutIdeal.main_arg2)
      ∧ m' ((c.tc : Thread Cert.EvenOutRefIdeal.nD Cert.EvenOutRefIdeal.τ).loc Cert.EvenOutRefIdeal.main_arg3) = m ((c.tc : Thread Cert.EvenOutIdeal.nD Cert.EvenOutIdeal.τ).loc Cert.EvenOutIdeal.main_arg3)
      ∧ m' ((c.tc : Thread Cert.EvenOutRefIdeal.nD Cert.EvenOutRefIdeal.τ).loc Cert.EvenOutRefIdeal.main_arg4) = m ((c.tc : Thread Cert.EvenOutIdeal.nD Cert.EvenOutIdeal.τ).loc Cert.EvenOutIdeal.main_arg4)
      ∧ m' ((c.tc : Thread Cert.EvenOutRefIdeal.nD Cert.EvenOutRefIdeal.τ).loc Cert.EvenOutRefIdeal.main_arg5) = m ((c.tc : Thread Cert.EvenOutIdeal.nD Cert.EvenOutIdeal.τ).loc Cert.EvenOutIdeal.main_arg5)
      ∧ m' ((c.tc : Thread Cert.EvenOutRefIdeal.nD Cert.EvenOutRefIdeal.τ).loc Cert.EvenOutRefIdeal.main_arg6) = m ((c.tc : Thread Cert.EvenOutIdeal.nD Cert.EvenOutIdeal.τ).loc Cert.EvenOutIdeal.main_arg6)) →
    ∃ (v0 : (c : Dev Cert.EvenOutIdeal.nD) → Buf (Elt Ideal) ((c.tc : Thread Cert.EvenOutIdeal.nD Cert.EvenOutIdeal.τ).loc Cert.EvenOutIdeal.main_v29)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v29) = v0 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
          ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
          ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5)
          ∧ r.2.mem ((c.tc : Thread Cert.EvenOutIdeal.nD Cert.EvenOutIdeal.τ).loc Cert.EvenOutIdeal.main_arg6) = m ((c.tc : Thread Cert.EvenOutIdeal.nD Cert.EvenOutIdeal.τ).loc Cert.EvenOutIdeal.main_arg6))
      ∧ θ_run (Cert.EvenOutRefIdeal.defs (F := Ideal)) (onTc (τ := Cert.EvenOutRefIdeal.τ) (Cert.EvenOutRefIdeal.main (F := Ideal))) ⟨m', fun _ => 0, g'⟩ (fun r => ∀ c : Dev Cert.EvenOutRefIdeal.nD,
          r.2.mem ((c.tc : Thread Cert.EvenOutRefIdeal.nD Cert.EvenOutRefIdeal.τ).loc Cert.EvenOutRefIdeal.main_v14) = v0 c
          ∧ r.2.mem ((c.tc : Thread Cert.EvenOutRefIdeal.nD Cert.EvenOutRefIdeal.τ).loc Cert.EvenOutRefIdeal.main_arg0) = m' ((c.tc : Thread Cert.EvenOutRefIdeal.nD Cert.EvenOutRefIdeal.τ).loc Cert.EvenOutRefIdeal.main_arg0)
          ∧ r.2.mem ((c.tc : Thread Cert.EvenOutRefIdeal.nD Cert.EvenOutRefIdeal.τ).loc Cert.EvenOutRefIdeal.main_arg1) = m' ((c.tc : Thread Cert.EvenOutRefIdeal.nD Cert.EvenOutRefIdeal.τ).loc Cert.EvenOutRefIdeal.main_arg1)
          ∧ r.2.mem ((c.tc : Thread Cert.EvenOutRefIdeal.nD Cert.EvenOutRefIdeal.τ).loc Cert.EvenOutRefIdeal.main_arg2) = m' ((c.tc : Thread Cert.EvenOutRefIdeal.nD Cert.EvenOutRefIdeal.τ).loc Cert.EvenOutRefIdeal.main_arg2)
          ∧ r.2.mem ((c.tc : Thread Cert.EvenOutRefIdeal.nD Cert.EvenOutRefIdeal.τ).loc Cert.EvenOutRefIdeal.main_arg3) = m' ((c.tc : Thread Cert.EvenOutRefIdeal.nD Cert.EvenOutRefIdeal.τ).loc Cert.EvenOutRefIdeal.main_arg3)
          ∧ r.2.mem ((c.tc : Thread Cert.EvenOutRefIdeal.nD Cert.EvenOutRefIdeal.τ).loc Cert.EvenOutRefIdeal.main_arg4) = m' ((c.tc : Thread Cert.EvenOutRefIdeal.nD Cert.EvenOutRefIdeal.τ).loc Cert.EvenOutRefIdeal.main_arg4)
          ∧ r.2.mem ((c.tc : Thread Cert.EvenOutRefIdeal.nD Cert.EvenOutRefIdeal.τ).loc Cert.EvenOutRefIdeal.main_arg5) = m' ((c.tc : Thread Cert.EvenOutRefIdeal.nD Cert.EvenOutRefIdeal.τ).loc Cert.EvenOutRefIdeal.main_arg5)
          ∧ r.2.mem ((c.tc : Thread Cert.EvenOutRefIdeal.nD Cert.EvenOutRefIdeal.τ).loc Cert.EvenOutRefIdeal.main_arg6) = m' ((c.tc : Thread Cert.EvenOutRefIdeal.nD Cert.EvenOutRefIdeal.τ).loc Cert.EvenOutRefIdeal.main_arg6))

def preserves_Gqa_GqaIdeal : Prop :=
  IdealRules.named_const.Statement Cert.GqaIdeal.κ "gqa_scale" .f32 0x3E38AA3B#32 (((Real.sqrt 64)⁻¹ * (Real.log 2)⁻¹ : ℝ) : EReal)

def algebraic_GqaIdeal_GqaRefIdeal_pre_gqa_finite [hGqaIdeal : Cert.GqaIdeal.Facts] [hGqaRefIdeal : Cert.GqaRefIdeal.Facts] [hPre_gqa_finite : Cert.Pre_gqa_finite.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_gqa_finite m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)
      ∧ m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)
      ∧ m' ((c.tc : Thread Cert.GqaRefIdeal.nD Cert.GqaRefIdeal.τ).loc Cert.GqaRefIdeal.main_arg3) = m ((c.tc : Thread Cert.GqaIdeal.nD Cert.GqaIdeal.τ).loc Cert.GqaIdeal.main_arg3)
      ∧ m' ((c.tc : Thread Cert.GqaRefIdeal.nD Cert.GqaRefIdeal.τ).loc Cert.GqaRefIdeal.main_arg4) = m ((c.tc : Thread Cert.GqaIdeal.nD Cert.GqaIdeal.τ).loc Cert.GqaIdeal.main_arg4)) →
    ∃ (v0 : (c : Dev Cert.GqaIdeal.nD) → Buf (Elt Ideal) ((c.tc : Thread Cert.GqaIdeal.nD Cert.GqaIdeal.τ).loc Cert.GqaIdeal.main_v12)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v12) = v0 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
          ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
          ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v29) = v0 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2)
          ∧ r.2.mem ((c.tc : Thread Cert.GqaRefIdeal.nD Cert.GqaRefIdeal.τ).loc Cert.GqaRefIdeal.main_arg3) = m' ((c.tc : Thread Cert.GqaRefIdeal.nD Cert.GqaRefIdeal.τ).loc Cert.GqaRefIdeal.main_arg3)
          ∧ r.2.mem ((c.tc : Thread Cert.GqaRefIdeal.nD Cert.GqaRefIdeal.τ).loc Cert.GqaRefIdeal.main_arg4) = m' ((c.tc : Thread Cert.GqaRefIdeal.nD Cert.GqaRefIdeal.τ).loc Cert.GqaRefIdeal.main_arg4))

def Claim : Prop :=
  ∃ (hExperts : Cert.Experts.Facts) (hExpertsIdeal : Cert.ExpertsIdeal.Facts) (hExpertsRefIdeal : Cert.ExpertsRefIdeal.Facts) (hMla : Cert.Mla.Facts) (hMlaIdeal : Cert.MlaIdeal.Facts) (hMlaRefIdeal : Cert.MlaRefIdeal.Facts) (hEvenIn : Cert.EvenIn.Facts) (hEvenInIdeal : Cert.EvenInIdeal.Facts) (hEvenInRefIdeal : Cert.EvenInRefIdeal.Facts) (hOddIn : Cert.OddIn.Facts) (hOddInIdeal : Cert.OddInIdeal.Facts) (hOddInRefIdeal : Cert.OddInRefIdeal.Facts) (hOddOut : Cert.OddOut.Facts) (hOddOutIdeal : Cert.OddOutIdeal.Facts) (hOddOutRefIdeal : Cert.OddOutRefIdeal.Facts) (hEvenOut : Cert.EvenOut.Facts) (hEvenOutIdeal : Cert.EvenOutIdeal.Facts) (hEvenOutRefIdeal : Cert.EvenOutRefIdeal.Facts) (hGqa : Cert.Gqa.Facts) (hGqaIdeal : Cert.GqaIdeal.Facts) (hGqaRefIdeal : Cert.GqaRefIdeal.Facts) (hPre_mla_finite : Cert.Pre_mla_finite.Facts) (hPre_gqa_finite : Cert.Pre_gqa_finite.Facts),
    quiescent_Experts (hExperts := hExperts)
    ∧ quiescent_ExpertsIdeal (hExpertsIdeal := hExpertsIdeal)
    ∧ quiescent_ExpertsRefIdeal (hExpertsRefIdeal := hExpertsRefIdeal)
    ∧ quiescent_Mla (hMla := hMla)
    ∧ quiescent_MlaIdeal (hMlaIdeal := hMlaIdeal)
    ∧ quiescent_MlaIdeal_pre_mla_finite (hMlaIdeal := hMlaIdeal) (hPre_mla_finite := hPre_mla_finite)
    ∧ quiescent_MlaRefIdeal (hMlaRefIdeal := hMlaRefIdeal)
    ∧ quiescent_MlaRefIdeal_pre_mla_finite (hMlaRefIdeal := hMlaRefIdeal) (hPre_mla_finite := hPre_mla_finite)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_OddIn (hOddIn := hOddIn)
    ∧ quiescent_OddInIdeal (hOddInIdeal := hOddInIdeal)
    ∧ quiescent_OddInRefIdeal (hOddInRefIdeal := hOddInRefIdeal)
    ∧ quiescent_OddOut (hOddOut := hOddOut)
    ∧ quiescent_OddOutIdeal (hOddOutIdeal := hOddOutIdeal)
    ∧ quiescent_OddOutRefIdeal (hOddOutRefIdeal := hOddOutRefIdeal)
    ∧ quiescent_EvenOut (hEvenOut := hEvenOut)
    ∧ quiescent_EvenOutIdeal (hEvenOutIdeal := hEvenOutIdeal)
    ∧ quiescent_EvenOutRefIdeal (hEvenOutRefIdeal := hEvenOutRefIdeal)
    ∧ quiescent_Gqa (hGqa := hGqa)
    ∧ quiescent_GqaIdeal (hGqaIdeal := hGqaIdeal)
    ∧ quiescent_GqaIdeal_pre_gqa_finite (hGqaIdeal := hGqaIdeal) (hPre_gqa_finite := hPre_gqa_finite)
    ∧ quiescent_GqaRefIdeal (hGqaRefIdeal := hGqaRefIdeal)
    ∧ quiescent_GqaRefIdeal_pre_gqa_finite (hGqaRefIdeal := hGqaRefIdeal) (hPre_gqa_finite := hPre_gqa_finite)
    ∧ preserves_Experts_ExpertsIdeal
    ∧ algebraic_ExpertsIdeal_ExpertsRefIdeal (hExpertsIdeal := hExpertsIdeal) (hExpertsRefIdeal := hExpertsRefIdeal)
    ∧ preserves_Mla_MlaIdeal
    ∧ algebraic_MlaIdeal_MlaRefIdeal_pre_mla_finite (hMlaIdeal := hMlaIdeal) (hMlaRefIdeal := hMlaRefIdeal) (hPre_mla_finite := hPre_mla_finite)
    ∧ preserves_EvenIn_EvenInIdeal
    ∧ algebraic_EvenInIdeal_EvenInRefIdeal (hEvenInIdeal := hEvenInIdeal) (hEvenInRefIdeal := hEvenInRefIdeal)
    ∧ preserves_OddIn_OddInIdeal
    ∧ algebraic_OddInIdeal_OddInRefIdeal (hOddInIdeal := hOddInIdeal) (hOddInRefIdeal := hOddInRefIdeal)
    ∧ preserves_OddOut_OddOutIdeal
    ∧ algebraic_OddOutIdeal_OddOutRefIdeal (hOddOutIdeal := hOddOutIdeal) (hOddOutRefIdeal := hOddOutRefIdeal)
    ∧ preserves_EvenOut_EvenOutIdeal
    ∧ algebraic_EvenOutIdeal_EvenOutRefIdeal (hEvenOutIdeal := hEvenOutIdeal) (hEvenOutRefIdeal := hEvenOutRefIdeal)
    ∧ preserves_Gqa_GqaIdeal
    ∧ algebraic_GqaIdeal_GqaRefIdeal_pre_gqa_finite (hGqaIdeal := hGqaIdeal) (hGqaRefIdeal := hGqaRefIdeal) (hPre_gqa_finite := hPre_gqa_finite)
-- ==== Pre_gqa_finite.lean ====
abbrev S8x2048x8x64 : Shape := ⟨4, ![8, 2048, 8, 64]⟩
abbrev S8x2048x2x64 : Shape := ⟨4, ![8, 2048, 2, 64]⟩
abbrev S8x512x2x64 : Shape := ⟨4, ![8, 512, 2, 64]⟩
abbrev S_ : Shape := ⟨0, ![]⟩

class Facts : Prop where
  bcast_S_S8x2048x8x64 : S_.BroadcastsInDim S8x2048x8x64 (![] : Fin 0 → Fin S8x2048x8x64.rank)
  reducesTo_S8x2048x8x64_S_d0_1_2_3 : S8x2048x8x64.ReducesTo [0, 1, 2, 3] S_
  h_S_ : 0 < S_.numel
  bcast_S_S8x2048x2x64 : S_.BroadcastsInDim S8x2048x2x64 (![] : Fin 0 → Fin S8x2048x2x64.rank)
  reducesTo_S8x2048x2x64_S_d0_1_2_3 : S8x2048x2x64.ReducesTo [0, 1, 2, 3] S_
  bcast_S_S8x512x2x64 : S_.BroadcastsInDim S8x512x2x64 (![] : Fin 0 → Fin S8x512x2x64.rank)
  reducesTo_S8x512x2x64_S_d0_1_2_3 : S8x512x2x64.ReducesTo [0, 1, 2, 3] S_

variable [Facts]

def fn {F : FTy → Type} [FloatOps F] (main_arg0 : FVec F S8x2048x8x64 .f32) (main_arg1 : FVec F S8x2048x2x64 .f32) (main_arg2 : FVec F S8x2048x2x64 .f32) (main_arg3 : FVec F S8x512x2x64 .f32) (main_arg4 : FVec F S8x512x2x64 .f32) : IVec S_ 1 :=
  let main_v0 : FVec F S8x2048x8x64 .f32 := Host.absf main_arg0
  let main_cst : FVec F S_ .f32 := constant S_ .f32 0x7F800000#32
  let main_v1 : FVec F S8x2048x8x64 .f32 := broadcastInDim S8x2048x8x64 ![] bcast_S_S8x2048x8x64 main_cst
  let main_v2 : IVec S8x2048x8x64 1 := cmpf .olt main_v0 main_v1
  let main_c : IVec S_ 1 := constantI S_ 1 1#1
  let main_v3 : IVec S_ 1 := (fun x v => Host.reduce IntOp.andi x v reducesTo_S8x2048x8x64_S_d0_1_2_3 h_S_) main_v2 main_c
  let main_v4 : FVec F S8x2048x2x64 .f32 := Host.absf main_arg1
  let main_cst_0 : FVec F S_ .f32 := constant S_ .f32 0x7F800000#32
  let main_v5 : FVec F S8x2048x2x64 .f32 := broadcastInDim S8x2048x2x64 ![] bcast_S_S8x2048x2x64 main_cst_0
  let main_v6 : IVec S8x2048x2x64 1 := cmpf .olt main_v4 main_v5
  let main_c_1 : IVec S_ 1 := constantI S_ 1 1#1
  let main_v7 : IVec S_ 1 := (fun x v => Host.reduce IntOp.andi x v reducesTo_S8x2048x2x64_S_d0_1_2_3 h_S_) main_v6 main_c_1
  let main_v8 : IVec S_ 1 := andi main_v3 main_v7
  let main_v9 : FVec F S8x512x2x64 .f32 := Host.absf main_arg3
  let main_cst_2 : FVec F S_ .f32 := constant S_ .f32 0x7F800000#32
  let main_v10 : FVec F S8x512x2x64 .f32 := broadcastInDim S8x512x2x64 ![] bcast_S_S8x512x2x64 main_cst_2
  let main_v11 : IVec S8x512x2x64 1 := cmpf .olt main_v9 main_v10
  let main_c_3 : IVec S_ 1 := constantI S_ 1 1#1
  let main_v12 : IVec S_ 1 := (fun x v => Host.reduce IntOp.andi x v reducesTo_S8x512x2x64_S_d0_1_2_3 h_S_) main_v11 main_c_3
  let main_v13 : IVec S_ 1 := andi main_v8 main_v12
  main_v13
-- ==== Pre_mla_finite.lean ====
abbrev S8x2048x16x96 : Shape := ⟨4, ![8, 2048, 16, 96]⟩
abbrev S8x2048x16x64 : Shape := ⟨4, ![8, 2048, 16, 64]⟩
abbrev S8x512x16x96 : Shape := ⟨4, ![8, 512, 16, 96]⟩
abbrev S8x512x16x64 : Shape := ⟨4, ![8, 512, 16, 64]⟩
abbrev S_ : Shape := ⟨0, ![]⟩

class Facts : Prop where
  bcast_S_S8x2048x16x96 : S_.BroadcastsInDim S8x2048x16x96 (![] : Fin 0 → Fin S8x2048x16x96.rank)
  reducesTo_S8x2048x16x96_S_d0_1_2_3 : S8x2048x16x96.ReducesTo [0, 1, 2, 3] S_
  h_S_ : 0 < S_.numel
  bcast_S_S8x512x16x96 : S_.BroadcastsInDim S8x512x16x96 (![] : Fin 0 → Fin S8x512x16x96.rank)
  reducesTo_S8x512x16x96_S_d0_1_2_3 : S8x512x16x96.ReducesTo [0, 1, 2, 3] S_

variable [Facts]

def fn {F : FTy → Type} [FloatOps F] (main_arg0 : FVec F S8x2048x16x96 .f32) (main_arg1 : FVec F S8x2048x16x96 .f32) (main_arg2 : FVec F S8x2048x16x64 .f32) (main_arg3 : FVec F S8x512x16x96 .f32) (main_arg4 : FVec F S8x512x16x64 .f32) : IVec S_ 1 :=
  let main_v0 : FVec F S8x2048x16x96 .f32 := Host.absf main_arg0
  let main_cst : FVec F S_ .f32 := constant S_ .f32 0x7F800000#32
  let main_v1 : FVec F S8x2048x16x96 .f32 := broadcastInDim S8x2048x16x96 ![] bcast_S_S8x2048x16x96 main_cst
  let main_v2 : IVec S8x2048x16x96 1 := cmpf .olt main_v0 main_v1
  let main_c : IVec S_ 1 := constantI S_ 1 1#1
  let main_v3 : IVec S_ 1 := (fun x v => Host.reduce IntOp.andi x v reducesTo_S8x2048x16x96_S_d0_1_2_3 h_S_) main_v2 main_c
  let main_v4 : FVec F S8x2048x16x96 .f32 := Host.absf main_arg1
  let main_cst_0 : FVec F S_ .f32 := constant S_ .f32 0x7F800000#32
  let main_v5 : FVec F S8x2048x16x96 .f32 := broadcastInDim S8x2048x16x96 ![] bcast_S_S8x2048x16x96 main_cst_0
  let main_v6 : IVec S8x2048x16x96 1 := cmpf .olt main_v4 main_v5
  let main_c_1 : IVec S_ 1 := constantI S_ 1 1#1
  let main_v7 : IVec S_ 1 := (fun x v => Host.reduce IntOp.andi x v reducesTo_S8x2048x16x96_S_d0_1_2_3 h_S_) main_v6 main_c_1
  let main_v8 : IVec S_ 1 := andi main_v3 main_v7
  let main_v9 : FVec F S8x512x16x96 .f32 := Host.absf main_arg3
  let main_cst_2 : FVec F S_ .f32 := constant S_ .f32 0x7F800000#32
  let main_v10 : FVec F S8x512x16x96 .f32 := broadcastInDim S8x512x16x96 ![] bcast_S_S8x512x16x96 main_cst_2
  let main_v11 : IVec S8x512x16x96 1 := cmpf .olt main_v9 main_v10
  let main_c_3 : IVec S_ 1 := constantI S_ 1 1#1
  let main_v12 : IVec S_ 1 := (fun x v => Host.reduce IntOp.andi x v reducesTo_S8x512x16x96_S_d0_1_2_3 h_S_) main_v11 main_c_3
  let main_v13 : IVec S_ 1 := andi main_v8 main_v12
  main_v13
-- ==== Experts.lean ====
abbrev S20480x1024 : Shape := ⟨2, ![20480, 1024]⟩
abbrev S20480x16 : Shape := ⟨2, ![20480, 16]⟩
abbrev S16x1024x256 : Shape := ⟨3, ![16, 1024, 256]⟩
abbrev S16x256x1024 : Shape := ⟨3, ![16, 256, 1024]⟩
abbrev S16x6x1024 : Shape := ⟨3, ![16, 6, 1024]⟩
abbrev S1024x1024 : Shape := ⟨2, ![1024, 1024]⟩
abbrev S1024x16 : Shape := ⟨2, ![1024, 16]⟩
abbrev S1x1024x256 : Shape := ⟨3, ![1, 1024, 256]⟩
abbrev S1x256x1024 : Shape := ⟨3, ![1, 256, 1024]⟩
abbrev S1x6x1024 : Shape := ⟨3, ![1, 6, 1024]⟩
abbrev S1024x256 : Shape := ⟨2, ![1024, 256]⟩
abbrev S1024 : Shape := ⟨1, ![1024]⟩
abbrev S1024x1 : Shape := ⟨2, ![1024, 1]⟩
abbrev S256x1024 : Shape := ⟨2, ![256, 1024]⟩
abbrev S1x1x1024 : Shape := ⟨3, ![1, 1, 1024]⟩
abbrev S1x1024 : Shape := ⟨2, ![1, 1024]⟩

abbrev nBuf : Space → Nat
  | .hbm => 9
  | .vmem => 17
  | .smem => 0
  | _ => 0

abbrev bufTy : (tb : Table) → Fin (tcTables nBuf tb) → BufTy
  | .hbm, ⟨0, _⟩ => ⟨S20480x1024, .f32⟩
  | .hbm, ⟨1, _⟩ => ⟨S20480x16, .f32⟩
  | .hbm, ⟨2, _⟩ => ⟨S16x1024x256, .f32⟩
  | .hbm, ⟨3, _⟩ => ⟨S16x1024x256, .f32⟩
  | .hbm, ⟨4, _⟩ => ⟨S16x256x1024, .f32⟩
  | .hbm, ⟨5, _⟩ => ⟨S20480x1024, .f32⟩
  | .hbm, ⟨6, _⟩ => ⟨S16x6x1024, .f32⟩
  | .hbm, ⟨7, _⟩ => ⟨S20480x1024, .bf16⟩
  | .hbm, ⟨8, _⟩ => ⟨S20480x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x16, .f32⟩
  | .local _ .vmem, ⟨3, _⟩ => ⟨S1024x16, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x256x1024, .f32⟩
  | .local _ .vmem, ⟨9, _⟩ => ⟨S1x256x1024, .f32⟩
  | .local _ .vmem, ⟨10, _⟩ => ⟨S1024x1024, .f32⟩
  | .local _ .vmem, ⟨11, _⟩ => ⟨S1024x1024, .f32⟩
  | .local _ .vmem, ⟨12, _⟩ => ⟨S1x6x1024, .f32⟩
  | .local _ .vmem, ⟨13, _⟩ => ⟨S1x6x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S20480x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![20, 16], ![false, false]⟩

def k0_cond2 (i : grid0.Coords) : BitVec 1 :=
  let arg1 : BitVec 32 := BitVec.ofNat 32 (i 1).val
  let c15_i32 : BitVec 32 := 15#32
  let v36 : BitVec 1 := Scalar.cmpi .eq arg1 c15_i32
  let v37 : BitVec 32 := Scalar.extui v36
  let c0_i32_21 : BitVec 32 := 0#32
  let v38 : BitVec 1 := Scalar.cmpi .ne v37 c0_i32_21
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c4_i32_0 : BitVec 32 := 4#32
  let v1 : BitVec 32 := Scalar.subi arg0 c4_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ExpertsRefIdeal.lean ====
abbrev S20480x1024 : Shape := ⟨2, ![20480, 1024]⟩
abbrev S20480x16 : Shape := ⟨2, ![20480, 16]⟩
abbrev S16x1024x256 : Shape := ⟨3, ![16, 1024, 256]⟩
abbrev S16x256x1024 : Shape := ⟨3, ![16, 256, 1024]⟩
abbrev S16x6x1024 : Shape := ⟨3, ![16, 6, 1024]⟩
abbrev S20480x16x256 : Shape := ⟨3, ![20480, 16, 256]⟩
abbrev S_ : Shape := ⟨0, ![]⟩
abbrev S20480x16x1 : Shape := ⟨3, ![20480, 16, 1]⟩
abbrev S16x1x1024 : Shape := ⟨3, ![16, 1, 1024]⟩
abbrev S16x1024 : Shape := ⟨2, ![16, 1024]⟩
abbrev S1x1024 : Shape := ⟨2, ![1, 1024]⟩
abbrev S4096x1024 : Shape := ⟨2, ![4096, 1024]⟩
abbrev S8x1024 : Shape := ⟨2, ![8, 1024]⟩
abbrev S8x2048x1024 : Shape := ⟨3, ![8, 2048, 1024]⟩
abbrev S16384x1024 : Shape := ⟨2, ![16384, 1024]⟩

abbrev nBuf : Space → Nat
  | .hbm => 33
  | .vmem => 0
  | .smem => 0
  | _ => 0

abbrev bufTy : (tb : Table) → Fin (tcTables nBuf tb) → BufTy
  | .hbm, ⟨0, _⟩ => ⟨S20480x1024, .f32⟩
  | .hbm, ⟨1, _⟩ => ⟨S20480x16, .f32⟩
  | .hbm, ⟨2, _⟩ => ⟨S16x1024x256, .f32⟩
  | .hbm, ⟨3, _⟩ => ⟨S16x1024x256, .f32⟩
  | .hbm, ⟨4, _⟩ => ⟨S16x256x1024, .f32⟩
  | .hbm, ⟨5, _⟩ => ⟨S20480x1024, .f32⟩
  | .hbm, ⟨6, _⟩ => ⟨S16x6x1024, .f32⟩
  | .hbm, ⟨7, _⟩ => ⟨S20480x16x256, .f32⟩
  | .hbm, ⟨8, _⟩ => ⟨S20480x16x256, .f32⟩
  | .hbm, ⟨9, _⟩ => ⟨S20480x16x256, .f32⟩
  | .hbm, ⟨10, _⟩ => ⟨S20480x16x256, .f32⟩
  | .hbm, ⟨11, _⟩ => ⟨S_, .f32⟩
  | .hbm, ⟨12, _⟩ => ⟨S20480x16x256, .f32⟩
  | .hbm, ⟨13, _⟩ => ⟨S20480x16x256, .f32⟩
  | .hbm, ⟨14, _⟩ => ⟨S_, .f32⟩
  | .hbm, ⟨15, _⟩ => ⟨S20480x16x256, .f32⟩
  | .hbm, ⟨16, _⟩ => ⟨S20480x16x256, .f32⟩
  | .hbm, ⟨17, _⟩ => ⟨S20480x16x256, .f32⟩
  | .hbm, ⟨18, _⟩ => ⟨S20480x16x256, .f32⟩
  | .hbm, ⟨19, _⟩ => ⟨S20480x16x1, .f32⟩
  | .hbm, ⟨20, _⟩ => ⟨S20480x16x256, .f32⟩
  | .hbm, ⟨21, _⟩ => ⟨S20480x16x256, .f32⟩
  | .hbm, ⟨22, _⟩ => ⟨S20480x1024, .f32⟩
  | .hbm, ⟨23, _⟩ => ⟨S16x1x1024, .f32⟩
  | .hbm, ⟨24, _⟩ => ⟨S16x1024, .f32⟩
  | .hbm, ⟨25, _⟩ => ⟨S1x1024, .f32⟩
  | .hbm, ⟨26, _⟩ => ⟨S4096x1024, .f32⟩
  | .hbm, ⟨27, _⟩ => ⟨S8x1024, .f32⟩
  | .hbm, ⟨28, _⟩ => ⟨S8x2048x1024, .f32⟩
  | .hbm, ⟨29, _⟩ => ⟨S16384x1024, .f32⟩
  | .hbm, ⟨30, _⟩ => ⟨S20480x1024, .f32⟩
  | .hbm, ⟨31, _⟩ => ⟨S20480x1024, .f32⟩
  | .hbm, ⟨32, _⟩ => ⟨S20480x1024, .f32⟩
  | _, _ => ⟨S20480x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩

abbrev nD : Nat := 1
abbrev τ : Topo := Topo.v7x

variable {F : FTy → Type} [FloatOps F]
-- ==== Mla.lean ====
abbrev S8x2048x16x96 : Shape := ⟨4, ![8, 2048, 16, 96]⟩
abbrev S8x2048x16x64 : Shape := ⟨4, ![8, 2048, 16, 64]⟩
abbrev S8x512x16x96 : Shape := ⟨4, ![8, 512, 16, 96]⟩
abbrev S8x512x16x64 : Shape := ⟨4, ![8, 512, 16, 64]⟩
abbrev S_ : Shape := ⟨0, ![]⟩
abbrev S8x512x16x128 : Shape := ⟨4, ![8, 512, 16, 128]⟩
abbrev S4096x2048 : Shape := ⟨2, ![4096, 2048]⟩
abbrev S4096x1024 : Shape := ⟨2, ![4096, 1024]⟩
abbrev S8x2048x16x128 : Shape := ⟨4, ![8, 2048, 16, 128]⟩
abbrev S16384x2048 : Shape := ⟨2, ![16384, 2048]⟩
abbrev S16384x1024 : Shape := ⟨2, ![16384, 1024]⟩
abbrev S1024x256 : Shape := ⟨2, ![1024, 256]⟩
abbrev S512x256 : Shape := ⟨2, ![512, 256]⟩
abbrev S512x128 : Shape := ⟨2, ![512, 128]⟩
abbrev S2048x256 : Shape := ⟨2, ![2048, 256]⟩
abbrev S2048x128 : Shape := ⟨2, ![2048, 128]⟩
abbrev S1024x128 : Shape := ⟨2, ![1024, 128]⟩
abbrev S1x128 : Shape := ⟨2, ![1, 128]⟩
abbrev S1024x512 : Shape := ⟨2, ![1024, 512]⟩
abbrev S1024 : Shape := ⟨1, ![1024]⟩
abbrev S1024x1 : Shape := ⟨2, ![1024, 1]⟩
abbrev S1024x2048 : Shape := ⟨2, ![1024, 2048]⟩

abbrev nBuf : Space → Nat
  | .hbm => 24
  | .vmem => 12
  | .smem => 0
  | _ => 0

abbrev bufTy : (tb : Table) → Fin (tcTables nBuf tb) → BufTy
  | .hbm, ⟨0, _⟩ => ⟨S8x2048x16x96, .f32⟩
  | .hbm, ⟨1, _⟩ => ⟨S8x2048x16x96, .f32⟩
  | .hbm, ⟨2, _⟩ => ⟨S8x2048x16x64, .f32⟩
  | .hbm, ⟨3, _⟩ => ⟨S8x512x16x96, .f32⟩
  | .hbm, ⟨4, _⟩ => ⟨S8x512x16x64, .f32⟩
  | .hbm, ⟨5, _⟩ => ⟨S_, .i32⟩
  | .hbm, ⟨6, _⟩ => ⟨S_, .f32⟩
  | .hbm, ⟨7, _⟩ => ⟨S8x512x16x128, .f32⟩
  | .hbm, ⟨8, _⟩ => ⟨S4096x2048, .f32⟩
  | .hbm, ⟨9, _⟩ => ⟨S4096x2048, .bf16⟩
  | .hbm, ⟨10, _⟩ => ⟨S4096x1024, .f32⟩
  | .hbm, ⟨11, _⟩ => ⟨S4096x1024, .bf16⟩
  | .hbm, ⟨12, _⟩ => ⟨S_, .i32⟩
  | .hbm, ⟨13, _⟩ => ⟨S_, .f32⟩
  | .hbm, ⟨14, _⟩ => ⟨S8x2048x16x128, .f32⟩
  | .hbm, ⟨15, _⟩ => ⟨S16384x2048, .f32⟩
  | .hbm, ⟨16, _⟩ => ⟨S_, .i32⟩
  | .hbm, ⟨17, _⟩ => ⟨S_, .f32⟩
  | .hbm, ⟨18, _⟩ => ⟨S8x2048x16x128, .f32⟩
  | .hbm, ⟨19, _⟩ => ⟨S16384x2048, .f32⟩
  | .hbm, ⟨20, _⟩ => ⟨S16384x2048, .bf16⟩
  | .hbm, ⟨21, _⟩ => ⟨S16384x1024, .f32⟩
  | .hbm, ⟨22, _⟩ => ⟨S16384x1024, .bf16⟩
  | .hbm, ⟨23, _⟩ => ⟨S16384x1024, .bf16⟩
  | .local _ .vmem, ⟨0, _⟩ => ⟨S1024x256, .f32⟩
  | .local _ .vmem, ⟨1, _⟩ => ⟨S1024x256, .f32⟩
  | .local _ .vmem, ⟨2, _⟩ => ⟨S512x256, .bf16⟩
  | .local _ .vmem, ⟨3, _⟩ => ⟨S512x256, .bf16⟩
  | .local _ .vmem, ⟨4, _⟩ => ⟨S512x128, .bf16⟩
  | .local _ .vmem, ⟨5, _⟩ => ⟨S512x128, .bf16⟩
  | .local _ .vmem, ⟨6, _⟩ => ⟨S2048x256, .bf16⟩
  | .local _ .vmem, ⟨7, _⟩ => ⟨S2048x256, .bf16⟩
  | .local _ .vmem, ⟨8, _⟩ => ⟨S2048x128, .bf16⟩
  | .local _ .vmem, ⟨9, _⟩ => ⟨S2048x128, .bf16⟩
  | .local _ .vmem, ⟨10, _⟩ => ⟨S1024x128, .bf16⟩
  | .local _ .vmem, ⟨11, _⟩ => ⟨S1024x128, .bf16⟩
  | _, _ => ⟨S8x2048x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_call2_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 8, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== MlaIdeal.lean ====
variable {F : FTy → Type} [FloatOps F] [Named F]
def κ : String → Option EReal := fun
  | "mla_scale" => some (((Real.sqrt 96)⁻¹ * (Real.log 2)⁻¹ : ℝ) : EReal)
  | _ => none
-- ==== MlaRefIdeal.lean ====
abbrev S8x2048x16x96 : Shape := ⟨4, ![8, 2048, 16, 96]⟩
abbrev S8x2048x16x64 : Shape := ⟨4, ![8, 2048, 16, 64]⟩
abbrev S8x512x16x96 : Shape := ⟨4, ![8, 512, 16, 96]⟩
abbrev S8x512x16x64 : Shape := ⟨4, ![8, 512, 16, 64]⟩
abbrev S8x2560x16x96 : Shape := ⟨4, ![8, 2560, 16, 96]⟩
abbrev S8x2560x16x64 : Shape := ⟨4, ![8, 2560, 16, 64]⟩
abbrev S8x16x2048x2560 : Shape := ⟨4, ![8, 16, 2048, 2560]⟩
abbrev S_ : Shape := ⟨0, ![]⟩
abbrev S8x16x2048 : Shape := ⟨3, ![8, 16, 2048]⟩
abbrev S8x16x2048x1 : Shape := ⟨4, ![8, 16, 2048, 1]⟩
abbrev S8x16x64x2048 : Shape := ⟨4, ![8, 16, 64, 2048]⟩
abbrev S16384x1024 : Shape := ⟨2, ![16384, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8x2048x16x96, .f32⟩
  | .hbm, ⟨1, _⟩ => ⟨S8x2048x16x96, .f32⟩
  | .hbm, ⟨2, _⟩ => ⟨S8x2048x16x64, .f32⟩
  | .hbm, ⟨3, _⟩ => ⟨S8x512x16x96, .f32⟩
  | .hbm, ⟨4, _⟩ => ⟨S8x512x16x64, .f32⟩
  | .hbm, ⟨5, _⟩ => ⟨S8x2560x16x96, .f32⟩
  | .hbm, ⟨6, _⟩ => ⟨S8x2560x16x64, .f32⟩
  | .hbm, ⟨7, _⟩ => ⟨S8x16x2048x2560, .f32⟩
  | .hbm, ⟨8, _⟩ => ⟨S_, .f32⟩
  | .hbm, ⟨9, _⟩ => ⟨S_, .f32⟩
  | .hbm, ⟨10, _⟩ => ⟨S8x16x2048x2560, .f32⟩
  | .hbm, ⟨11, _⟩ => ⟨S8x16x2048x2560, .f32⟩
  | .hbm, ⟨12, _⟩ => ⟨S_, .f32⟩
  | .hbm, ⟨13, _⟩ => ⟨S8x16x2048, .f32⟩
  | .hbm, ⟨14, _⟩ => ⟨S_, .f32⟩
  | .hbm, ⟨15, _⟩ => ⟨S8x16x2048, .f32⟩
  | .hbm, ⟨16, _⟩ => ⟨S8x16x2048, .f32⟩
  | .hbm, ⟨17, _⟩ => ⟨S8x16x2048x1, .f32⟩
  | .hbm, ⟨18, _⟩ => ⟨S8x16x2048x2560, .f32⟩
  | .hbm, ⟨19, _⟩ => ⟨S8x16x2048x2560, .f32⟩
  | .hbm, ⟨20, _⟩ => ⟨S8x16x2048x2560, .f32⟩
  | .hbm, ⟨21, _⟩ => ⟨S_, .f32⟩
  | .hbm, ⟨22, _⟩ => ⟨S8x16x2048, .f32⟩
  | .hbm, ⟨23, _⟩ => ⟨S8x16x2048x1, .f32⟩
  | .hbm, ⟨24, _⟩ => ⟨S8x16x2048x2560, .f32⟩
  | .hbm, ⟨25, _⟩ => ⟨S8x16x2048x2560, .f32⟩
  | .hbm, ⟨26, _⟩ => ⟨S8x16x64x2048, .f32⟩
  | .hbm, ⟨27, _⟩ => ⟨S8x2048x16x64, .f32⟩
  | .hbm, ⟨28, _⟩ => ⟨S16384x1024, .f32⟩
  | .hbm, ⟨29, _⟩ => ⟨S16384x1024, .bf16⟩
  | _, _ => ⟨S8x2048x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== EvenIn.lean ====
abbrev S20480x1024 : Shape := ⟨2, ![20480, 1024]⟩
abbrev S1024 : Shape := ⟨1, ![1024]⟩
abbrev S16x6x1024 : Shape := ⟨3, ![16, 6, 1024]⟩
abbrev S1024x2304 : Shape := ⟨2, ![1024, 2304]⟩
abbrev S64 : Shape := ⟨1, ![64]⟩
abbrev S2048 : Shape := ⟨1, ![2048]⟩
abbrev S_ : Shape := ⟨0, ![]⟩
abbrev S128 : Shape := ⟨1, ![128]⟩
abbrev S2048x1 : Shape := ⟨2, ![2048, 1]⟩
abbrev S2048x128 : Shape := ⟨2, ![2048, 128]⟩
abbrev S1x128 : Shape := ⟨2, ![1, 128]⟩
abbrev S512x128 : Shape := ⟨2, ![512, 128]⟩
abbrev S2560x128 : Shape := ⟨2, ![2560, 128]⟩
abbrev S1x16 : Shape := ⟨2, ![1, 16]⟩
abbrev S1x112 : Shape := ⟨2, ![1, 112]⟩
abbrev S1024x1536 : Shape := ⟨2, ![1024, 1536]⟩
abbrev S1024x512 : Shape := ⟨2, ![1024, 512]⟩
abbrev S1024x128 : Shape := ⟨2, ![1024, 128]⟩
abbrev S8 : Shape := ⟨1, ![8]⟩
abbrev S8x1 : Shape := ⟨2, ![8, 1]⟩
abbrev S1x2 : Shape := ⟨2, ![1, 2]⟩
abbrev S8x2 : Shape := ⟨2, ![8, 2]⟩
abbrev S1024x8x1x64 : Shape := ⟨4, ![1024, 8, 1, 64]⟩
abbrev S1x8x2x1 : Shape := ⟨4, ![1, 8, 2, 1]⟩
abbrev S1024x8x2x64 : Shape := ⟨4, ![1024, 8, 2, 64]⟩
abbrev S1024x1024 : Shape := ⟨2, ![1024, 1024]⟩
abbrev S1024x2816 : Shape := ⟨2, ![1024, 2816]⟩
abbrev S1x1024 : Shape := ⟨2, ![1, 1024]⟩
abbrev S20480x1536 : Shape := ⟨2, ![20480, 1536]⟩
abbrev S20480x128 : Shape := ⟨2, ![20480, 128]⟩
abbrev S512x1024 : Shape := ⟨2, ![512, 1024]⟩
abbrev S1x6x1024 : Shape := ⟨3, ![1, 6, 1024]⟩
abbrev S512x1536 : Shape := ⟨2, ![512, 1536]⟩
abbrev S512 : Shape := ⟨1, ![512]⟩
abbrev S512x1 : Shape := ⟨2, ![512, 1]⟩
abbrev S1x1x1024 : Shape := ⟨3, ![1, 1, 1024]⟩
abbrev S512x2816 : Shape := ⟨2, ![512, 2816]⟩

abbrev nBuf : Space → Nat
  | .hbm => 279
  | .vmem => 31
  | .smem => 0
  | _ => 0

abbrev hbmTy0_0 (i : Nat) : BufTy := match i % 128 with
  | 0 => ⟨S20480x1024, .f32⟩
  | 1 => ⟨S1024, .f32⟩
  | 2 => ⟨S16x6x1024, .f32⟩
  | 3 => ⟨S1024x2304, .f32⟩
  | 4 => ⟨S64, .f32⟩
  | 5 => ⟨S64, .f32⟩
  | 6 => ⟨S2048, .i32⟩
  | 7 => ⟨S_, .i32⟩
  | 8 => ⟨S2048, .i32⟩
  | 9 => ⟨S2048, .i1⟩
  | 10 => ⟨S_, .i32⟩
  | 11 => ⟨S2048, .i32⟩
  | 12 => ⟨S2048, .i32⟩
  | 13 => ⟨S_, .i32⟩
  | 14 => ⟨S2048, .i32⟩
  | 15 => ⟨S2048, .i32⟩
  | 16 => ⟨S_, .i32⟩
  | 17 => ⟨S2048, .i32⟩
  | 18 => ⟨S2048, .i32⟩
  | 19 => ⟨S_, .i32⟩
  | 20 => ⟨S2048, .i32⟩
  | 21 => ⟨S2048, .i32⟩
  | 22 => ⟨S2048, .i32⟩
  | 23 => ⟨S128, .i32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S128, .i32⟩
  | 31 => ⟨S128, .i32⟩
  | 32 => ⟨S_, .i32⟩
  | 33 => ⟨S128, .i32⟩
  | 34 => ⟨S128, .i1⟩
  | 35 => ⟨S_, .i32⟩
  | 36 => ⟨S128, .i32⟩
  | 37 => ⟨S128, .i1⟩
  | 38 => ⟨S_, .i32⟩
  | 39 => ⟨S_, .i1⟩
  | 40 => ⟨S128, .i1⟩
  | 41 => ⟨S128, .i1⟩
  | 42 => ⟨S128, .i1⟩
  | 43 => ⟨S128, .i32⟩
  | 44 => ⟨S128, .i32⟩
  | 45 => ⟨S128, .i32⟩
  | 46 => ⟨S_, .i32⟩
  | 47 => ⟨S128, .i32⟩
  | 48 => ⟨S128, .i32⟩
  | 49 => ⟨S_, .i32⟩
  | 50 => ⟨S128, .i32⟩
  | 51 => ⟨S128, .i1⟩
  | 52 => ⟨S_, .i32⟩
  | 53 => ⟨S128, .i32⟩
  | 54 => ⟨S128, .i1⟩
  | 55 => ⟨S128, .i1⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S128, .i32⟩
  | 63 => ⟨S128, .i32⟩
  | 64 => ⟨S_, .i32⟩
  | 65 => ⟨S128, .i32⟩
  | 66 => ⟨S128, .i1⟩
  | 67 => ⟨S_, .i32⟩
  | 68 => ⟨S128, .i32⟩
  | 69 => ⟨S128, .i1⟩
  | 70 => ⟨S_, .i32⟩
  | 71 => ⟨S_, .i1⟩
  | 72 => ⟨S128, .i1⟩
  | 73 => ⟨S128, .i1⟩
  | 74 => ⟨S128, .i1⟩
  | 75 => ⟨S128, .i32⟩
  | 76 => ⟨S128, .i32⟩
  | 77 => ⟨S128, .i32⟩
  | 78 => ⟨S_, .i32⟩
  | 79 => ⟨S128, .i32⟩
  | 80 => ⟨S128, .i1⟩
  | 81 => ⟨S_, .i32⟩
  | 82 => ⟨S_, .i32⟩
  | 83 => ⟨S2048, .i32⟩
  | 84 => ⟨S2048, .i32⟩
  | 85 => ⟨S2048, .i32⟩
  | 86 => ⟨S_, .i32⟩
  | 87 => ⟨S2048, .i32⟩
  | 88 => ⟨S2048, .i1⟩
  | 89 => ⟨S2048, .i32⟩
  | 90 => ⟨S2048, .i32⟩
  | 91 => ⟨S_, .i32⟩
  | 92 => ⟨S2048, .i32⟩
  | 93 => ⟨S2048, .i1⟩
  | 94 => ⟨S2048, .i1⟩
  | 95 => ⟨S_, .i32⟩
  | 96 => ⟨S2048, .i32⟩
  | 97 => ⟨S2048, .i32⟩
  | 98 => ⟨S2048, .i32⟩
  | 99 => ⟨S2048x1, .i32⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S2048, .i32⟩
  | 107 => ⟨S2048, .i32⟩
  | 108 => ⟨S_, .i32⟩
  | 109 => ⟨S2048, .i32⟩
  | 110 => ⟨S2048, .i1⟩
  | 111 => ⟨S_, .i32⟩
  | 112 => ⟨S2048, .i32⟩
  | 113 => ⟨S2048, .i1⟩
  | 114 => ⟨S_, .i32⟩
  | 115 => ⟨S_, .i1⟩
  | 116 => ⟨S2048, .i1⟩
  | 117 => ⟨S2048, .i1⟩
  | 118 => ⟨S2048, .i1⟩
  | 119 => ⟨S2048, .i32⟩
  | 120 => ⟨S2048, .i32⟩
  | 121 => ⟨S2048, .i32⟩
  | 122 => ⟨S2048x1, .i32⟩
  | 123 => ⟨S2048x128, .i1⟩
  | 124 => ⟨S2048x128, .i32⟩
  | 125 => ⟨S2048x128, .i32⟩
  | 126 => ⟨S2048x128, .i32⟩
  | 127 => ⟨S2048x128, .f32⟩
  | _ => ⟨S20480x1024, .f32⟩

abbrev hbmTy0_1 (i : Nat) : BufTy := match i % 128 with
  | 0 => ⟨S_, .i32⟩
  | 1 => ⟨S_, .i32⟩
  | 2 => ⟨S_, .i32⟩
  | 3 => ⟨S_, .i1⟩
  | 4 => ⟨S_, .i32⟩
  | 5 => ⟨S_, .i32⟩
  | 6 => ⟨S128, .i32⟩
  | 7 => ⟨S128, .i32⟩
  | 8 => ⟨S_, .i32⟩
  | 9 => ⟨S128, .i32⟩
  | 10 => ⟨S128, .i1⟩
  | 11 => ⟨S_, .i32⟩
  | 12 => ⟨S128, .i32⟩
  | 13 => ⟨S128, .i1⟩
  | 14 => ⟨S_, .i32⟩
  | 15 => ⟨S_, .i1⟩
  | 16 => ⟨S128, .i1⟩
  | 17 => ⟨S128, .i1⟩
  | 18 => ⟨S128, .i1⟩
  | 19 => ⟨S128, .i32⟩
  | 20 => ⟨S128, .i32⟩
  | 21 => ⟨S128, .i32⟩
  | 22 => ⟨S128, .f32⟩
  | 23 => ⟨S128, .f32⟩
  | 24 => ⟨S_, .f32⟩
  | 25 => ⟨S128, .f32⟩
  | 26 => ⟨S128, .f32⟩
  | 27 => ⟨S_, .f32⟩
  | 28 => ⟨S128, .f32⟩
  | 29 => ⟨S128, .f32⟩
  | 30 => ⟨S1x128, .f32⟩
  | 31 => ⟨S2048x128, .f32⟩
  | 32 => ⟨S2048x128, .f32⟩
  | 33 => ⟨S1x128, .i1⟩
  | 34 => ⟨S2048x128, .f32⟩
  | 35 => ⟨S_, .f32⟩
  | 36 => ⟨S_, .f32⟩
  | 37 => ⟨S2048x128, .i1⟩
  | 38 => ⟨S2048x128, .f32⟩
  | 39 => ⟨S2048x128, .f32⟩
  | 40 => ⟨S1x128, .i1⟩
  | 41 => ⟨S2048x128, .f32⟩
  | 42 => ⟨S_, .f32⟩
  | 43 => ⟨S_, .f32⟩
  | 44 => ⟨S2048x128, .i1⟩
  | 45 => ⟨S2048x128, .f32⟩
  | 46 => ⟨S2048x128, .f32⟩
  | 47 => ⟨S_, .i32⟩
  | 48 => ⟨S128, .i32⟩
  | 49 => ⟨S128, .i1⟩
  | 50 => ⟨S1x128, .i1⟩
  | 51 => ⟨S_, .f32⟩
  | 52 => ⟨S_, .f32⟩
  | 53 => ⟨S2048x128, .i1⟩
  | 54 => ⟨S2048x128, .f32⟩
  | 55 => ⟨S2048x128, .f32⟩
  | 56 => ⟨S2048x128, .f32⟩
  | 57 => ⟨S_, .f32⟩
  | 58 => ⟨S_, .f32⟩
  | 59 => ⟨S2048x128, .i1⟩
  | 60 => ⟨S2048x128, .f32⟩
  | 61 => ⟨S2048x128, .f32⟩
  | 62 => ⟨S_, .f32⟩
  | 63 => ⟨S512x128, .f32⟩
  | 64 => ⟨S2560x128, .f32⟩
  | 65 => ⟨S_, .f32⟩
  | 66 => ⟨S512x128, .f32⟩
  | 67 => ⟨S2560x128, .f32⟩
  | 68 => ⟨S_, .f32⟩
  | 69 => ⟨S512x128, .f32⟩
  | 70 => ⟨S2560x128, .f32⟩
  | 71 => ⟨S128, .f32⟩
  | 72 => ⟨S1x128, .f32⟩
  | 73 => ⟨S_, .f32⟩
  | 74 => ⟨S1x128, .f32⟩
  | 75 => ⟨S1x128, .f32⟩
  | 76 => ⟨S2560x128, .f32⟩
  | 77 => ⟨S2560x128, .f32⟩
  | 78 => ⟨S1x16, .f32⟩
  | 79 => ⟨S1x112, .f32⟩
  | 80 => ⟨S1x128, .f32⟩
  | 81 => ⟨S2560x128, .f32⟩
  | 82 => ⟨S2560x128, .f32⟩
  | 83 => ⟨S1x112, .f32⟩
  | 84 => ⟨S1x16, .f32⟩
  | 85 => ⟨S1x128, .f32⟩
  | 86 => ⟨S2560x128, .f32⟩
  | 87 => ⟨S2560x128, .f32⟩
  | 88 => ⟨S128, .f32⟩
  | 89 => ⟨S1x128, .f32⟩
  | 90 => ⟨S_, .f32⟩
  | 91 => ⟨S1x128, .f32⟩
  | 92 => ⟨S1x128, .f32⟩
  | 93 => ⟨S2560x128, .f32⟩
  | 94 => ⟨S2560x128, .f32⟩
  | 95 => ⟨S1x16, .f32⟩
  | 96 => ⟨S1x112, .f32⟩
  | 97 => ⟨S1x128, .f32⟩
  | 98 => ⟨S2560x128, .f32⟩
  | 99 => ⟨S2560x128, .f32⟩
  | 100 => ⟨S1x112, .f32⟩
  | 101 => ⟨S1x16, .f32⟩
  | 102 => ⟨S1x128, .f32⟩
  | 103 => ⟨S2560x128, .f32⟩
  | 104 => ⟨S2560x128, .f32⟩
  | 105 => ⟨S1024x1536, .f32⟩
  | 106 => ⟨S1024x512, .f32⟩
  | 107 => ⟨S1024x128, .f32⟩
  | 108 => ⟨S1024x128, .f32⟩
  | 109 => ⟨S8, .i32⟩
  | 110 => ⟨S_, .i32⟩
  | 111 => ⟨S_, .i32⟩
  | 112 => ⟨S8, .i32⟩
  | 113 => ⟨S8, .i32⟩
  | 114 => ⟨S8, .i32⟩
  | 115 => ⟨S_, .i32⟩
  | 116 => ⟨S8, .i32⟩
  | 117 => ⟨S8, .i1⟩
  | 118 => ⟨S8, .i32⟩
  | 119 => ⟨S8, .i32⟩
  | 120 => ⟨S_, .i32⟩
  | 121 => ⟨S8, .i32⟩
  | 122 => ⟨S8, .i1⟩
  | 123 => ⟨S8, .i1⟩
  | 124 => ⟨S_, .i32⟩
  | 125 => ⟨S8, .i32⟩
  | 126 => ⟨S8, .i32⟩
  | 127 => ⟨S8, .i32⟩
  | _ => ⟨S20480x1024, .f32⟩

abbrev hbmTy0_2 (i : Nat) : BufTy := match i % 128 with
  | 0 => ⟨S8x1, .i32⟩
  | 1 => ⟨S1x2, .i32⟩
  | 2 => ⟨S8x2, .i32⟩
  | 3 => ⟨S8x2, .i32⟩
  | 4 => ⟨S8x2, .i1⟩
  | 5 => ⟨S8x2, .f32⟩
  | 6 => ⟨S1024x8x1x64, .f32⟩
  | 7 => ⟨S1x8x2x1, .f32⟩
  | 8 => ⟨S1024x8x2x64, .f32⟩
  | 9 => ⟨S1024x8x2x64, .f32⟩
  | 10 => ⟨S1024x8x2x64, .f32⟩
  | 11 => ⟨S1024x1024, .f32⟩
  | 12 => ⟨S1024x2816, .f32⟩
  | 13 => ⟨S1024x2816, .bf16⟩
  | 14 => ⟨S128, .f32⟩
  | 15 => ⟨S1x128, .f32⟩
  | 16 => ⟨S1x1024, .f32⟩
  | 17 => ⟨S20480x1536, .bf16⟩
  | 18 => ⟨S20480x1024, .bf16⟩
  | 19 => ⟨S20480x128, .bf16⟩
  | 20 => ⟨S20480x128, .bf16⟩
  | 21 => ⟨S20480x128, .f32⟩
  | 22 => ⟨S20480x128, .f32⟩
  | _ => ⟨S20480x1024, .f32⟩

abbrev hbmTy (i : Nat) : BufTy := match i / 128 with
  | 0 => hbmTy0_0 i
  | 1 => hbmTy0_1 i
  | 2 => hbmTy0_2 i
  | _ => ⟨S20480x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x6x1024, .f32⟩
  | .local _ .vmem, ⟨4, _⟩ => ⟨S1x6x1024, .f32⟩
  | .local _ .vmem, ⟨5, _⟩ => ⟨S1024x2816, .bf16⟩
  | .local _ .vmem, ⟨6, _⟩ => ⟨S1x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x1536, .bf16⟩
  | .local _ .vmem, ⟨20, _⟩ => ⟨S512x1536, .bf16⟩
  | .local _ .vmem, ⟨21, _⟩ => ⟨S512x1024, .bf16⟩
  | .local _ .vmem, ⟨22, _⟩ => ⟨S512x1024, .bf16⟩
  | .local _ .vmem, ⟨23, _⟩ => ⟨S512x128, .bf16⟩
  | .local _ .vmem, ⟨24, _⟩ => ⟨S512x128, .bf16⟩
  | .local _ .vmem, ⟨25, _⟩ => ⟨S512x128, .bf16⟩
  | .local _ .vmem, ⟨26, _⟩ => ⟨S512x128, .bf16⟩
  | .local _ .vmem, ⟨27, _⟩ => ⟨S512x128, .f32⟩
  | .local _ .vmem, ⟨28, _⟩ => ⟨S512x128, .f32⟩
  | .local _ .vmem, ⟨29, _⟩ => ⟨S512x128, .f32⟩
  | .local _ .vmem, ⟨30, _⟩ => ⟨S512x128, .f32⟩
  | _, _ => ⟨S20480x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_c_2 : Ref sig .tc := ⟨.hbm, 16, rfl⟩
abbrev main_v7 : Ref sig .tc := ⟨.hbm, 17, rfl⟩
abbrev main_v8 : Ref sig .tc := ⟨.hbm, 18, rfl⟩
abbrev main_c_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_4 : Ref sig .tc := ⟨.hbm, 24, rfl⟩
abbrev main_call1_v0 : Ref sig .tc := ⟨.hbm, 25, rfl⟩
abbrev main_call1_c : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_1 : Ref sig .tc := ⟨.hbm, 32, rfl⟩
abbrev main_call1_v5 : Ref sig .tc := ⟨.hbm, 33, rfl⟩
abbrev main_call1_v6 : Ref sig .tc := ⟨.hbm, 34, rfl⟩
abbrev main_call1_c_2 : Ref sig .tc := ⟨.hbm, 35, rfl⟩
abbrev main_call1_v7 : Ref sig .tc := ⟨.hbm, 36, rfl⟩
abbrev main_call1_v8 : Ref sig .tc := ⟨.hbm, 37, rfl⟩
abbrev main_call1_c_3 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_v13 : Ref sig .tc := ⟨.hbm, 45, rfl⟩
abbrev main_c_5 : Ref sig .tc := ⟨.hbm, 46, rfl⟩
abbrev main_v14 : Ref sig .tc := ⟨.hbm, 47, rfl⟩
abbrev main_v15 : Ref sig .tc := ⟨.hbm, 48, rfl⟩
abbrev main_c_6 : Ref sig .tc := ⟨.hbm, 49, rfl⟩
abbrev main_v16 : Ref sig .tc := ⟨.hbm, 50, rfl⟩
abbrev main_v17 : Ref sig .tc := ⟨.hbm, 51, rfl⟩
abbrev main_c_7 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_c_8 : Ref sig .tc := ⟨.hbm, 56, rfl⟩
abbrev main_call2_v0 : Ref sig .tc := ⟨.hbm, 57, rfl⟩
abbrev main_call2_c : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_c_1 : Ref sig .tc := ⟨.hbm, 64, rfl⟩
abbrev main_call2_v5 : Ref sig .tc := ⟨.hbm, 65, rfl⟩
abbrev main_call2_v6 : Ref sig .tc := ⟨.hbm, 66, rfl⟩
abbrev main_call2_c_2 : Ref sig .tc := ⟨.hbm, 67, rfl⟩
abbrev main_call2_v7 : Ref sig .tc := ⟨.hbm, 68, rfl⟩
abbrev main_call2_v8 : Ref sig .tc := ⟨.hbm, 69, rfl⟩
abbrev main_call2_c_3 : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_v12 : Ref sig .tc := ⟨.hbm, 74, rfl⟩
abbrev main_call2_v13 : Ref sig .tc := ⟨.hbm, 75, rfl⟩
abbrev main_call2_v14 : Ref sig .tc := ⟨.hbm, 76, rfl⟩
abbrev main_v21 : Ref sig .tc := ⟨.hbm, 77, rfl⟩
abbrev main_c_9 : Ref sig .tc := ⟨.hbm, 78, rfl⟩
abbrev main_v22 : Ref sig .tc := ⟨.hbm, 79, rfl⟩
abbrev main_v23 : Ref sig .tc := ⟨.hbm, 80, rfl⟩
abbrev main_c_10 : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_call3_v5 : Ref sig .tc := ⟨.hbm, 87, rfl⟩
abbrev main_call3_v6 : Ref sig .tc := ⟨.hbm, 88, rfl⟩
abbrev main_call3_v7 : Ref sig .tc := ⟨.hbm, 89, rfl⟩
abbrev main_call3_v8 : Ref sig .tc := ⟨.hbm, 90, rfl⟩
abbrev main_call3_c : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_c_0 : Ref sig .tc := ⟨.hbm, 95, rfl⟩
abbrev main_call3_v12 : Ref sig .tc := ⟨.hbm, 96, rfl⟩
abbrev main_call3_v13 : Ref sig .tc := ⟨.hbm, 97, rfl⟩
abbrev main_v24 : Ref sig .tc := ⟨.hbm, 98, rfl⟩
abbrev main_v25 : Ref sig .tc := ⟨.hbm, 99, rfl⟩
abbrev main_c_11 : Ref sig .tc := ⟨.hbm, 100, rfl⟩
abbrev main_call4_v0 : Ref sig .tc := ⟨.hbm, 101, rfl⟩
abbrev main_call4_c : Ref sig .tc := ⟨.hbm, 102, rfl⟩
abbrev main_call4_v1 : Ref sig .tc := ⟨.hbm, 103, rfl⟩
abbrev main_call4_c_0 : Ref sig .tc := ⟨.hbm, 104, rfl⟩
abbrev main_call4_v2 : Ref sig .tc := ⟨.hbm, 105, rfl⟩
abbrev main_call4_v3 : Ref sig .tc := ⟨.hbm, 106, rfl⟩
abbrev main_call4_v4 : Ref sig .tc := ⟨.hbm, 107, rfl⟩
abbrev main_call4_c_1 : Ref sig .tc := ⟨.hbm, 108, rfl⟩
abbrev main_call4_v5 : Ref sig .tc := ⟨.hbm, 109, rfl⟩
abbrev main_call4_v6 : Ref sig .tc := ⟨.hbm, 110, rfl⟩
abbrev main_call4_c_2 : Ref sig .tc := ⟨.hbm, 111, rfl⟩
abbrev main_call4_v7 : Ref sig .tc := ⟨.hbm, 112, rfl⟩
abbrev main_call4_v8 : Ref sig .tc := ⟨.hbm, 113, rfl⟩
abbrev main_call4_c_3 : Ref sig .tc := ⟨.hbm, 114, rfl⟩
abbrev main_call4_v9 : Ref sig .tc := ⟨.hbm, 115, rfl⟩
abbrev main_call4_v10 : Ref sig .tc := ⟨.hbm, 116, rfl⟩
abbrev main_call4_v11 : Ref sig .tc := ⟨.hbm, 117, rfl⟩
abbrev main_call4_v12 : Ref sig .tc := ⟨.hbm, 118, rfl⟩
abbrev main_call4_v13 : Ref sig .tc := ⟨.hbm, 119, rfl⟩
abbrev main_call4_v14 : Ref sig .tc := ⟨.hbm, 120, rfl⟩
abbrev main_v26 : Ref sig .tc := ⟨.hbm, 121, rfl⟩
abbrev main_v27 : Ref sig .tc := ⟨.hbm, 122, rfl⟩
abbrev main_call5_v0 : Ref sig .tc := ⟨.hbm, 123, rfl⟩
abbrev main_call5_v1 : Ref sig .tc := ⟨.hbm, 124, rfl⟩
abbrev main_call5_v2 : Ref sig .tc := ⟨.hbm, 125, rfl⟩
abbrev main_v28 : Ref sig .tc := ⟨.hbm, 126, rfl⟩
abbrev main_v29 : Ref sig .tc := ⟨.hbm, 127, rfl⟩
abbrev main_c_12 : Ref sig .tc := ⟨.hbm, 128, rfl⟩
abbrev main_call6_v0 : Ref sig .tc := ⟨.hbm, 129, rfl⟩
abbrev main_call6_c : Ref sig .tc := ⟨.hbm, 130, rfl⟩
abbrev main_call6_v1 : Ref sig .tc := ⟨.hbm, 131, rfl⟩
abbrev main_call6_c_0 : Ref sig .tc := ⟨.hbm, 132, rfl⟩
abbrev main_call6_v2 : Ref sig .tc := ⟨.hbm, 133, rfl⟩
abbrev main_call6_v3 : Ref sig .tc := ⟨.hbm, 134, rfl⟩
abbrev main_call6_v4 : Ref sig .tc := ⟨.hbm, 135, rfl⟩
abbrev main_call6_c_1 : Ref sig .tc := ⟨.hbm, 136, rfl⟩
abbrev main_call6_v5 : Ref sig .tc := ⟨.hbm, 137, rfl⟩
abbrev main_call6_v6 : Ref sig .tc := ⟨.hbm, 138, rfl⟩
abbrev main_call6_c_2 : Ref sig .tc := ⟨.hbm, 139, rfl⟩
abbrev main_call6_v7 : Ref sig .tc := ⟨.hbm, 140, rfl⟩
abbrev main_call6_v8 : Ref sig .tc := ⟨.hbm, 141, rfl⟩
abbrev main_call6_c_3 : Ref sig .tc := ⟨.hbm, 142, rfl⟩
abbrev main_call6_v9 : Ref sig .tc := ⟨.hbm, 143, rfl⟩
abbrev main_call6_v10 : Ref sig .tc := ⟨.hbm, 144, rfl⟩
abbrev main_call6_v11 : Ref sig .tc := ⟨.hbm, 145, rfl⟩
abbrev main_call6_v12 : Ref sig .tc := ⟨.hbm, 146, rfl⟩
abbrev main_call6_v13 : Ref sig .tc := ⟨.hbm, 147, rfl⟩
abbrev main_call6_v14 : Ref sig .tc := ⟨.hbm, 148, rfl⟩
abbrev main_v30 : Ref sig .tc := ⟨.hbm, 149, rfl⟩
abbrev main_v31 : Ref sig .tc := ⟨.hbm, 150, rfl⟩
abbrev main_v32 : Ref sig .tc := ⟨.hbm, 151, rfl⟩
abbrev main_cst : Ref sig .tc := ⟨.hbm, 152, rfl⟩
abbrev main_v33 : Ref sig .tc := ⟨.hbm, 153, rfl⟩
abbrev main_v34 : Ref sig .tc := ⟨.hbm, 154, rfl⟩
abbrev main_cst_13 : Ref sig .tc := ⟨.hbm, 155, rfl⟩
abbrev main_v35 : Ref sig .tc := ⟨.hbm, 156, rfl⟩
abbrev main_v36 : Ref sig .tc := ⟨.hbm, 157, rfl⟩
abbrev main_v37 : Ref sig .tc := ⟨.hbm, 158, rfl⟩
abbrev main_v38 : Ref sig .tc := ⟨.hbm, 159, rfl⟩
abbrev main_v39 : Ref sig .tc := ⟨.hbm, 160, rfl⟩
abbrev main_v40 : Ref sig .tc := ⟨.hbm, 161, rfl⟩
abbrev main_v41 : Ref sig .tc := ⟨.hbm, 162, rfl⟩
abbrev main_cst_14 : Ref sig .tc := ⟨.hbm, 163, rfl⟩
abbrev main_call7_v0 : Ref sig .tc := ⟨.hbm, 164, rfl⟩
abbrev main_call7_v1 : Ref sig .tc := ⟨.hbm, 165, rfl⟩
abbrev main_call7_v2 : Ref sig .tc := ⟨.hbm, 166, rfl⟩
abbrev main_v42 : Ref sig .tc := ⟨.hbm, 167, rfl⟩
abbrev main_v43 : Ref sig .tc := ⟨.hbm, 168, rfl⟩
abbrev main_v44 : Ref sig .tc := ⟨.hbm, 169, rfl⟩
abbrev main_cst_15 : Ref sig .tc := ⟨.hbm, 170, rfl⟩
abbrev main_call8_v0 : Ref sig .tc := ⟨.hbm, 171, rfl⟩
abbrev main_call8_v1 : Ref sig .tc := ⟨.hbm, 172, rfl⟩
abbrev main_call8_v2 : Ref sig .tc := ⟨.hbm, 173, rfl⟩
abbrev main_v45 : Ref sig .tc := ⟨.hbm, 174, rfl⟩
abbrev main_c_16 : Ref sig .tc := ⟨.hbm, 175, rfl⟩
abbrev main_v46 : Ref sig .tc := ⟨.hbm, 176, rfl⟩
abbrev main_v47 : Ref sig .tc := ⟨.hbm, 177, rfl⟩
abbrev main_v48 : Ref sig .tc := ⟨.hbm, 178, rfl⟩
abbrev main_cst_17 : Ref sig .tc := ⟨.hbm, 179, rfl⟩
abbrev main_call9_v0 : Ref sig .tc := ⟨.hbm, 180, rfl⟩
abbrev main_call9_v1 : Ref sig .tc := ⟨.hbm, 181, rfl⟩
abbrev main_call9_v2 : Ref sig .tc := ⟨.hbm, 182, rfl⟩
abbrev main_v49 : Ref sig .tc := ⟨.hbm, 183, rfl⟩
abbrev main_v50 : Ref sig .tc := ⟨.hbm, 184, rfl⟩
abbrev main_cst_18 : Ref sig .tc := ⟨.hbm, 185, rfl⟩
abbrev main_call10_v0 : Ref sig .tc := ⟨.hbm, 186, rfl⟩
abbrev main_call10_v1 : Ref sig .tc := ⟨.hbm, 187, rfl⟩
abbrev main_call10_v2 : Ref sig .tc := ⟨.hbm, 188, rfl⟩
abbrev main_v51 : Ref sig .tc := ⟨.hbm, 189, rfl⟩
abbrev main_cst_19 : Ref sig .tc := ⟨.hbm, 190, rfl⟩
abbrev main_v52 : Ref sig .tc := ⟨.hbm, 191, rfl⟩
abbrev main_v53 : Ref sig .tc := ⟨.hbm, 192, rfl⟩
abbrev main_cst_20 : Ref sig .tc := ⟨.hbm, 193, rfl⟩
abbrev main_v54 : Ref sig .tc := ⟨.hbm, 194, rfl⟩
abbrev main_v55 : Ref sig .tc := ⟨.hbm, 195, rfl⟩
abbrev main_cst_21 : Ref sig .tc := ⟨.hbm, 196, rfl⟩
abbrev main_v56 : Ref sig .tc := ⟨.hbm, 197, rfl⟩
abbrev main_v57 : Ref sig .tc := ⟨.hbm, 198, rfl⟩
abbrev main_v58 : Ref sig .tc := ⟨.hbm, 199, rfl⟩
abbrev main_v59 : Ref sig .tc := ⟨.hbm, 200, rfl⟩
abbrev main_cst_22 : Ref sig .tc := ⟨.hbm, 201, rfl⟩
abbrev main_v60 : Ref sig .tc := ⟨.hbm, 202, rfl⟩
abbrev main_v61 : Ref sig .tc := ⟨.hbm, 203, rfl⟩
abbrev main_v62 : Ref sig .tc := ⟨.hbm, 204, rfl⟩
abbrev main_v63 : Ref sig .tc := ⟨.hbm, 205, rfl⟩
abbrev main_call11_v0 : Ref sig .tc := ⟨.hbm, 206, rfl⟩
abbrev main_call11_v1 : Ref sig .tc := ⟨.hbm, 207, rfl⟩
abbrev main_v64 : Ref sig .tc := ⟨.hbm, 208, rfl⟩
abbrev main_v65 : Ref sig .tc := ⟨.hbm, 209, rfl⟩
abbrev main_v66 : Ref sig .tc := ⟨.hbm, 210, rfl⟩
abbrev main_call12_v0 : Ref sig .tc := ⟨.hbm, 211, rfl⟩
abbrev main_call12_v1 : Ref sig .tc := ⟨.hbm, 212, rfl⟩
abbrev main_v67 : Ref sig .tc := ⟨.hbm, 213, rfl⟩
abbrev main_v68 : Ref sig .tc := ⟨.hbm, 214, rfl⟩
abbrev main_v69 : Ref sig .tc := ⟨.hbm, 215, rfl⟩
abbrev main_v70 : Ref sig .tc := ⟨.hbm, 216, rfl⟩
abbrev main_v71 : Ref sig .tc := ⟨.hbm, 217, rfl⟩
abbrev main_cst_23 : Ref sig .tc := ⟨.hbm, 218, rfl⟩
abbrev main_v72 : Ref sig .tc := ⟨.hbm, 219, rfl⟩
abbrev main_v73 : Ref sig .tc := ⟨.hbm, 220, rfl⟩
abbrev main_v74 : Ref sig .tc := ⟨.hbm, 221, rfl⟩
abbrev main_v75 : Ref sig .tc := ⟨.hbm, 222, rfl⟩
abbrev main_call13_v0 : Ref sig .tc := ⟨.hbm, 223, rfl⟩
abbrev main_call13_v1 : Ref sig .tc := ⟨.hbm, 224, rfl⟩
abbrev main_v76 : Ref sig .tc := ⟨.hbm, 225, rfl⟩
abbrev main_v77 : Ref sig .tc := ⟨.hbm, 226, rfl⟩
abbrev main_v78 : Ref sig .tc := ⟨.hbm, 227, rfl⟩
abbrev main_call14_v0 : Ref sig .tc := ⟨.hbm, 228, rfl⟩
abbrev main_call14_v1 : Ref sig .tc := ⟨.hbm, 229, rfl⟩
abbrev main_v79 : Ref sig .tc := ⟨.hbm, 230, rfl⟩
abbrev main_v80 : Ref sig .tc := ⟨.hbm, 231, rfl⟩
abbrev main_v81 : Ref sig .tc := ⟨.hbm, 232, rfl⟩
abbrev main_v82 : Ref sig .tc := ⟨.hbm, 233, rfl⟩
abbrev main_v83 : Ref sig .tc := ⟨.hbm, 234, rfl⟩
abbrev main_v84 : Ref sig .tc := ⟨.hbm, 235, rfl⟩
abbrev main_v85 : Ref sig .tc := ⟨.hbm, 236, rfl⟩
abbrev main_v86 : Ref sig .tc := ⟨.hbm, 237, rfl⟩
abbrev main_c_24 : Ref sig .tc := ⟨.hbm, 238, rfl⟩
abbrev main_call15_v0 : Ref sig .tc := ⟨.hbm, 239, rfl⟩
abbrev main_call15_v1 : Ref sig .tc := ⟨.hbm, 240, rfl⟩
abbrev main_call15_v2 : Ref sig .tc := ⟨.hbm, 241, rfl⟩
abbrev main_call15_v3 : Ref sig .tc := ⟨.hbm, 242, rfl⟩
abbrev main_call15_v4 : Ref sig .tc := ⟨.hbm, 243, rfl⟩
abbrev main_call15_v5 : Ref sig .tc := ⟨.hbm, 244, rfl⟩
abbrev main_call15_v6 : Ref sig .tc := ⟨.hbm, 245, rfl⟩
abbrev main_call15_v7 : Ref sig .tc := ⟨.hbm, 246, rfl⟩
abbrev main_call15_v8 : Ref sig .tc := ⟨.hbm, 247, rfl⟩
abbrev main_call15_c : Ref sig .tc := ⟨.hbm, 248, rfl⟩
abbrev main_call15_v9 : Ref sig .tc := ⟨.hbm, 249, rfl⟩
abbrev main_call15_v10 : Ref sig .tc := ⟨.hbm, 250, rfl⟩
abbrev main_call15_v11 : Ref sig .tc := ⟨.hbm, 251, rfl⟩
abbrev main_call15_c_0 : Ref sig .tc := ⟨.hbm, 252, rfl⟩
abbrev main_call15_v12 : Ref sig .tc := ⟨.hbm, 253, rfl⟩
abbrev main_call15_v13 : Ref sig .tc := ⟨.hbm, 254, rfl⟩
abbrev main_v87 : Ref sig .tc := ⟨.hbm, 255, rfl⟩
abbrev main_call16_v0 : Ref sig .tc := ⟨.hbm, 256, rfl⟩
abbrev main_call16_v1 : Ref sig .tc := ⟨.hbm, 257, rfl⟩
abbrev main_call16_v2 : Ref sig .tc := ⟨.hbm, 258, rfl⟩
abbrev main_call16_v3 : Ref sig .tc := ⟨.hbm, 259, rfl⟩
abbrev main_call16_v4 : Ref sig .tc := ⟨.hbm, 260, rfl⟩
abbrev main_v88 : Ref sig .tc := ⟨.hbm, 261, rfl⟩
abbrev main_v89 : Ref sig .tc := ⟨.hbm, 262, rfl⟩
abbrev main_v90 : Ref sig .tc := ⟨.hbm, 263, rfl⟩
abbrev main_v91 : Ref sig .tc := ⟨.hbm, 264, rfl⟩
abbrev main_v92 : Ref sig .tc := ⟨.hbm, 265, rfl⟩
abbrev main_v93 : Ref sig .tc := ⟨.hbm, 266, rfl⟩
abbrev main_v94 : Ref sig .tc := ⟨.hbm, 267, rfl⟩
abbrev main_v95 : Ref sig .tc := ⟨.hbm, 268, rfl⟩
abbrev main_v96 : Ref sig .tc := ⟨.hbm, 269, rfl⟩
abbrev main_v97 : Ref sig .tc := ⟨.hbm, 270, rfl⟩
abbrev main_v98 : Ref sig .tc := ⟨.hbm, 271, rfl⟩
abbrev main_v99 : Ref sig .tc := ⟨.hbm, 272, rfl⟩
abbrev main_v100_0 : Ref sig .tc := ⟨.hbm, 273, rfl⟩
abbrev main_v100_1 : Ref sig .tc := ⟨.hbm, 274, rfl⟩
abbrev main_v100_2 : Ref sig .tc := ⟨.hbm, 275, rfl⟩
abbrev main_v100_3 : Ref sig .tc := ⟨.hbm, 276, rfl⟩
abbrev main_v100_4 : Ref sig .tc := ⟨.hbm, 277, rfl⟩
abbrev main_v100_5 : Ref sig .tc := ⟨.hbm, 278, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi c1_i32_4 v11
  let c0_i32_5 : BitVec 32 := 0#32
  let v13 : BitVec 32 := Scalar.select v0 c0_i32_5 v12
  let c0_i32_6 : BitVec 32 := 0#32
  let c0_i32_7 : BitVec 32 := 0#32
  ![v13.toNat, c0_i32_6.toNat]

def cc0_transform_6 (i : grid0.Coords) : Fin 2 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi c1_i32_4 v11
  let c0_i32_5 : BitVec 32 := 0#32
  let v13 : BitVec 32 := Scalar.select v0 c0_i32_5 v12
  let c0_i32_6 : BitVec 32 := 0#32
  let c0_i32_7 : BitVec 32 := 0#32
  ![v13.toNat, c0_i32_6.toNat]

def cc0_transform_7 (i : grid0.Coords) : Fin 2 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi c1_i32_4 v11
  let c0_i32_5 : BitVec 32 := 0#32
  let v13 : BitVec 32 := Scalar.select v0 c0_i32_5 v12
  let c0_i32_6 : BitVec 32 := 0#32
  let c0_i32_7 : BitVec 32 := 0#32
  ![v13.toNat, c0_i32_6.toNat]

def cc0_transform_8 (i : grid0.Coords) : Fin 2 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi c1_i32_4 v11
  let c0_i32_5 : BitVec 32 := 0#32
  let v13 : BitVec 32 := Scalar.select v0 c0_i32_5 v12
  let c0_i32_6 : BitVec 32 := 0#32
  let c0_i32_7 : BitVec 32 := 0#32
  ![v13.toNat, c0_i32_6.toNat]

def cc0_transform_9 (i : grid0.Coords) : Fin 2 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi c1_i32_4 v11
  let c0_i32_5 : BitVec 32 := 0#32
  let v13 : BitVec 32 := Scalar.select v0 c0_i32_5 v12
  let c0_i32_6 : BitVec 32 := 0#32
  let c0_i32_7 : BitVec 32 := 0#32
  ![v13.toNat, c0_i32_6.toNat]

def cc0_transform_10 (i : grid0.Coords) : Fin 2 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi c1_i32_4 v11
  let c0_i32_5 : BitVec 32 := 0#32
  let v13 : BitVec 32 := Scalar.select v0 c0_i32_5 v12
  let c0_i32_6 : BitVec 32 := 0#32
  let c0_i32_7 : BitVec 32 := 0#32
  ![v13.toNat, c0_i32_6.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1536 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== EvenInRefIdeal.lean ====
abbrev S20480x1024 : Shape := ⟨2, ![20480, 1024]⟩
abbrev S1024 : Shape := ⟨1, ![1024]⟩
abbrev S16x6x1024 : Shape := ⟨3, ![16, 6, 1024]⟩
abbrev S1024x2304 : Shape := ⟨2, ![1024, 2304]⟩
abbrev S64 : Shape := ⟨1, ![64]⟩
abbrev S_ : Shape := ⟨0, ![]⟩
abbrev S20480 : Shape := ⟨1, ![20480]⟩
abbrev S20480x1 : Shape := ⟨2, ![20480, 1]⟩
abbrev S1x1024 : Shape := ⟨2, ![1, 1024]⟩
abbrev S16x1x1024 : Shape := ⟨3, ![16, 1, 1024]⟩
abbrev S16x1024 : Shape := ⟨2, ![16, 1024]⟩
abbrev S4096x1024 : Shape := ⟨2, ![4096, 1024]⟩
abbrev S8x1024 : Shape := ⟨2, ![8, 1024]⟩
abbrev S8x2048x1024 : Shape := ⟨3, ![8, 2048, 1024]⟩
abbrev S16384x1024 : Shape := ⟨2, ![16384, 1024]⟩
abbrev S20480x2304 : Shape := ⟨2, ![20480, 2304]⟩
abbrev S20480x1536 : Shape := ⟨2, ![20480, 1536]⟩
abbrev S20480x512 : Shape := ⟨2, ![20480, 512]⟩
abbrev S20480x128 : Shape := ⟨2, ![20480, 128]⟩
abbrev S20480x2x64 : Shape := ⟨3, ![20480, 2, 64]⟩
abbrev S20480x2 : Shape := ⟨2, ![20480, 2]⟩
abbrev S20480x2x1 : Shape := ⟨3, ![20480, 2, 1]⟩
abbrev S1x1x64 : Shape := ⟨3, ![1, 1, 64]⟩

abbrev nBuf : Space → Nat
  | .hbm => 68
  | .vmem => 0
  | .smem => 0
  | _ => 0

abbrev bufTy : (tb : Table) → Fin (tcTables nBuf tb) → BufTy
  | .hbm, ⟨0, _⟩ => ⟨S20480x1024, .f32⟩
  | .hbm, ⟨1, _⟩ => ⟨S1024, .f32⟩
  | .hbm, ⟨2, _⟩ => ⟨S16x6x1024, .f32⟩
  | .hbm, ⟨3, _⟩ => ⟨S1024x2304, .f32⟩
  | .hbm, ⟨4, _⟩ => ⟨S64, .f32⟩
  | .hbm, ⟨5, _⟩ => ⟨S64, .f32⟩
  | .hbm, ⟨6, _⟩ => ⟨S20480x1024, .f32⟩
  | .hbm, ⟨7, _⟩ => ⟨S_, .f32⟩
  | .hbm, ⟨8, _⟩ => ⟨S20480, .f32⟩
  | .hbm, ⟨9, _⟩ => ⟨S20480x1, .f32⟩
  | .hbm, ⟨10, _⟩ => ⟨S_, .f32⟩
  | .hbm, ⟨11, _⟩ => ⟨S20480x1, .f32⟩
  | .hbm, ⟨12, _⟩ => ⟨S20480x1, .f32⟩
  | .hbm, ⟨13, _⟩ => ⟨S_, .f32⟩
  | .hbm, ⟨14, _⟩ => ⟨S20480x1, .f32⟩
  | .hbm, ⟨15, _⟩ => ⟨S20480x1, .f32⟩
  | .hbm, ⟨16, _⟩ => ⟨S20480x1, .f32⟩
  | .hbm, ⟨17, _⟩ => ⟨S20480x1024, .f32⟩
  | .hbm, ⟨18, _⟩ => ⟨S20480x1024, .f32⟩
  | .hbm, ⟨19, _⟩ => ⟨S1x1024, .f32⟩
  | .hbm, ⟨20, _⟩ => ⟨S20480x1024, .f32⟩
  | .hbm, ⟨21, _⟩ => ⟨S20480x1024, .f32⟩
  | .hbm, ⟨22, _⟩ => ⟨S16x1x1024, .f32⟩
  | .hbm, ⟨23, _⟩ => ⟨S16x1024, .f32⟩
  | .hbm, ⟨24, _⟩ => ⟨S1x1024, .f32⟩
  | .hbm, ⟨25, _⟩ => ⟨S4096x1024, .f32⟩
  | .hbm, ⟨26, _⟩ => ⟨S8x1024, .f32⟩
  | .hbm, ⟨27, _⟩ => ⟨S8x2048x1024, .f32⟩
  | .hbm, ⟨28, _⟩ => ⟨S16384x1024, .f32⟩
  | .hbm, ⟨29, _⟩ => ⟨S20480x1024, .f32⟩
  | .hbm, ⟨30, _⟩ => ⟨S_, .f32⟩
  | .hbm, ⟨31, _⟩ => ⟨S20480x1024, .f32⟩
  | .hbm, ⟨32, _⟩ => ⟨S20480x1024, .f32⟩
  | .hbm, ⟨33, _⟩ => ⟨S20480x1024, .f32⟩
  | .hbm, ⟨34, _⟩ => ⟨S16x1x1024, .f32⟩
  | .hbm, ⟨35, _⟩ => ⟨S16x1024, .f32⟩
  | .hbm, ⟨36, _⟩ => ⟨S1x1024, .f32⟩
  | .hbm, ⟨37, _⟩ => ⟨S4096x1024, .f32⟩
  | .hbm, ⟨38, _⟩ => ⟨S8x1024, .f32⟩
  | .hbm, ⟨39, _⟩ => ⟨S8x2048x1024, .f32⟩
  | .hbm, ⟨40, _⟩ => ⟨S16384x1024, .f32⟩
  | .hbm, ⟨41, _⟩ => ⟨S20480x1024, .f32⟩
  | .hbm, ⟨42, _⟩ => ⟨S20480x1024, .f32⟩
  | .hbm, ⟨43, _⟩ => ⟨S20480x2304, .f32⟩
  | .hbm, ⟨44, _⟩ => ⟨S20480x1536, .f32⟩
  | .hbm, ⟨45, _⟩ => ⟨S20480x512, .f32⟩
  | .hbm, ⟨46, _⟩ => ⟨S20480x128, .f32⟩
  | .hbm, ⟨47, _⟩ => ⟨S20480x128, .f32⟩
  | .hbm, ⟨48, _⟩ => ⟨S20480x2x64, .f32⟩
  | .hbm, ⟨49, _⟩ => ⟨S20480x2x64, .f32⟩
  | .hbm, ⟨50, _⟩ => ⟨S_, .f32⟩
  | .hbm, ⟨51, _⟩ => ⟨S20480x2, .f32⟩
  | .hbm, ⟨52, _⟩ => ⟨S20480x2x1, .f32⟩
  | .hbm, ⟨53, _⟩ => ⟨S_, .f32⟩
  | .hbm, ⟨54, _⟩ => ⟨S20480x2x1, .f32⟩
  | .hbm, ⟨55, _⟩ => ⟨S20480x2x1, .f32⟩
  | .hbm, ⟨56, _⟩ => ⟨S_, .f32⟩
  | .hbm, ⟨57, _⟩ => ⟨S20480x2x1, .f32⟩
  | .hbm, ⟨58, _⟩ => ⟨S20480x2x1, .f32⟩
  | .hbm, ⟨59, _⟩ => ⟨S20480x2x1, .f32⟩
  | .hbm, ⟨60, _⟩ => ⟨S20480x2x64, .f32⟩
  | .hbm, ⟨61, _⟩ => ⟨S20480x2x64, .f32⟩
  | .hbm, ⟨62, _⟩ => ⟨S1x1x64, .f32⟩
  | .hbm, ⟨63, _⟩ => ⟨S20480x2x64, .f32⟩
  | .hbm, ⟨64, _⟩ => ⟨S20480x2x64, .f32⟩
  | .hbm, ⟨65, _⟩ => ⟨S20480x1536, .bf16⟩
  | .hbm, ⟨66, _⟩ => ⟨S20480x128, .bf16⟩
  | .hbm, ⟨67, _⟩ => ⟨S20480x128, .f32⟩
  | _, _ => ⟨S20480x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_3 : Ref sig .tc := ⟨.hbm, 50, rfl⟩
abbrev main_v40 : Ref sig .tc := ⟨.hbm, 51, rfl⟩
abbrev main_v41 : Ref sig .tc := ⟨.hbm, 52, rfl⟩
abbrev main_cst_4 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩

abbrev nD : Nat := 1
abbrev τ : Topo := Topo.v7x

variable {F : FTy → Type} [FloatOps F]
-- ==== OddIn.lean ====
abbrev S20480x1024 : Shape := ⟨2, ![20480, 1024]⟩
abbrev S1024 : Shape := ⟨1, ![1024]⟩
abbrev S16x6x1024 : Shape := ⟨3, ![16, 6, 1024]⟩
abbrev S1024x416 : Shape := ⟨2, ![1024, 416]⟩
abbrev S256 : Shape := ⟨1, ![256]⟩
abbrev S128 : Shape := ⟨1, ![128]⟩
abbrev S256x1536 : Shape := ⟨2, ![256, 1536]⟩
abbrev S128x2048 : Shape := ⟨2, ![128, 2048]⟩
abbrev S96 : Shape := ⟨1, ![96]⟩
abbrev S2048 : Shape := ⟨1, ![2048]⟩
abbrev S_ : Shape := ⟨0, ![]⟩
abbrev S2048x1 : Shape := ⟨2, ![2048, 1]⟩
abbrev S2048x128 : Shape := ⟨2, ![2048, 128]⟩
abbrev S1x128 : Shape := ⟨2, ![1, 128]⟩
abbrev S512x128 : Shape := ⟨2, ![512, 128]⟩
abbrev S2560x128 : Shape := ⟨2, ![2560, 128]⟩
abbrev S1024x256 : Shape := ⟨2, ![1024, 256]⟩
abbrev S1024x128 : Shape := ⟨2, ![1024, 128]⟩
abbrev S1024x32 : Shape := ⟨2, ![1024, 32]⟩
abbrev S128x1 : Shape := ⟨2, ![128, 1]⟩
abbrev S1 : Shape := ⟨1, ![1]⟩
abbrev S1x1 : Shape := ⟨2, ![1, 1]⟩
abbrev S1024x640 : Shape := ⟨2, ![1024, 640]⟩
abbrev S256x16x96 : Shape := ⟨3, ![256, 16, 96]⟩
abbrev S256x16x128 : Shape := ⟨3, ![256, 16, 128]⟩
abbrev S128x16x128 : Shape := ⟨3, ![128, 16, 128]⟩
abbrev S128x16x64 : Shape := ⟨3, ![128, 16, 64]⟩
abbrev S256x2048 : Shape := ⟨2, ![256, 2048]⟩
abbrev S128x1024 : Shape := ⟨2, ![128, 1024]⟩
abbrev S1x8 : Shape := ⟨2, ![1, 8]⟩
abbrev S1x120 : Shape := ⟨2, ![1, 120]⟩
abbrev S1x256 : Shape := ⟨2, ![1, 256]⟩
abbrev S1x1024 : Shape := ⟨2, ![1, 1024]⟩
abbrev S20480x2048 : Shape := ⟨2, ![20480, 2048]⟩
abbrev S20480x128 : Shape := ⟨2, ![20480, 128]⟩
abbrev S512x1024 : Shape := ⟨2, ![512, 1024]⟩
abbrev S1x6x1024 : Shape := ⟨3, ![1, 6, 1024]⟩
abbrev S512x2048 : Shape := ⟨2, ![512, 2048]⟩
abbrev S512 : Shape := ⟨1, ![512]⟩
abbrev S512x1 : Shape := ⟨2, ![512, 1]⟩
abbrev S1x1x1024 : Shape := ⟨3, ![1, 1, 1024]⟩
abbrev S512x640 : Shape := ⟨2, ![512, 640]⟩
abbrev S512x256 : Shape := ⟨2, ![512, 256]⟩

abbrev nBuf : Space → Nat
  | .hbm => 377
  | .vmem => 30
  | .smem => 0
  | _ => 0

abbrev hbmTy0_0 (i : Nat) : BufTy := match i % 128 with
  | 0 => ⟨S20480x1024, .f32⟩
  | 1 => ⟨S1024, .f32⟩
  | 2 => ⟨S16x6x1024, .f32⟩
  | 3 => ⟨S1024x416, .f32⟩
  | 4 => ⟨S256, .f32⟩
  | 5 => ⟨S128, .f32⟩
  | 6 => ⟨S256x1536, .f32⟩
  | 7 => ⟨S128x2048, .f32⟩
  | 8 => ⟨S96, .f32⟩
  | 9 => ⟨S96, .f32⟩
  | 10 => ⟨S2048, .i32⟩
  | 11 => ⟨S_, .i32⟩
  | 12 => ⟨S2048, .i32⟩
  | 13 => ⟨S2048, .i1⟩
  | 14 => ⟨S_, .i32⟩
  | 15 => ⟨S2048, .i32⟩
  | 16 => ⟨S2048, .i32⟩
  | 17 => ⟨S_, .i32⟩
  | 18 => ⟨S2048, .i32⟩
  | 19 => ⟨S2048, .i32⟩
  | 20 => ⟨S_, .i32⟩
  | 21 => ⟨S2048, .i32⟩
  | 22 => ⟨S2048, .i32⟩
  | 23 => ⟨S_, .i32⟩
  | 24 => ⟨S2048, .i32⟩
  | 25 => ⟨S2048, .i32⟩
  | 26 => ⟨S2048, .i32⟩
  | 27 => ⟨S128, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S128, .i32⟩
  | 35 => ⟨S128, .i32⟩
  | 36 => ⟨S_, .i32⟩
  | 37 => ⟨S128, .i32⟩
  | 38 => ⟨S128, .i1⟩
  | 39 => ⟨S_, .i32⟩
  | 40 => ⟨S128, .i32⟩
  | 41 => ⟨S128, .i1⟩
  | 42 => ⟨S_, .i32⟩
  | 43 => ⟨S_, .i1⟩
  | 44 => ⟨S128, .i1⟩
  | 45 => ⟨S128, .i1⟩
  | 46 => ⟨S128, .i1⟩
  | 47 => ⟨S128, .i32⟩
  | 48 => ⟨S128, .i32⟩
  | 49 => ⟨S128, .i32⟩
  | 50 => ⟨S_, .i32⟩
  | 51 => ⟨S128, .i32⟩
  | 52 => ⟨S128, .i32⟩
  | 53 => ⟨S_, .i32⟩
  | 54 => ⟨S128, .i32⟩
  | 55 => ⟨S128, .i1⟩
  | 56 => ⟨S_, .i32⟩
  | 57 => ⟨S128, .i32⟩
  | 58 => ⟨S128, .i1⟩
  | 59 => ⟨S128, .i1⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S128, .i32⟩
  | 67 => ⟨S128, .i32⟩
  | 68 => ⟨S_, .i32⟩
  | 69 => ⟨S128, .i32⟩
  | 70 => ⟨S128, .i1⟩
  | 71 => ⟨S_, .i32⟩
  | 72 => ⟨S128, .i32⟩
  | 73 => ⟨S128, .i1⟩
  | 74 => ⟨S_, .i32⟩
  | 75 => ⟨S_, .i1⟩
  | 76 => ⟨S128, .i1⟩
  | 77 => ⟨S128, .i1⟩
  | 78 => ⟨S128, .i1⟩
  | 79 => ⟨S128, .i32⟩
  | 80 => ⟨S128, .i32⟩
  | 81 => ⟨S128, .i32⟩
  | 82 => ⟨S_, .i32⟩
  | 83 => ⟨S128, .i32⟩
  | 84 => ⟨S128, .i1⟩
  | 85 => ⟨S_, .i32⟩
  | 86 => ⟨S_, .i32⟩
  | 87 => ⟨S2048, .i32⟩
  | 88 => ⟨S2048, .i32⟩
  | 89 => ⟨S2048, .i32⟩
  | 90 => ⟨S_, .i32⟩
  | 91 => ⟨S2048, .i32⟩
  | 92 => ⟨S2048, .i1⟩
  | 93 => ⟨S2048, .i32⟩
  | 94 => ⟨S2048, .i32⟩
  | 95 => ⟨S_, .i32⟩
  | 96 => ⟨S2048, .i32⟩
  | 97 => ⟨S2048, .i1⟩
  | 98 => ⟨S2048, .i1⟩
  | 99 => ⟨S_, .i32⟩
  | 100 => ⟨S2048, .i32⟩
  | 101 => ⟨S2048, .i32⟩
  | 102 => ⟨S2048, .i32⟩
  | 103 => ⟨S2048x1, .i32⟩
  | 104 => ⟨S_, .i32⟩
  | 105 => ⟨S_, .i32⟩
  | 106 => ⟨S_, .i32⟩
  | 107 => ⟨S_, .i1⟩
  | 108 => ⟨S_, .i32⟩
  | 109 => ⟨S_, .i32⟩
  | 110 => ⟨S2048, .i32⟩
  | 111 => ⟨S2048, .i32⟩
  | 112 => ⟨S_, .i32⟩
  | 113 => ⟨S2048, .i32⟩
  | 114 => ⟨S2048, .i1⟩
  | 115 => ⟨S_, .i32⟩
  | 116 => ⟨S2048, .i32⟩
  | 117 => ⟨S2048, .i1⟩
  | 118 => ⟨S_, .i32⟩
  | 119 => ⟨S_, .i1⟩
  | 120 => ⟨S2048, .i1⟩
  | 121 => ⟨S2048, .i1⟩
  | 122 => ⟨S2048, .i1⟩
  | 123 => ⟨S2048, .i32⟩
  | 124 => ⟨S2048, .i32⟩
  | 125 => ⟨S2048, .i32⟩
  | 126 => ⟨S2048x1, .i32⟩
  | 127 => ⟨S2048x128, .i1⟩
  | _ => ⟨S20480x1024, .f32⟩

abbrev hbmTy0_1 (i : Nat) : BufTy := match i % 128 with
  | 0 => ⟨S2048x128, .i32⟩
  | 1 => ⟨S2048x128, .i32⟩
  | 2 => ⟨S2048x128, .i32⟩
  | 3 => ⟨S2048x128, .f32⟩
  | 4 => ⟨S_, .i32⟩
  | 5 => ⟨S_, .i32⟩
  | 6 => ⟨S_, .i32⟩
  | 7 => ⟨S_, .i1⟩
  | 8 => ⟨S_, .i32⟩
  | 9 => ⟨S_, .i32⟩
  | 10 => ⟨S128, .i32⟩
  | 11 => ⟨S128, .i32⟩
  | 12 => ⟨S_, .i32⟩
  | 13 => ⟨S128, .i32⟩
  | 14 => ⟨S128, .i1⟩
  | 15 => ⟨S_, .i32⟩
  | 16 => ⟨S128, .i32⟩
  | 17 => ⟨S128, .i1⟩
  | 18 => ⟨S_, .i32⟩
  | 19 => ⟨S_, .i1⟩
  | 20 => ⟨S128, .i1⟩
  | 21 => ⟨S128, .i1⟩
  | 22 => ⟨S128, .i1⟩
  | 23 => ⟨S128, .i32⟩
  | 24 => ⟨S128, .i32⟩
  | 25 => ⟨S128, .i32⟩
  | 26 => ⟨S128, .f32⟩
  | 27 => ⟨S128, .f32⟩
  | 28 => ⟨S_, .f32⟩
  | 29 => ⟨S128, .f32⟩
  | 30 => ⟨S128, .f32⟩
  | 31 => ⟨S_, .f32⟩
  | 32 => ⟨S128, .f32⟩
  | 33 => ⟨S128, .f32⟩
  | 34 => ⟨S1x128, .f32⟩
  | 35 => ⟨S2048x128, .f32⟩
  | 36 => ⟨S2048x128, .f32⟩
  | 37 => ⟨S1x128, .i1⟩
  | 38 => ⟨S2048x128, .f32⟩
  | 39 => ⟨S_, .f32⟩
  | 40 => ⟨S_, .f32⟩
  | 41 => ⟨S2048x128, .i1⟩
  | 42 => ⟨S2048x128, .f32⟩
  | 43 => ⟨S2048x128, .f32⟩
  | 44 => ⟨S1x128, .i1⟩
  | 45 => ⟨S2048x128, .f32⟩
  | 46 => ⟨S_, .f32⟩
  | 47 => ⟨S_, .f32⟩
  | 48 => ⟨S2048x128, .i1⟩
  | 49 => ⟨S2048x128, .f32⟩
  | 50 => ⟨S2048x128, .f32⟩
  | 51 => ⟨S_, .i32⟩
  | 52 => ⟨S128, .i32⟩
  | 53 => ⟨S128, .i1⟩
  | 54 => ⟨S1x128, .i1⟩
  | 55 => ⟨S_, .f32⟩
  | 56 => ⟨S_, .f32⟩
  | 57 => ⟨S2048x128, .i1⟩
  | 58 => ⟨S2048x128, .f32⟩
  | 59 => ⟨S2048x128, .f32⟩
  | 60 => ⟨S2048x128, .f32⟩
  | 61 => ⟨S_, .f32⟩
  | 62 => ⟨S_, .f32⟩
  | 63 => ⟨S2048x128, .i1⟩
  | 64 => ⟨S2048x128, .f32⟩
  | 65 => ⟨S2048x128, .f32⟩
  | 66 => ⟨S_, .f32⟩
  | 67 => ⟨S512x128, .f32⟩
  | 68 => ⟨S2560x128, .f32⟩
  | 69 => ⟨S_, .f32⟩
  | 70 => ⟨S512x128, .f32⟩
  | 71 => ⟨S2560x128, .f32⟩
  | 72 => ⟨S_, .f32⟩
  | 73 => ⟨S512x128, .f32⟩
  | 74 => ⟨S2560x128, .f32⟩
  | 75 => ⟨S1024x256, .f32⟩
  | 76 => ⟨S1024x128, .f32⟩
  | 77 => ⟨S1024x32, .f32⟩
  | 78 => ⟨S_, .i32⟩
  | 79 => ⟨S_, .f32⟩
  | 80 => ⟨S1024x128, .f32⟩
  | 81 => ⟨S128, .i32⟩
  | 82 => ⟨S_, .i32⟩
  | 83 => ⟨S128, .i32⟩
  | 84 => ⟨S128, .i32⟩
  | 85 => ⟨S_, .i32⟩
  | 86 => ⟨S128, .i32⟩
  | 87 => ⟨S128, .i1⟩
  | 88 => ⟨S_, .i32⟩
  | 89 => ⟨S128, .i32⟩
  | 90 => ⟨S128, .i1⟩
  | 91 => ⟨S128, .i1⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S128, .i32⟩
  | 99 => ⟨S128, .i32⟩
  | 100 => ⟨S_, .i32⟩
  | 101 => ⟨S128, .i32⟩
  | 102 => ⟨S128, .i1⟩
  | 103 => ⟨S_, .i32⟩
  | 104 => ⟨S128, .i32⟩
  | 105 => ⟨S128, .i1⟩
  | 106 => ⟨S_, .i32⟩
  | 107 => ⟨S_, .i1⟩
  | 108 => ⟨S128, .i1⟩
  | 109 => ⟨S128, .i1⟩
  | 110 => ⟨S128, .i1⟩
  | 111 => ⟨S128, .i32⟩
  | 112 => ⟨S128, .i32⟩
  | 113 => ⟨S128, .i32⟩
  | 114 => ⟨S_, .i32⟩
  | 115 => ⟨S128, .i32⟩
  | 116 => ⟨S128, .i1⟩
  | 117 => ⟨S_, .i32⟩
  | 118 => ⟨S128, .i32⟩
  | 119 => ⟨S128, .i32⟩
  | 120 => ⟨S_, .i32⟩
  | 121 => ⟨S128, .i32⟩
  | 122 => ⟨S128, .i32⟩
  | 123 => ⟨S128, .i32⟩
  | 124 => ⟨S128, .i32⟩
  | 125 => ⟨S_, .i32⟩
  | 126 => ⟨S128, .i32⟩
  | 127 => ⟨S128, .i1⟩
  | _ => ⟨S20480x1024, .f32⟩

abbrev hbmTy0_2 (i : Nat) : BufTy := match i % 128 with
  | 0 => ⟨S_, .i32⟩
  | 1 => ⟨S128, .i32⟩
  | 2 => ⟨S128, .i32⟩
  | 3 => ⟨S128, .i32⟩
  | 4 => ⟨S128x1, .i32⟩
  | 5 => ⟨S1, .i32⟩
  | 6 => ⟨S_, .i32⟩
  | 7 => ⟨S128x1, .i32⟩
  | 8 => ⟨S128x1, .i1⟩
  | 9 => ⟨S1x1, .i32⟩
  | 10 => ⟨S128x1, .i32⟩
  | 11 => ⟨S128x1, .i1⟩
  | 12 => ⟨S128x1, .i1⟩
  | 13 => ⟨S_, .i1⟩
  | 14 => ⟨S128, .i1⟩
  | 15 => ⟨S1024x128, .f32⟩
  | 16 => ⟨S1024x128, .i1⟩
  | 17 => ⟨S_, .f32⟩
  | 18 => ⟨S1024x128, .f32⟩
  | 19 => ⟨S1024x128, .f32⟩
  | 20 => ⟨S_, .f32⟩
  | 21 => ⟨S_, .f32⟩
  | 22 => ⟨S1024x128, .i1⟩
  | 23 => ⟨S1024x128, .f32⟩
  | 24 => ⟨S1024x128, .f32⟩
  | 25 => ⟨S1024x640, .f32⟩
  | 26 => ⟨S1024x640, .bf16⟩
  | 27 => ⟨S256x16x96, .f32⟩
  | 28 => ⟨S_, .i32⟩
  | 29 => ⟨S_, .f32⟩
  | 30 => ⟨S256x16x128, .f32⟩
  | 31 => ⟨S128x16x128, .f32⟩
  | 32 => ⟨S128x16x64, .f32⟩
  | 33 => ⟨S_, .i32⟩
  | 34 => ⟨S_, .f32⟩
  | 35 => ⟨S128x16x128, .f32⟩
  | 36 => ⟨S128x16x64, .f32⟩
  | 37 => ⟨S256x2048, .f32⟩
  | 38 => ⟨S256x2048, .bf16⟩
  | 39 => ⟨S_, .i32⟩
  | 40 => ⟨S128, .i32⟩
  | 41 => ⟨S128, .i1⟩
  | 42 => ⟨S_, .i32⟩
  | 43 => ⟨S128, .i32⟩
  | 44 => ⟨S128, .i32⟩
  | 45 => ⟨S128, .i32⟩
  | 46 => ⟨S128x1, .i32⟩
  | 47 => ⟨S1, .i32⟩
  | 48 => ⟨S_, .i32⟩
  | 49 => ⟨S128x1, .i32⟩
  | 50 => ⟨S128x1, .i1⟩
  | 51 => ⟨S1x1, .i32⟩
  | 52 => ⟨S128x1, .i32⟩
  | 53 => ⟨S128x1, .i1⟩
  | 54 => ⟨S128x1, .i1⟩
  | 55 => ⟨S_, .i1⟩
  | 56 => ⟨S128, .i1⟩
  | 57 => ⟨S256x16x128, .f32⟩
  | 58 => ⟨S256x16x128, .i1⟩
  | 59 => ⟨S_, .f32⟩
  | 60 => ⟨S256x16x128, .f32⟩
  | 61 => ⟨S256x16x128, .f32⟩
  | 62 => ⟨S_, .f32⟩
  | 63 => ⟨S_, .f32⟩
  | 64 => ⟨S256x16x128, .i1⟩
  | 65 => ⟨S256x16x128, .f32⟩
  | 66 => ⟨S256x16x128, .f32⟩
  | 67 => ⟨S256x2048, .f32⟩
  | 68 => ⟨S256x2048, .bf16⟩
  | 69 => ⟨S128x2048, .f32⟩
  | 70 => ⟨S128x2048, .bf16⟩
  | 71 => ⟨S128x1024, .f32⟩
  | 72 => ⟨S128x1024, .bf16⟩
  | 73 => ⟨S_, .i32⟩
  | 74 => ⟨S_, .f32⟩
  | 75 => ⟨S128, .f32⟩
  | 76 => ⟨S1x128, .f32⟩
  | 77 => ⟨S_, .i32⟩
  | 78 => ⟨S_, .f32⟩
  | 79 => ⟨S128, .f32⟩
  | 80 => ⟨S1x128, .f32⟩
  | 81 => ⟨S_, .f32⟩
  | 82 => ⟨S1x128, .f32⟩
  | 83 => ⟨S1x128, .f32⟩
  | 84 => ⟨S2560x128, .f32⟩
  | 85 => ⟨S2560x128, .f32⟩
  | 86 => ⟨S1x8, .f32⟩
  | 87 => ⟨S1x120, .f32⟩
  | 88 => ⟨S1x128, .f32⟩
  | 89 => ⟨S2560x128, .f32⟩
  | 90 => ⟨S2560x128, .f32⟩
  | 91 => ⟨S1x120, .f32⟩
  | 92 => ⟨S1x8, .f32⟩
  | 93 => ⟨S1x128, .f32⟩
  | 94 => ⟨S2560x128, .f32⟩
  | 95 => ⟨S2560x128, .f32⟩
  | 96 => ⟨S2560x128, .f32⟩
  | 97 => ⟨S_, .f32⟩
  | 98 => ⟨S1x128, .f32⟩
  | 99 => ⟨S1x128, .f32⟩
  | 100 => ⟨S2560x128, .f32⟩
  | 101 => ⟨S2560x128, .f32⟩
  | 102 => ⟨S1x8, .f32⟩
  | 103 => ⟨S1x120, .f32⟩
  | 104 => ⟨S1x128, .f32⟩
  | 105 => ⟨S2560x128, .f32⟩
  | 106 => ⟨S2560x128, .f32⟩
  | 107 => ⟨S1x120, .f32⟩
  | 108 => ⟨S1x8, .f32⟩
  | 109 => ⟨S1x128, .f32⟩
  | 110 => ⟨S2560x128, .f32⟩
  | 111 => ⟨S2560x128, .f32⟩
  | 112 => ⟨S2560x128, .f32⟩
  | 113 => ⟨S1x256, .f32⟩
  | 114 => ⟨S1x128, .f32⟩
  | 115 => ⟨S1x1024, .f32⟩
  | 116 => ⟨S20480x2048, .bf16⟩
  | 117 => ⟨S20480x2048, .bf16⟩
  | 118 => ⟨S20480x1024, .bf16⟩
  | 119 => ⟨S20480x128, .f32⟩
  | 120 => ⟨S20480x128, .f32⟩
  | _ => ⟨S20480x1024, .f32⟩

abbrev hbmTy (i : Nat) : BufTy := match i / 128 with
  | 0 => hbmTy0_0 i
  | 1 => hbmTy0_1 i
  | 2 => hbmTy0_2 i
  | _ => ⟨S20480x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x6x1024, .f32⟩
  | .local _ .vmem, ⟨4, _⟩ => ⟨S1x6x1024, .f32⟩
  | .local _ .vmem, ⟨5, _⟩ => ⟨S1024x640, .bf16⟩
  | .local _ .vmem, ⟨6, _⟩ => ⟨S1x256, .f32⟩
  | .local _ .vmem, ⟨7, _⟩ => ⟨S1x128, .f32⟩
  | .local _ .vmem, ⟨8, _⟩ => ⟨S256x2048, .bf16⟩
  | .local _ .vmem, ⟨9, _⟩ => ⟨S256x2048, .bf16⟩
  | .local _ .vmem, ⟨10, _⟩ => ⟨S128x2048, .bf16⟩
  | .local _ .vmem, ⟨11, _⟩ => ⟨S128x1024, .bf16⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x2048, .bf16⟩
  | .local _ .vmem, ⟨21, _⟩ => ⟨S512x2048, .bf16⟩
  | .local _ .vmem, ⟨22, _⟩ => ⟨S512x2048, .bf16⟩
  | .local _ .vmem, ⟨23, _⟩ => ⟨S512x2048, .bf16⟩
  | .local _ .vmem, ⟨24, _⟩ => ⟨S512x1024, .bf16⟩
  | .local _ .vmem, ⟨25, _⟩ => ⟨S512x1024, .bf16⟩
  | .local _ .vmem, ⟨26, _⟩ => ⟨S512x128, .f32⟩
  | .local _ .vmem, ⟨27, _⟩ => ⟨S512x128, .f32⟩
  | .local _ .vmem, ⟨28, _⟩ => ⟨S512x128, .f32⟩
  | .local _ .vmem, ⟨29, _⟩ => ⟨S512x128, .f32⟩
  | _, _ => ⟨S20480x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_c_1 : Ref sig .tc := ⟨.hbm, 17, rfl⟩
abbrev main_v5 : Ref sig .tc := ⟨.hbm, 18, rfl⟩
abbrev main_v6 : Ref sig .tc := ⟨.hbm, 19, rfl⟩
abbrev main_c_2 : Ref sig .tc := ⟨.hbm, 20, rfl⟩
abbrev main_v7 : Ref sig .tc := ⟨.hbm, 21, rfl⟩
abbrev main_v8 : Ref sig .tc := ⟨.hbm, 22, rfl⟩
abbrev main_c_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_4 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_v5 : Ref sig .tc := ⟨.hbm, 37, rfl⟩
abbrev main_call1_v6 : Ref sig .tc := ⟨.hbm, 38, rfl⟩
abbrev main_call1_c_2 : Ref sig .tc := ⟨.hbm, 39, rfl⟩
abbrev main_call1_v7 : Ref sig .tc := ⟨.hbm, 40, rfl⟩
abbrev main_call1_v8 : Ref sig .tc := ⟨.hbm, 41, rfl⟩
abbrev main_call1_c_3 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_v13 : Ref sig .tc := ⟨.hbm, 49, rfl⟩
abbrev main_c_5 : Ref sig .tc := ⟨.hbm, 50, rfl⟩
abbrev main_v14 : Ref sig .tc := ⟨.hbm, 51, rfl⟩
abbrev main_v15 : Ref sig .tc := ⟨.hbm, 52, rfl⟩
abbrev main_c_6 : Ref sig .tc := ⟨.hbm, 53, rfl⟩
abbrev main_v16 : Ref sig .tc := ⟨.hbm, 54, rfl⟩
abbrev main_v17 : Ref sig .tc := ⟨.hbm, 55, rfl⟩
abbrev main_c_7 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_c_8 : Ref sig .tc := ⟨.hbm, 60, rfl⟩
abbrev main_call2_v0 : Ref sig .tc := ⟨.hbm, 61, rfl⟩
abbrev main_call2_c : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_c_1 : Ref sig .tc := ⟨.hbm, 68, rfl⟩
abbrev main_call2_v5 : Ref sig .tc := ⟨.hbm, 69, rfl⟩
abbrev main_call2_v6 : Ref sig .tc := ⟨.hbm, 70, rfl⟩
abbrev main_call2_c_2 : Ref sig .tc := ⟨.hbm, 71, rfl⟩
abbrev main_call2_v7 : Ref sig .tc := ⟨.hbm, 72, rfl⟩
abbrev main_call2_v8 : Ref sig .tc := ⟨.hbm, 73, rfl⟩
abbrev main_call2_c_3 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_v12 : Ref sig .tc := ⟨.hbm, 78, rfl⟩
abbrev main_call2_v13 : Ref sig .tc := ⟨.hbm, 79, rfl⟩
abbrev main_call2_v14 : Ref sig .tc := ⟨.hbm, 80, rfl⟩
abbrev main_v21 : Ref sig .tc := ⟨.hbm, 81, rfl⟩
abbrev main_c_9 : Ref sig .tc := ⟨.hbm, 82, rfl⟩
abbrev main_v22 : Ref sig .tc := ⟨.hbm, 83, rfl⟩
abbrev main_v23 : Ref sig .tc := ⟨.hbm, 84, rfl⟩
abbrev main_c_10 : Ref sig .tc := ⟨.hbm, 85, rfl⟩
abbrev main_call3_v0 : Ref sig .tc := ⟨.hbm, 86, rfl⟩
abbrev main_call3_v1 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_call3_v5 : Ref sig .tc := ⟨.hbm, 91, rfl⟩
abbrev main_call3_v6 : Ref sig .tc := ⟨.hbm, 92, rfl⟩
abbrev main_call3_v7 : Ref sig .tc := ⟨.hbm, 93, rfl⟩
abbrev main_call3_v8 : Ref sig .tc := ⟨.hbm, 94, rfl⟩
abbrev main_call3_c : Ref sig .tc := ⟨.hbm, 95, rfl⟩
abbrev main_call3_v9 : Ref sig .tc := ⟨.hbm, 96, rfl⟩
abbrev main_call3_v10 : Ref sig .tc := ⟨.hbm, 97, rfl⟩
abbrev main_call3_v11 : Ref sig .tc := ⟨.hbm, 98, rfl⟩
abbrev main_call3_c_0 : Ref sig .tc := ⟨.hbm, 99, rfl⟩
abbrev main_call3_v12 : Ref sig .tc := ⟨.hbm, 100, rfl⟩
abbrev main_call3_v13 : Ref sig .tc := ⟨.hbm, 101, rfl⟩
abbrev main_v24 : Ref sig .tc := ⟨.hbm, 102, rfl⟩
abbrev main_v25 : Ref sig .tc := ⟨.hbm, 103, rfl⟩
abbrev main_c_11 : Ref sig .tc := ⟨.hbm, 104, rfl⟩
abbrev main_call4_v0 : Ref sig .tc := ⟨.hbm, 105, rfl⟩
abbrev main_call4_c : Ref sig .tc := ⟨.hbm, 106, rfl⟩
abbrev main_call4_v1 : Ref sig .tc := ⟨.hbm, 107, rfl⟩
abbrev main_call4_c_0 : Ref sig .tc := ⟨.hbm, 108, rfl⟩
abbrev main_call4_v2 : Ref sig .tc := ⟨.hbm, 109, rfl⟩
abbrev main_call4_v3 : Ref sig .tc := ⟨.hbm, 110, rfl⟩
abbrev main_call4_v4 : Ref sig .tc := ⟨.hbm, 111, rfl⟩
abbrev main_call4_c_1 : Ref sig .tc := ⟨.hbm, 112, rfl⟩
abbrev main_call4_v5 : Ref sig .tc := ⟨.hbm, 113, rfl⟩
abbrev main_call4_v6 : Ref sig .tc := ⟨.hbm, 114, rfl⟩
abbrev main_call4_c_2 : Ref sig .tc := ⟨.hbm, 115, rfl⟩
abbrev main_call4_v7 : Ref sig .tc := ⟨.hbm, 116, rfl⟩
abbrev main_call4_v8 : Ref sig .tc := ⟨.hbm, 117, rfl⟩
abbrev main_call4_c_3 : Ref sig .tc := ⟨.hbm, 118, rfl⟩
abbrev main_call4_v9 : Ref sig .tc := ⟨.hbm, 119, rfl⟩
abbrev main_call4_v10 : Ref sig .tc := ⟨.hbm, 120, rfl⟩
abbrev main_call4_v11 : Ref sig .tc := ⟨.hbm, 121, rfl⟩
abbrev main_call4_v12 : Ref sig .tc := ⟨.hbm, 122, rfl⟩
abbrev main_call4_v13 : Ref sig .tc := ⟨.hbm, 123, rfl⟩
abbrev main_call4_v14 : Ref sig .tc := ⟨.hbm, 124, rfl⟩
abbrev main_v26 : Ref sig .tc := ⟨.hbm, 125, rfl⟩
abbrev main_v27 : Ref sig .tc := ⟨.hbm, 126, rfl⟩
abbrev main_call5_v0 : Ref sig .tc := ⟨.hbm, 127, rfl⟩
abbrev main_call5_v1 : Ref sig .tc := ⟨.hbm, 128, rfl⟩
abbrev main_call5_v2 : Ref sig .tc := ⟨.hbm, 129, rfl⟩
abbrev main_v28 : Ref sig .tc := ⟨.hbm, 130, rfl⟩
abbrev main_v29 : Ref sig .tc := ⟨.hbm, 131, rfl⟩
abbrev main_c_12 : Ref sig .tc := ⟨.hbm, 132, rfl⟩
abbrev main_call6_v0 : Ref sig .tc := ⟨.hbm, 133, rfl⟩
abbrev main_call6_c : Ref sig .tc := ⟨.hbm, 134, rfl⟩
abbrev main_call6_v1 : Ref sig .tc := ⟨.hbm, 135, rfl⟩
abbrev main_call6_c_0 : Ref sig .tc := ⟨.hbm, 136, rfl⟩
abbrev main_call6_v2 : Ref sig .tc := ⟨.hbm, 137, rfl⟩
abbrev main_call6_v3 : Ref sig .tc := ⟨.hbm, 138, rfl⟩
abbrev main_call6_v4 : Ref sig .tc := ⟨.hbm, 139, rfl⟩
abbrev main_call6_c_1 : Ref sig .tc := ⟨.hbm, 140, rfl⟩
abbrev main_call6_v5 : Ref sig .tc := ⟨.hbm, 141, rfl⟩
abbrev main_call6_v6 : Ref sig .tc := ⟨.hbm, 142, rfl⟩
abbrev main_call6_c_2 : Ref sig .tc := ⟨.hbm, 143, rfl⟩
abbrev main_call6_v7 : Ref sig .tc := ⟨.hbm, 144, rfl⟩
abbrev main_call6_v8 : Ref sig .tc := ⟨.hbm, 145, rfl⟩
abbrev main_call6_c_3 : Ref sig .tc := ⟨.hbm, 146, rfl⟩
abbrev main_call6_v9 : Ref sig .tc := ⟨.hbm, 147, rfl⟩
abbrev main_call6_v10 : Ref sig .tc := ⟨.hbm, 148, rfl⟩
abbrev main_call6_v11 : Ref sig .tc := ⟨.hbm, 149, rfl⟩
abbrev main_call6_v12 : Ref sig .tc := ⟨.hbm, 150, rfl⟩
abbrev main_call6_v13 : Ref sig .tc := ⟨.hbm, 151, rfl⟩
abbrev main_call6_v14 : Ref sig .tc := ⟨.hbm, 152, rfl⟩
abbrev main_v30 : Ref sig .tc := ⟨.hbm, 153, rfl⟩
abbrev main_v31 : Ref sig .tc := ⟨.hbm, 154, rfl⟩
abbrev main_v32 : Ref sig .tc := ⟨.hbm, 155, rfl⟩
abbrev main_cst : Ref sig .tc := ⟨.hbm, 156, rfl⟩
abbrev main_v33 : Ref sig .tc := ⟨.hbm, 157, rfl⟩
abbrev main_v34 : Ref sig .tc := ⟨.hbm, 158, rfl⟩
abbrev main_cst_13 : Ref sig .tc := ⟨.hbm, 159, rfl⟩
abbrev main_v35 : Ref sig .tc := ⟨.hbm, 160, rfl⟩
abbrev main_v36 : Ref sig .tc := ⟨.hbm, 161, rfl⟩
abbrev main_v37 : Ref sig .tc := ⟨.hbm, 162, rfl⟩
abbrev main_v38 : Ref sig .tc := ⟨.hbm, 163, rfl⟩
abbrev main_v39 : Ref sig .tc := ⟨.hbm, 164, rfl⟩
abbrev main_v40 : Ref sig .tc := ⟨.hbm, 165, rfl⟩
abbrev main_v41 : Ref sig .tc := ⟨.hbm, 166, rfl⟩
abbrev main_cst_14 : Ref sig .tc := ⟨.hbm, 167, rfl⟩
abbrev main_call7_v0 : Ref sig .tc := ⟨.hbm, 168, rfl⟩
abbrev main_call7_v1 : Ref sig .tc := ⟨.hbm, 169, rfl⟩
abbrev main_call7_v2 : Ref sig .tc := ⟨.hbm, 170, rfl⟩
abbrev main_v42 : Ref sig .tc := ⟨.hbm, 171, rfl⟩
abbrev main_v43 : Ref sig .tc := ⟨.hbm, 172, rfl⟩
abbrev main_v44 : Ref sig .tc := ⟨.hbm, 173, rfl⟩
abbrev main_cst_15 : Ref sig .tc := ⟨.hbm, 174, rfl⟩
abbrev main_call8_v0 : Ref sig .tc := ⟨.hbm, 175, rfl⟩
abbrev main_call8_v1 : Ref sig .tc := ⟨.hbm, 176, rfl⟩
abbrev main_call8_v2 : Ref sig .tc := ⟨.hbm, 177, rfl⟩
abbrev main_v45 : Ref sig .tc := ⟨.hbm, 178, rfl⟩
abbrev main_c_16 : Ref sig .tc := ⟨.hbm, 179, rfl⟩
abbrev main_v46 : Ref sig .tc := ⟨.hbm, 180, rfl⟩
abbrev main_v47 : Ref sig .tc := ⟨.hbm, 181, rfl⟩
abbrev main_v48 : Ref sig .tc := ⟨.hbm, 182, rfl⟩
abbrev main_cst_17 : Ref sig .tc := ⟨.hbm, 183, rfl⟩
abbrev main_call9_v0 : Ref sig .tc := ⟨.hbm, 184, rfl⟩
abbrev main_call9_v1 : Ref sig .tc := ⟨.hbm, 185, rfl⟩
abbrev main_call9_v2 : Ref sig .tc := ⟨.hbm, 186, rfl⟩
abbrev main_v49 : Ref sig .tc := ⟨.hbm, 187, rfl⟩
abbrev main_v50 : Ref sig .tc := ⟨.hbm, 188, rfl⟩
abbrev main_cst_18 : Ref sig .tc := ⟨.hbm, 189, rfl⟩
abbrev main_call10_v0 : Ref sig .tc := ⟨.hbm, 190, rfl⟩
abbrev main_call10_v1 : Ref sig .tc := ⟨.hbm, 191, rfl⟩
abbrev main_call10_v2 : Ref sig .tc := ⟨.hbm, 192, rfl⟩
abbrev main_v51 : Ref sig .tc := ⟨.hbm, 193, rfl⟩
abbrev main_cst_19 : Ref sig .tc := ⟨.hbm, 194, rfl⟩
abbrev main_v52 : Ref sig .tc := ⟨.hbm, 195, rfl⟩
abbrev main_v53 : Ref sig .tc := ⟨.hbm, 196, rfl⟩
abbrev main_cst_20 : Ref sig .tc := ⟨.hbm, 197, rfl⟩
abbrev main_v54 : Ref sig .tc := ⟨.hbm, 198, rfl⟩
abbrev main_v55 : Ref sig .tc := ⟨.hbm, 199, rfl⟩
abbrev main_cst_21 : Ref sig .tc := ⟨.hbm, 200, rfl⟩
abbrev main_v56 : Ref sig .tc := ⟨.hbm, 201, rfl⟩
abbrev main_v57 : Ref sig .tc := ⟨.hbm, 202, rfl⟩
abbrev main_v58 : Ref sig .tc := ⟨.hbm, 203, rfl⟩
abbrev main_v59 : Ref sig .tc := ⟨.hbm, 204, rfl⟩
abbrev main_v60 : Ref sig .tc := ⟨.hbm, 205, rfl⟩
abbrev main_c_22 : Ref sig .tc := ⟨.hbm, 206, rfl⟩
abbrev main_call11_v0 : Ref sig .tc := ⟨.hbm, 207, rfl⟩
abbrev main_v61 : Ref sig .tc := ⟨.hbm, 208, rfl⟩
abbrev main_v62 : Ref sig .tc := ⟨.hbm, 209, rfl⟩
abbrev main_c_23 : Ref sig .tc := ⟨.hbm, 210, rfl⟩
abbrev main_v63 : Ref sig .tc := ⟨.hbm, 211, rfl⟩
abbrev main_v64 : Ref sig .tc := ⟨.hbm, 212, rfl⟩
abbrev main_c_24 : Ref sig .tc := ⟨.hbm, 213, rfl⟩
abbrev main_v65 : Ref sig .tc := ⟨.hbm, 214, rfl⟩
abbrev main_v66 : Ref sig .tc := ⟨.hbm, 215, rfl⟩
abbrev main_c_25 : Ref sig .tc := ⟨.hbm, 216, rfl⟩
abbrev main_v67 : Ref sig .tc := ⟨.hbm, 217, rfl⟩
abbrev main_v68 : Ref sig .tc := ⟨.hbm, 218, rfl⟩
abbrev main_v69 : Ref sig .tc := ⟨.hbm, 219, rfl⟩
abbrev main_c_26 : Ref sig .tc := ⟨.hbm, 220, rfl⟩
abbrev main_call12_v0 : Ref sig .tc := ⟨.hbm, 221, rfl⟩
abbrev main_call12_c : Ref sig .tc := ⟨.hbm, 222, rfl⟩
abbrev main_call12_v1 : Ref sig .tc := ⟨.hbm, 223, rfl⟩
abbrev main_call12_c_0 : Ref sig .tc := ⟨.hbm, 224, rfl⟩
abbrev main_call12_v2 : Ref sig .tc := ⟨.hbm, 225, rfl⟩
abbrev main_call12_v3 : Ref sig .tc := ⟨.hbm, 226, rfl⟩
abbrev main_call12_v4 : Ref sig .tc := ⟨.hbm, 227, rfl⟩
abbrev main_call12_c_1 : Ref sig .tc := ⟨.hbm, 228, rfl⟩
abbrev main_call12_v5 : Ref sig .tc := ⟨.hbm, 229, rfl⟩
abbrev main_call12_v6 : Ref sig .tc := ⟨.hbm, 230, rfl⟩
abbrev main_call12_c_2 : Ref sig .tc := ⟨.hbm, 231, rfl⟩
abbrev main_call12_v7 : Ref sig .tc := ⟨.hbm, 232, rfl⟩
abbrev main_call12_v8 : Ref sig .tc := ⟨.hbm, 233, rfl⟩
abbrev main_call12_c_3 : Ref sig .tc := ⟨.hbm, 234, rfl⟩
abbrev main_call12_v9 : Ref sig .tc := ⟨.hbm, 235, rfl⟩
abbrev main_call12_v10 : Ref sig .tc := ⟨.hbm, 236, rfl⟩
abbrev main_call12_v11 : Ref sig .tc := ⟨.hbm, 237, rfl⟩
abbrev main_call12_v12 : Ref sig .tc := ⟨.hbm, 238, rfl⟩
abbrev main_call12_v13 : Ref sig .tc := ⟨.hbm, 239, rfl⟩
abbrev main_call12_v14 : Ref sig .tc := ⟨.hbm, 240, rfl⟩
abbrev main_v70 : Ref sig .tc := ⟨.hbm, 241, rfl⟩
abbrev main_c_27 : Ref sig .tc := ⟨.hbm, 242, rfl⟩
abbrev main_v71 : Ref sig .tc := ⟨.hbm, 243, rfl⟩
abbrev main_v72 : Ref sig .tc := ⟨.hbm, 244, rfl⟩
abbrev main_c_28 : Ref sig .tc := ⟨.hbm, 245, rfl⟩
abbrev main_v73 : Ref sig .tc := ⟨.hbm, 246, rfl⟩
abbrev main_v74 : Ref sig .tc := ⟨.hbm, 247, rfl⟩
abbrev main_c_29 : Ref sig .tc := ⟨.hbm, 248, rfl⟩
abbrev main_v75 : Ref sig .tc := ⟨.hbm, 249, rfl⟩
abbrev main_v76 : Ref sig .tc := ⟨.hbm, 250, rfl⟩
abbrev main_v77 : Ref sig .tc := ⟨.hbm, 251, rfl⟩
abbrev main_v78 : Ref sig .tc := ⟨.hbm, 252, rfl⟩
abbrev main_call15_c : Ref sig .tc := ⟨.hbm, 253, rfl⟩
abbrev main_call15_v0 : Ref sig .tc := ⟨.hbm, 254, rfl⟩
abbrev main_call15_v1 : Ref sig .tc := ⟨.hbm, 255, rfl⟩
abbrev main_call15_c_0 : Ref sig .tc := ⟨.hbm, 256, rfl⟩
abbrev main_call15_v2 : Ref sig .tc := ⟨.hbm, 257, rfl⟩
abbrev main_call15_v3 : Ref sig .tc := ⟨.hbm, 258, rfl⟩
abbrev main_call15_v4 : Ref sig .tc := ⟨.hbm, 259, rfl⟩
abbrev main_call15_v5 : Ref sig .tc := ⟨.hbm, 260, rfl⟩
abbrev main_call15_c_1 : Ref sig .tc := ⟨.hbm, 261, rfl⟩
abbrev main_call15_c_2 : Ref sig .tc := ⟨.hbm, 262, rfl⟩
abbrev main_call15_v6 : Ref sig .tc := ⟨.hbm, 263, rfl⟩
abbrev main_call15_v7 : Ref sig .tc := ⟨.hbm, 264, rfl⟩
abbrev main_call15_v8 : Ref sig .tc := ⟨.hbm, 265, rfl⟩
abbrev main_call15_v9 : Ref sig .tc := ⟨.hbm, 266, rfl⟩
abbrev main_call15_v10 : Ref sig .tc := ⟨.hbm, 267, rfl⟩
abbrev main_call15_v11 : Ref sig .tc := ⟨.hbm, 268, rfl⟩
abbrev main_call15_c_3 : Ref sig .tc := ⟨.hbm, 269, rfl⟩
abbrev main_call15_v12 : Ref sig .tc := ⟨.hbm, 270, rfl⟩
abbrev main_call15_v13 : Ref sig .tc := ⟨.hbm, 271, rfl⟩
abbrev main_call15_v14 : Ref sig .tc := ⟨.hbm, 272, rfl⟩
abbrev main_call15_cst : Ref sig .tc := ⟨.hbm, 273, rfl⟩
abbrev main_call15_v15 : Ref sig .tc := ⟨.hbm, 274, rfl⟩
abbrev main_v79 : Ref sig .tc := ⟨.hbm, 275, rfl⟩
abbrev main_cst_30 : Ref sig .tc := ⟨.hbm, 276, rfl⟩
abbrev main_call16_v0 : Ref sig .tc := ⟨.hbm, 277, rfl⟩
abbrev main_call16_v1 : Ref sig .tc := ⟨.hbm, 278, rfl⟩
abbrev main_call16_v2 : Ref sig .tc := ⟨.hbm, 279, rfl⟩
abbrev main_v80 : Ref sig .tc := ⟨.hbm, 280, rfl⟩
abbrev main_v81 : Ref sig .tc := ⟨.hbm, 281, rfl⟩
abbrev main_v82 : Ref sig .tc := ⟨.hbm, 282, rfl⟩
abbrev main_v83 : Ref sig .tc := ⟨.hbm, 283, rfl⟩
abbrev main_c_31 : Ref sig .tc := ⟨.hbm, 284, rfl⟩
abbrev main_call17_v0 : Ref sig .tc := ⟨.hbm, 285, rfl⟩
abbrev main_v84 : Ref sig .tc := ⟨.hbm, 286, rfl⟩
abbrev main_v85 : Ref sig .tc := ⟨.hbm, 287, rfl⟩
abbrev main_v86 : Ref sig .tc := ⟨.hbm, 288, rfl⟩
abbrev main_c_32 : Ref sig .tc := ⟨.hbm, 289, rfl⟩
abbrev main_call18_v0 : Ref sig .tc := ⟨.hbm, 290, rfl⟩
abbrev main_v87 : Ref sig .tc := ⟨.hbm, 291, rfl⟩
abbrev main_v88 : Ref sig .tc := ⟨.hbm, 292, rfl⟩
abbrev main_v89 : Ref sig .tc := ⟨.hbm, 293, rfl⟩
abbrev main_v90 : Ref sig .tc := ⟨.hbm, 294, rfl⟩
abbrev main_call19_c : Ref sig .tc := ⟨.hbm, 295, rfl⟩
abbrev main_call19_v0 : Ref sig .tc := ⟨.hbm, 296, rfl⟩
abbrev main_call19_v1 : Ref sig .tc := ⟨.hbm, 297, rfl⟩
abbrev main_call19_c_0 : Ref sig .tc := ⟨.hbm, 298, rfl⟩
abbrev main_call19_v2 : Ref sig .tc := ⟨.hbm, 299, rfl⟩
abbrev main_call19_v3 : Ref sig .tc := ⟨.hbm, 300, rfl⟩
abbrev main_call19_v4 : Ref sig .tc := ⟨.hbm, 301, rfl⟩
abbrev main_call19_v5 : Ref sig .tc := ⟨.hbm, 302, rfl⟩
abbrev main_call19_c_1 : Ref sig .tc := ⟨.hbm, 303, rfl⟩
abbrev main_call19_c_2 : Ref sig .tc := ⟨.hbm, 304, rfl⟩
abbrev main_call19_v6 : Ref sig .tc := ⟨.hbm, 305, rfl⟩
abbrev main_call19_v7 : Ref sig .tc := ⟨.hbm, 306, rfl⟩
abbrev main_call19_v8 : Ref sig .tc := ⟨.hbm, 307, rfl⟩
abbrev main_call19_v9 : Ref sig .tc := ⟨.hbm, 308, rfl⟩
abbrev main_call19_v10 : Ref sig .tc := ⟨.hbm, 309, rfl⟩
abbrev main_call19_v11 : Ref sig .tc := ⟨.hbm, 310, rfl⟩
abbrev main_call19_c_3 : Ref sig .tc := ⟨.hbm, 311, rfl⟩
abbrev main_call19_v12 : Ref sig .tc := ⟨.hbm, 312, rfl⟩
abbrev main_call19_v13 : Ref sig .tc := ⟨.hbm, 313, rfl⟩
abbrev main_call19_v14 : Ref sig .tc := ⟨.hbm, 314, rfl⟩
abbrev main_call19_cst : Ref sig .tc := ⟨.hbm, 315, rfl⟩
abbrev main_call19_v15 : Ref sig .tc := ⟨.hbm, 316, rfl⟩
abbrev main_v91 : Ref sig .tc := ⟨.hbm, 317, rfl⟩
abbrev main_cst_33 : Ref sig .tc := ⟨.hbm, 318, rfl⟩
abbrev main_call20_v0 : Ref sig .tc := ⟨.hbm, 319, rfl⟩
abbrev main_call20_v1 : Ref sig .tc := ⟨.hbm, 320, rfl⟩
abbrev main_call20_v2 : Ref sig .tc := ⟨.hbm, 321, rfl⟩
abbrev main_v92 : Ref sig .tc := ⟨.hbm, 322, rfl⟩
abbrev main_v93 : Ref sig .tc := ⟨.hbm, 323, rfl⟩
abbrev main_v94 : Ref sig .tc := ⟨.hbm, 324, rfl⟩
abbrev main_v95 : Ref sig .tc := ⟨.hbm, 325, rfl⟩
abbrev main_v96 : Ref sig .tc := ⟨.hbm, 326, rfl⟩
abbrev main_v97 : Ref sig .tc := ⟨.hbm, 327, rfl⟩
abbrev main_v98 : Ref sig .tc := ⟨.hbm, 328, rfl⟩
abbrev main_c_34 : Ref sig .tc := ⟨.hbm, 329, rfl⟩
abbrev main_call21_v0 : Ref sig .tc := ⟨.hbm, 330, rfl⟩
abbrev main_v99 : Ref sig .tc := ⟨.hbm, 331, rfl⟩
abbrev main_v100 : Ref sig .tc := ⟨.hbm, 332, rfl⟩
abbrev main_c_35 : Ref sig .tc := ⟨.hbm, 333, rfl⟩
abbrev main_call22_v0 : Ref sig .tc := ⟨.hbm, 334, rfl⟩
abbrev main_v101 : Ref sig .tc := ⟨.hbm, 335, rfl⟩
abbrev main_v102 : Ref sig .tc := ⟨.hbm, 336, rfl⟩
abbrev main_cst_36 : Ref sig .tc := ⟨.hbm, 337, rfl⟩
abbrev main_v103 : Ref sig .tc := ⟨.hbm, 338, rfl⟩
abbrev main_v104 : Ref sig .tc := ⟨.hbm, 339, rfl⟩
abbrev main_v105 : Ref sig .tc := ⟨.hbm, 340, rfl⟩
abbrev main_v106 : Ref sig .tc := ⟨.hbm, 341, rfl⟩
abbrev main_call23_v0 : Ref sig .tc := ⟨.hbm, 342, rfl⟩
abbrev main_call23_v1 : Ref sig .tc := ⟨.hbm, 343, rfl⟩
abbrev main_v107 : Ref sig .tc := ⟨.hbm, 344, rfl⟩
abbrev main_v108 : Ref sig .tc := ⟨.hbm, 345, rfl⟩
abbrev main_v109 : Ref sig .tc := ⟨.hbm, 346, rfl⟩
abbrev main_call24_v0 : Ref sig .tc := ⟨.hbm, 347, rfl⟩
abbrev main_call24_v1 : Ref sig .tc := ⟨.hbm, 348, rfl⟩
abbrev main_v110 : Ref sig .tc := ⟨.hbm, 349, rfl⟩
abbrev main_v111 : Ref sig .tc := ⟨.hbm, 350, rfl⟩
abbrev main_v112 : Ref sig .tc := ⟨.hbm, 351, rfl⟩
abbrev main_v113 : Ref sig .tc := ⟨.hbm, 352, rfl⟩
abbrev main_cst_37 : Ref sig .tc := ⟨.hbm, 353, rfl⟩
abbrev main_v114 : Ref sig .tc := ⟨.hbm, 354, rfl⟩
abbrev main_v115 : Ref sig .tc := ⟨.hbm, 355, rfl⟩
abbrev main_v116 : Ref sig .tc := ⟨.hbm, 356, rfl⟩
abbrev main_v117 : Ref sig .tc := ⟨.hbm, 357, rfl⟩
abbrev main_call25_v0 : Ref sig .tc := ⟨.hbm, 358, rfl⟩
abbrev main_call25_v1 : Ref sig .tc := ⟨.hbm, 359, rfl⟩
abbrev main_v118 : Ref sig .tc := ⟨.hbm, 360, rfl⟩
abbrev main_v119 : Ref sig .tc := ⟨.hbm, 361, rfl⟩
abbrev main_v120 : Ref sig .tc := ⟨.hbm, 362, rfl⟩
abbrev main_call26_v0 : Ref sig .tc := ⟨.hbm, 363, rfl⟩
abbrev main_call26_v1 : Ref sig .tc := ⟨.hbm, 364, rfl⟩
abbrev main_v121 : Ref sig .tc := ⟨.hbm, 365, rfl⟩
abbrev main_v122 : Ref sig .tc := ⟨.hbm, 366, rfl⟩
abbrev main_v123 : Ref sig .tc := ⟨.hbm, 367, rfl⟩
abbrev main_v124 : Ref sig .tc := ⟨.hbm, 368, rfl⟩
abbrev main_v125 : Ref sig .tc := ⟨.hbm, 369, rfl⟩
abbrev main_v126 : Ref sig .tc := ⟨.hbm, 370, rfl⟩
abbrev main_v127 : Ref sig .tc := ⟨.hbm, 371, rfl⟩
abbrev main_v128_0 : Ref sig .tc := ⟨.hbm, 372, rfl⟩
abbrev main_v128_1 : Ref sig .tc := ⟨.hbm, 373, rfl⟩
abbrev main_v128_2 : Ref sig .tc := ⟨.hbm, 374, rfl⟩
abbrev main_v128_3 : Ref sig .tc := ⟨.hbm, 375, rfl⟩
abbrev main_v128_4 : Ref sig .tc := ⟨.hbm, 376, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi c1_i32_4 v11
  let c0_i32_5 : BitVec 32 := 0#32
  let v13 : BitVec 32 := Scalar.select v0 c0_i32_5 v12
  let c0_i32_6 : BitVec 32 := 0#32
  let c0_i32_7 : BitVec 32 := 0#32
  ![v13.toNat, c0_i32_6.toNat]

def cc0_transform_11 (i : grid0.Coords) : Fin 2 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi c1_i32_4 v11
  let c0_i32_5 : BitVec 32 := 0#32
  let v13 : BitVec 32 := Scalar.select v0 c0_i32_5 v12
  let c0_i32_6 : BitVec 32 := 0#32
  let c0_i32_7 : BitVec 32 := 0#32
  ![v13.toNat, c0_i32_6.toNat]

def cc0_transform_12 (i : grid0.Coords) : Fin 2 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi c1_i32_4 v11
  let c0_i32_5 : BitVec 32 := 0#32
  let v13 : BitVec 32 := Scalar.select v0 c0_i32_5 v12
  let c0_i32_6 : BitVec 32 := 0#32
  let c0_i32_7 : BitVec 32 := 0#32
  ![v13.toNat, c0_i32_6.toNat]

def cc0_transform_13 (i : grid0.Coords) : Fin 2 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi c1_i32_4 v11
  let c0_i32_5 : BitVec 32 := 0#32
  let v13 : BitVec 32 := Scalar.select v0 c0_i32_5 v12
  let c0_i32_6 : BitVec 32 := 0#32
  let c0_i32_7 : BitVec 32 := 0#32
  ![v13.toNat, c0_i32_6.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== OddInRefIdeal.lean ====
abbrev S20480x1024 : Shape := ⟨2, ![20480, 1024]⟩
abbrev S1024 : Shape := ⟨1, ![1024]⟩
abbrev S16x6x1024 : Shape := ⟨3, ![16, 6, 1024]⟩
abbrev S1024x416 : Shape := ⟨2, ![1024, 416]⟩
abbrev S256 : Shape := ⟨1, ![256]⟩
abbrev S128 : Shape := ⟨1, ![128]⟩
abbrev S256x1536 : Shape := ⟨2, ![256, 1536]⟩
abbrev S128x2048 : Shape := ⟨2, ![128, 2048]⟩
abbrev S96 : Shape := ⟨1, ![96]⟩
abbrev S_ : Shape := ⟨0, ![]⟩
abbrev S20480 : Shape := ⟨1, ![20480]⟩
abbrev S20480x1 : Shape := ⟨2, ![20480, 1]⟩
abbrev S1x1024 : Shape := ⟨2, ![1, 1024]⟩
abbrev S16x1x1024 : Shape := ⟨3, ![16, 1, 1024]⟩
abbrev S16x1024 : Shape := ⟨2, ![16, 1024]⟩
abbrev S4096x1024 : Shape := ⟨2, ![4096, 1024]⟩
abbrev S8x1024 : Shape := ⟨2, ![8, 1024]⟩
abbrev S8x2048x1024 : Shape := ⟨3, ![8, 2048, 1024]⟩
abbrev S16384x1024 : Shape := ⟨2, ![16384, 1024]⟩
abbrev S20480x416 : Shape := ⟨2, ![20480, 416]⟩
abbrev S20480x256 : Shape := ⟨2, ![20480, 256]⟩
abbrev S20480x128 : Shape := ⟨2, ![20480, 128]⟩
abbrev S20480x32 : Shape := ⟨2, ![20480, 32]⟩
abbrev S1x128 : Shape := ⟨2, ![1, 128]⟩
abbrev S20480x2048 : Shape := ⟨2, ![20480, 2048]⟩
abbrev S20480x16x128 : Shape := ⟨3, ![20480, 16, 128]⟩
abbrev S20480x16x64 : Shape := ⟨3, ![20480, 16, 64]⟩

abbrev nBuf : Space → Nat
  | .hbm => 76
  | .vmem => 0
  | .smem => 0
  | _ => 0

abbrev bufTy : (tb : Table) → Fin (tcTables nBuf tb) → BufTy
  | .hbm, ⟨0, _⟩ => ⟨S20480x1024, .f32⟩
  | .hbm, ⟨1, _⟩ => ⟨S1024, .f32⟩
  | .hbm, ⟨2, _⟩ => ⟨S16x6x1024, .f32⟩
  | .hbm, ⟨3, _⟩ => ⟨S1024x416, .f32⟩
  | .hbm, ⟨4, _⟩ => ⟨S256, .f32⟩
  | .hbm, ⟨5, _⟩ => ⟨S128, .f32⟩
  | .hbm, ⟨6, _⟩ => ⟨S256x1536, .f32⟩
  | .hbm, ⟨7, _⟩ => ⟨S128x2048, .f32⟩
  | .hbm, ⟨8, _⟩ => ⟨S96, .f32⟩
  | .hbm, ⟨9, _⟩ => ⟨S96, .f32⟩
  | .hbm, ⟨10, _⟩ => ⟨S20480x1024, .f32⟩
  | .hbm, ⟨11, _⟩ => ⟨S_, .f32⟩
  | .hbm, ⟨12, _⟩ => ⟨S20480, .f32⟩
  | .hbm, ⟨13, _⟩ => ⟨S20480x1, .f32⟩
  | .hbm, ⟨14, _⟩ => ⟨S_, .f32⟩
  | .hbm, ⟨15, _⟩ => ⟨S20480x1, .f32⟩
  | .hbm, ⟨16, _⟩ => ⟨S20480x1, .f32⟩
  | .hbm, ⟨17, _⟩ => ⟨S_, .f32⟩
  | .hbm, ⟨18, _⟩ => ⟨S20480x1, .f32⟩
  | .hbm, ⟨19, _⟩ => ⟨S20480x1, .f32⟩
  | .hbm, ⟨20, _⟩ => ⟨S20480x1, .f32⟩
  | .hbm, ⟨21, _⟩ => ⟨S20480x1024, .f32⟩
  | .hbm, ⟨22, _⟩ => ⟨S20480x1024, .f32⟩
  | .hbm, ⟨23, _⟩ => ⟨S1x1024, .f32⟩
  | .hbm, ⟨24, _⟩ => ⟨S20480x1024, .f32⟩
  | .hbm, ⟨25, _⟩ => ⟨S20480x1024, .f32⟩
  | .hbm, ⟨26, _⟩ => ⟨S16x1x1024, .f32⟩
  | .hbm, ⟨27, _⟩ => ⟨S16x1024, .f32⟩
  | .hbm, ⟨28, _⟩ => ⟨S1x1024, .f32⟩
  | .hbm, ⟨29, _⟩ => ⟨S4096x1024, .f32⟩
  | .hbm, ⟨30, _⟩ => ⟨S8x1024, .f32⟩
  | .hbm, ⟨31, _⟩ => ⟨S8x2048x1024, .f32⟩
  | .hbm, ⟨32, _⟩ => ⟨S16384x1024, .f32⟩
  | .hbm, ⟨33, _⟩ => ⟨S20480x1024, .f32⟩
  | .hbm, ⟨34, _⟩ => ⟨S_, .f32⟩
  | .hbm, ⟨35, _⟩ => ⟨S20480x1024, .f32⟩
  | .hbm, ⟨36, _⟩ => ⟨S20480x1024, .f32⟩
  | .hbm, ⟨37, _⟩ => ⟨S20480x1024, .f32⟩
  | .hbm, ⟨38, _⟩ => ⟨S16x1x1024, .f32⟩
  | .hbm, ⟨39, _⟩ => ⟨S16x1024, .f32⟩
  | .hbm, ⟨40, _⟩ => ⟨S1x1024, .f32⟩
  | .hbm, ⟨41, _⟩ => ⟨S4096x1024, .f32⟩
  | .hbm, ⟨42, _⟩ => ⟨S8x1024, .f32⟩
  | .hbm, ⟨43, _⟩ => ⟨S8x2048x1024, .f32⟩
  | .hbm, ⟨44, _⟩ => ⟨S16384x1024, .f32⟩
  | .hbm, ⟨45, _⟩ => ⟨S20480x1024, .f32⟩
  | .hbm, ⟨46, _⟩ => ⟨S20480x1024, .f32⟩
  | .hbm, ⟨47, _⟩ => ⟨S20480x416, .f32⟩
  | .hbm, ⟨48, _⟩ => ⟨S20480x256, .f32⟩
  | .hbm, ⟨49, _⟩ => ⟨S20480x128, .f32⟩
  | .hbm, ⟨50, _⟩ => ⟨S20480x32, .f32⟩
  | .hbm, ⟨51, _⟩ => ⟨S20480x128, .f32⟩
  | .hbm, ⟨52, _⟩ => ⟨S_, .f32⟩
  | .hbm, ⟨53, _⟩ => ⟨S20480, .f32⟩
  | .hbm, ⟨54, _⟩ => ⟨S20480x1, .f32⟩
  | .hbm, ⟨55, _⟩ => ⟨S_, .f32⟩
  | .hbm, ⟨56, _⟩ => ⟨S20480x1, .f32⟩
  | .hbm, ⟨57, _⟩ => ⟨S20480x1, .f32⟩
  | .hbm, ⟨58, _⟩ => ⟨S_, .f32⟩
  | .hbm, ⟨59, _⟩ => ⟨S20480x1, .f32⟩
  | .hbm, ⟨60, _⟩ => ⟨S20480x1, .f32⟩
  | .hbm, ⟨61, _⟩ => ⟨S20480x1, .f32⟩
  | .hbm, ⟨62, _⟩ => ⟨S20480x128, .f32⟩
  | .hbm, ⟨63, _⟩ => ⟨S20480x128, .f32⟩
  | .hbm, ⟨64, _⟩ => ⟨S1x128, .f32⟩
  | .hbm, ⟨65, _⟩ => ⟨S20480x128, .f32⟩
  | .hbm, ⟨66, _⟩ => ⟨S20480x128, .f32⟩
  | .hbm, ⟨67, _⟩ => ⟨S20480x2048, .f32⟩
  | .hbm, ⟨68, _⟩ => ⟨S20480x16x128, .f32⟩
  | .hbm, ⟨69, _⟩ => ⟨S20480x16x64, .f32⟩
  | .hbm, ⟨70, _⟩ => ⟨S20480x16x64, .f32⟩
  | .hbm, ⟨71, _⟩ => ⟨S20480x1024, .f32⟩
  | .hbm, ⟨72, _⟩ => ⟨S20480x1024, .bf16⟩
  | .hbm, ⟨73, _⟩ => ⟨S_, .i32⟩
  | .hbm, ⟨74, _⟩ => ⟨S_, .f32⟩
  | .hbm, ⟨75, _⟩ => ⟨S20480x128, .f32⟩
  | _, _ => ⟨S20480x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_3 : Ref sig .tc := ⟨.hbm, 52, rfl⟩
abbrev main_v38 : Ref sig .tc := ⟨.hbm, 53, rfl⟩
abbrev main_v39 : Ref sig .tc := ⟨.hbm, 54, rfl⟩
abbrev main_cst_4 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_c : Ref sig .tc := ⟨.hbm, 73, rfl⟩
abbrev main_call0_v0 : Ref sig .tc := ⟨.hbm, 74, rfl⟩
abbrev main_v56 : Ref sig .tc := ⟨.hbm, 75, rfl⟩

abbrev nD : Nat := 1
abbrev τ : Topo := Topo.v7x

variable {F : FTy → Type} [FloatOps F]
-- ==== OddOut.lean ====
abbrev S4096x1024 : Shape := ⟨2, ![4096, 1024]⟩
abbrev S16384x1024 : Shape := ⟨2, ![16384, 1024]⟩
abbrev S1024x1024 : Shape := ⟨2, ![1024, 1024]⟩
abbrev S20480x1024 : Shape := ⟨2, ![20480, 1024]⟩
abbrev S16x6x1024 : Shape := ⟨3, ![16, 6, 1024]⟩
abbrev S512x1024 : Shape := ⟨2, ![512, 1024]⟩
abbrev S1x6x1024 : Shape := ⟨3, ![1, 6, 1024]⟩
abbrev S1x1x1024 : Shape := ⟨3, ![1, 1, 1024]⟩
abbrev S1x1024 : Shape := ⟨2, ![1, 1024]⟩

abbrev nBuf : Space → Nat
  | .hbm => 9
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S16384x1024, .f32⟩
  | .hbm, ⟨2, _⟩ => ⟨S1024x1024, .f32⟩
  | .hbm, ⟨3, _⟩ => ⟨S20480x1024, .f32⟩
  | .hbm, ⟨4, _⟩ => ⟨S16x6x1024, .f32⟩
  | .hbm, ⟨5, _⟩ => ⟨S4096x1024, .bf16⟩
  | .hbm, ⟨6, _⟩ => ⟨S16384x1024, .bf16⟩
  | .hbm, ⟨7, _⟩ => ⟨S1024x1024, .bf16⟩
  | .hbm, ⟨8, _⟩ => ⟨S20480x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1x6x1024, .f32⟩
  | .local _ .vmem, ⟨8, _⟩ => ⟨S1x6x1024, .f32⟩
  | .local _ .vmem, ⟨9, _⟩ => ⟨S512x1024, .f32⟩
  | .local _ .vmem, ⟨10, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![40], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OddOutRefIdeal.lean ====
abbrev S4096x1024 : Shape := ⟨2, ![4096, 1024]⟩
abbrev S16384x1024 : Shape := ⟨2, ![16384, 1024]⟩
abbrev S1024x1024 : Shape := ⟨2, ![1024, 1024]⟩
abbrev S20480x1024 : Shape := ⟨2, ![20480, 1024]⟩
abbrev S16x6x1024 : Shape := ⟨3, ![16, 6, 1024]⟩
abbrev S16x1x1024 : Shape := ⟨3, ![16, 1, 1024]⟩
abbrev S16x1024 : Shape := ⟨2, ![16, 1024]⟩
abbrev S1x1024 : Shape := ⟨2, ![1, 1024]⟩
abbrev S8x1024 : Shape := ⟨2, ![8, 1024]⟩
abbrev S8x2048x1024 : Shape := ⟨3, ![8, 2048, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S16384x1024, .f32⟩
  | .hbm, ⟨2, _⟩ => ⟨S1024x1024, .f32⟩
  | .hbm, ⟨3, _⟩ => ⟨S20480x1024, .f32⟩
  | .hbm, ⟨4, _⟩ => ⟨S16x6x1024, .f32⟩
  | .hbm, ⟨5, _⟩ => ⟨S20480x1024, .f32⟩
  | .hbm, ⟨6, _⟩ => ⟨S16x1x1024, .f32⟩
  | .hbm, ⟨7, _⟩ => ⟨S16x1024, .f32⟩
  | .hbm, ⟨8, _⟩ => ⟨S1x1024, .f32⟩
  | .hbm, ⟨9, _⟩ => ⟨S4096x1024, .f32⟩
  | .hbm, ⟨10, _⟩ => ⟨S8x1024, .f32⟩
  | .hbm, ⟨11, _⟩ => ⟨S8x2048x1024, .f32⟩
  | .hbm, ⟨12, _⟩ => ⟨S16384x1024, .f32⟩
  | .hbm, ⟨13, _⟩ => ⟨S20480x1024, .f32⟩
  | .hbm, ⟨14, _⟩ => ⟨S20480x1024, .f32⟩
  | .hbm, ⟨15, _⟩ => ⟨S20480x1024, .f32⟩
  | .hbm, ⟨16, _⟩ => ⟨S20480x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== EvenOut.lean ====
abbrev S4096x512 : Shape := ⟨2, ![4096, 512]⟩
abbrev S4096x8x64 : Shape := ⟨3, ![4096, 8, 64]⟩
abbrev S16384x512 : Shape := ⟨2, ![16384, 512]⟩
abbrev S16384x8x64 : Shape := ⟨3, ![16384, 8, 64]⟩
abbrev S1024x1024 : Shape := ⟨2, ![1024, 1024]⟩
abbrev S20480x1024 : Shape := ⟨2, ![20480, 1024]⟩
abbrev S16x6x1024 : Shape := ⟨3, ![16, 6, 1024]⟩
abbrev S8 : Shape := ⟨1, ![8]⟩
abbrev S_ : Shape := ⟨0, ![]⟩
abbrev S8x1 : Shape := ⟨2, ![8, 1]⟩
abbrev S1x2 : Shape := ⟨2, ![1, 2]⟩
abbrev S8x2 : Shape := ⟨2, ![8, 2]⟩
abbrev S512x1024 : Shape := ⟨2, ![512, 1024]⟩
abbrev S8x1x64x1024 : Shape := ⟨4, ![8, 1, 64, 1024]⟩
abbrev S8x2x1x1 : Shape := ⟨4, ![8, 2, 1, 1]⟩
abbrev S8x2x64x1024 : Shape := ⟨4, ![8, 2, 64, 1024]⟩
abbrev S4096x8x1x64 : Shape := ⟨4, ![4096, 8, 1, 64]⟩
abbrev S1x8x2x1 : Shape := ⟨4, ![1, 8, 2, 1]⟩
abbrev S4096x8x2x64 : Shape := ⟨4, ![4096, 8, 2, 64]⟩
abbrev S4096x1024 : Shape := ⟨2, ![4096, 1024]⟩
abbrev S16384x8x1x64 : Shape := ⟨4, ![16384, 8, 1, 64]⟩
abbrev S16384x8x2x64 : Shape := ⟨4, ![16384, 8, 2, 64]⟩
abbrev S16384x1024 : Shape := ⟨2, ![16384, 1024]⟩
abbrev S512x512 : Shape := ⟨2, ![512, 512]⟩
abbrev S1x6x1024 : Shape := ⟨3, ![1, 6, 1024]⟩
abbrev S1x1x1024 : Shape := ⟨3, ![1, 1, 1024]⟩
abbrev S1x1024 : Shape := ⟨2, ![1, 1024]⟩

abbrev nBuf : Space → Nat
  | .hbm => 59
  | .vmem => 16
  | .smem => 0
  | _ => 0

abbrev bufTy : (tb : Table) → Fin (tcTables nBuf tb) → BufTy
  | .hbm, ⟨0, _⟩ => ⟨S4096x512, .f32⟩
  | .hbm, ⟨1, _⟩ => ⟨S4096x8x64, .f32⟩
  | .hbm, ⟨2, _⟩ => ⟨S16384x512, .f32⟩
  | .hbm, ⟨3, _⟩ => ⟨S16384x8x64, .f32⟩
  | .hbm, ⟨4, _⟩ => ⟨S1024x1024, .f32⟩
  | .hbm, ⟨5, _⟩ => ⟨S20480x1024, .f32⟩
  | .hbm, ⟨6, _⟩ => ⟨S16x6x1024, .f32⟩
  | .hbm, ⟨7, _⟩ => ⟨S8, .i32⟩
  | .hbm, ⟨8, _⟩ => ⟨S_, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S8, .i32⟩
  | .hbm, ⟨13, _⟩ => ⟨S_, .i32⟩
  | .hbm, ⟨14, _⟩ => ⟨S8, .i32⟩
  | .hbm, ⟨15, _⟩ => ⟨S8, .i1⟩
  | .hbm, ⟨16, _⟩ => ⟨S8, .i32⟩
  | .hbm, ⟨17, _⟩ => ⟨S8, .i32⟩
  | .hbm, ⟨18, _⟩ => ⟨S_, .i32⟩
  | .hbm, ⟨19, _⟩ => ⟨S8, .i32⟩
  | .hbm, ⟨20, _⟩ => ⟨S8, .i1⟩
  | .hbm, ⟨21, _⟩ => ⟨S8, .i1⟩
  | .hbm, ⟨22, _⟩ => ⟨S_, .i32⟩
  | .hbm, ⟨23, _⟩ => ⟨S8, .i32⟩
  | .hbm, ⟨24, _⟩ => ⟨S8, .i32⟩
  | .hbm, ⟨25, _⟩ => ⟨S8, .i32⟩
  | .hbm, ⟨26, _⟩ => ⟨S8x1, .i32⟩
  | .hbm, ⟨27, _⟩ => ⟨S1x2, .i32⟩
  | .hbm, ⟨28, _⟩ => ⟨S8x2, .i32⟩
  | .hbm, ⟨29, _⟩ => ⟨S8x2, .i32⟩
  | .hbm, ⟨30, _⟩ => ⟨S8x2, .i1⟩
  | .hbm, ⟨31, _⟩ => ⟨S8x2, .f32⟩
  | .hbm, ⟨32, _⟩ => ⟨S512x1024, .f32⟩
  | .hbm, ⟨33, _⟩ => ⟨S512x1024, .f32⟩
  | .hbm, ⟨34, _⟩ => ⟨S8x1x64x1024, .f32⟩
  | .hbm, ⟨35, _⟩ => ⟨S8x2x1x1, .f32⟩
  | .hbm, ⟨36, _⟩ => ⟨S8x2x64x1024, .f32⟩
  | .hbm, ⟨37, _⟩ => ⟨S8x2x64x1024, .f32⟩
  | .hbm, ⟨38, _⟩ => ⟨S8x2x64x1024, .f32⟩
  | .hbm, ⟨39, _⟩ => ⟨S1024x1024, .f32⟩
  | .hbm, ⟨40, _⟩ => ⟨S4096x512, .bf16⟩
  | .hbm, ⟨41, _⟩ => ⟨S4096x8x1x64, .f32⟩
  | .hbm, ⟨42, _⟩ => ⟨S1x8x2x1, .f32⟩
  | .hbm, ⟨43, _⟩ => ⟨S4096x8x2x64, .f32⟩
  | .hbm, ⟨44, _⟩ => ⟨S4096x8x2x64, .f32⟩
  | .hbm, ⟨45, _⟩ => ⟨S4096x8x2x64, .f32⟩
  | .hbm, ⟨46, _⟩ => ⟨S4096x1024, .f32⟩
  | .hbm, ⟨47, _⟩ => ⟨S4096x1024, .bf16⟩
  | .hbm, ⟨48, _⟩ => ⟨S16384x512, .bf16⟩
  | .hbm, ⟨49, _⟩ => ⟨S16384x8x1x64, .f32⟩
  | .hbm, ⟨50, _⟩ => ⟨S1x8x2x1, .f32⟩
  | .hbm, ⟨51, _⟩ => ⟨S16384x8x2x64, .f32⟩
  | .hbm, ⟨52, _⟩ => ⟨S16384x8x2x64, .f32⟩
  | .hbm, ⟨53, _⟩ => ⟨S16384x8x2x64, .f32⟩
  | .hbm, ⟨54, _⟩ => ⟨S16384x1024, .f32⟩
  | .hbm, ⟨55, _⟩ => ⟨S16384x1024, .bf16⟩
  | .hbm, ⟨56, _⟩ => ⟨S512x1024, .bf16⟩
  | .hbm, ⟨57, _⟩ => ⟨S1024x1024, .bf16⟩
  | .hbm, ⟨58, _⟩ => ⟨S20480x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | .local _ .vmem, ⟨12, _⟩ => ⟨S1x6x1024, .f32⟩
  | .local _ .vmem, ⟨13, _⟩ => ⟨S1x6x1024, .f32⟩
  | .local _ .vmem, ⟨14, _⟩ => ⟨S512x1024, .f32⟩
  | .local _ .vmem, ⟨15, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v1 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![40], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x6x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== EvenOutRefIdeal.lean ====
abbrev S4096x512 : Shape := ⟨2, ![4096, 512]⟩
abbrev S4096x8x64 : Shape := ⟨3, ![4096, 8, 64]⟩
abbrev S16384x512 : Shape := ⟨2, ![16384, 512]⟩
abbrev S16384x8x64 : Shape := ⟨3, ![16384, 8, 64]⟩
abbrev S1024x1024 : Shape := ⟨2, ![1024, 1024]⟩
abbrev S20480x1024 : Shape := ⟨2, ![20480, 1024]⟩
abbrev S16x6x1024 : Shape := ⟨3, ![16, 6, 1024]⟩
abbrev S20480x8x64 : Shape := ⟨3, ![20480, 8, 64]⟩
abbrev S20480x512 : Shape := ⟨2, ![20480, 512]⟩
abbrev S16x1x1024 : Shape := ⟨3, ![16, 1, 1024]⟩
abbrev S16x1024 : Shape := ⟨2, ![16, 1024]⟩
abbrev S1x1024 : Shape := ⟨2, ![1, 1024]⟩
abbrev S4096x1024 : Shape := ⟨2, ![4096, 1024]⟩
abbrev S8x1024 : Shape := ⟨2, ![8, 1024]⟩
abbrev S8x2048x1024 : Shape := ⟨3, ![8, 2048, 1024]⟩
abbrev S16384x1024 : Shape := ⟨2, ![16384, 1024]⟩

abbrev nBuf : Space → Nat
  | .hbm => 22
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x8x64, .f32⟩
  | .hbm, ⟨2, _⟩ => ⟨S16384x512, .f32⟩
  | .hbm, ⟨3, _⟩ => ⟨S16384x8x64, .f32⟩
  | .hbm, ⟨4, _⟩ => ⟨S1024x1024, .f32⟩
  | .hbm, ⟨5, _⟩ => ⟨S20480x1024, .f32⟩
  | .hbm, ⟨6, _⟩ => ⟨S16x6x1024, .f32⟩
  | .hbm, ⟨7, _⟩ => ⟨S20480x8x64, .f32⟩
  | .hbm, ⟨8, _⟩ => ⟨S20480x512, .f32⟩
  | .hbm, ⟨9, _⟩ => ⟨S20480x512, .f32⟩
  | .hbm, ⟨10, _⟩ => ⟨S20480x1024, .f32⟩
  | .hbm, ⟨11, _⟩ => ⟨S20480x1024, .f32⟩
  | .hbm, ⟨12, _⟩ => ⟨S16x1x1024, .f32⟩
  | .hbm, ⟨13, _⟩ => ⟨S16x1024, .f32⟩
  | .hbm, ⟨14, _⟩ => ⟨S1x1024, .f32⟩
  | .hbm, ⟨15, _⟩ => ⟨S4096x1024, .f32⟩
  | .hbm, ⟨16, _⟩ => ⟨S8x1024, .f32⟩
  | .hbm, ⟨17, _⟩ => ⟨S8x2048x1024, .f32⟩
  | .hbm, ⟨18, _⟩ => ⟨S16384x1024, .f32⟩
  | .hbm, ⟨19, _⟩ => ⟨S20480x1024, .f32⟩
  | .hbm, ⟨20, _⟩ => ⟨S20480x1024, .f32⟩
  | .hbm, ⟨21, _⟩ => ⟨S20480x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Gqa.lean ====
abbrev S8x2048x8x64 : Shape := ⟨4, ![8, 2048, 8, 64]⟩
abbrev S8x2048x2x64 : Shape := ⟨4, ![8, 2048, 2, 64]⟩
abbrev S8x512x2x64 : Shape := ⟨4, ![8, 512, 2, 64]⟩
abbrev S8x2048x4x64 : Shape := ⟨4, ![8, 2048, 4, 64]⟩
abbrev S_ : Shape := ⟨0, ![]⟩
abbrev S8x2048x4x128 : Shape := ⟨4, ![8, 2048, 4, 128]⟩
abbrev S8x2048x8x128 : Shape := ⟨4, ![8, 2048, 8, 128]⟩
abbrev S16384x1024 : Shape := ⟨2, ![16384, 1024]⟩
abbrev S8x512x128 : Shape := ⟨3, ![8, 512, 128]⟩
abbrev S16384x128 : Shape := ⟨2, ![16384, 128]⟩
abbrev S256x1024 : Shape := ⟨2, ![256, 1024]⟩
abbrev S1x512x128 : Shape := ⟨3, ![1, 512, 128]⟩
abbrev S2048x128 : Shape := ⟨2, ![2048, 128]⟩
abbrev S256x128 : Shape := ⟨2, ![256, 128]⟩
abbrev S1024x128 : Shape := ⟨2, ![1024, 128]⟩
abbrev S1x128 : Shape := ⟨2, ![1, 128]⟩
abbrev S512x128 : Shape := ⟨2, ![512, 128]⟩
abbrev S1024x512 : Shape := ⟨2, ![1024, 512]⟩
abbrev S1024 : Shape := ⟨1, ![1024]⟩
abbrev S1024x1 : Shape := ⟨2, ![1024, 1]⟩
abbrev S1024x2048 : Shape := ⟨2, ![1024, 2048]⟩

abbrev nBuf : Space → Nat
  | .hbm => 22
  | .vmem => 12
  | .smem => 0
  | _ => 0

abbrev bufTy : (tb : Table) → Fin (tcTables nBuf tb) → BufTy
  | .hbm, ⟨0, _⟩ => ⟨S8x2048x8x64, .f32⟩
  | .hbm, ⟨1, _⟩ => ⟨S8x2048x2x64, .f32⟩
  | .hbm, ⟨2, _⟩ => ⟨S8x2048x2x64, .f32⟩
  | .hbm, ⟨3, _⟩ => ⟨S8x512x2x64, .f32⟩
  | .hbm, ⟨4, _⟩ => ⟨S8x512x2x64, .f32⟩
  | .hbm, ⟨5, _⟩ => ⟨S8x2048x4x64, .f32⟩
  | .hbm, ⟨6, _⟩ => ⟨S_, .i32⟩
  | .hbm, ⟨7, _⟩ => ⟨S_, .f32⟩
  | .hbm, ⟨8, _⟩ => ⟨S8x2048x4x128, .f32⟩
  | .hbm, ⟨9, _⟩ => ⟨S8x2048x4x64, .f32⟩
  | .hbm, ⟨10, _⟩ => ⟨S_, .i32⟩
  | .hbm, ⟨11, _⟩ => ⟨S_, .f32⟩
  | .hbm, ⟨12, _⟩ => ⟨S8x2048x4x128, .f32⟩
  | .hbm, ⟨13, _⟩ => ⟨S8x2048x8x128, .f32⟩
  | .hbm, ⟨14, _⟩ => ⟨S16384x1024, .f32⟩
  | .hbm, ⟨15, _⟩ => ⟨S8x512x128, .f32⟩
  | .hbm, ⟨16, _⟩ => ⟨S8x512x128, .f32⟩
  | .hbm, ⟨17, _⟩ => ⟨S16384x128, .f32⟩
  | .hbm, ⟨18, _⟩ => ⟨S16384x128, .bf16⟩
  | .hbm, ⟨19, _⟩ => ⟨S16384x128, .f32⟩
  | .hbm, ⟨20, _⟩ => ⟨S16384x128, .bf16⟩
  | .hbm, ⟨21, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S256x1024, .bf16⟩
  | .local _ .vmem, ⟨11, _⟩ => ⟨S256x1024, .bf16⟩
  | _, _ => ⟨S8x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GqaIdeal.lean ====
variable {F : FTy → Type} [FloatOps F] [Named F]
def κ : String → Option EReal := fun
  | "gqa_scale" => some (((Real.sqrt 64)⁻¹ * (Real.log 2)⁻¹ : ℝ) : EReal)
  | _ => none
-- ==== GqaRefIdeal.lean ====
abbrev S8x2048x8x64 : Shape := ⟨4, ![8, 2048, 8, 64]⟩
abbrev S8x2048x2x64 : Shape := ⟨4, ![8, 2048, 2, 64]⟩
abbrev S8x512x2x64 : Shape := ⟨4, ![8, 512, 2, 64]⟩
abbrev S8x2560x2x64 : Shape := ⟨4, ![8, 2560, 2, 64]⟩
abbrev S8x2560x2x4x64 : Shape := ⟨5, ![8, 2560, 2, 4, 64]⟩
abbrev S8x2560x8x64 : Shape := ⟨4, ![8, 2560, 8, 64]⟩
abbrev S8x8x2048x2560 : Shape := ⟨4, ![8, 8, 2048, 2560]⟩
abbrev S_ : Shape := ⟨0, ![]⟩
abbrev S8x8x2048 : Shape := ⟨3, ![8, 8, 2048]⟩
abbrev S8x8x2048x1 : Shape := ⟨4, ![8, 8, 2048, 1]⟩
abbrev S8x8x64x2048 : Shape := ⟨4, ![8, 8, 64, 2048]⟩
abbrev S8x2048x4x64 : Shape := ⟨4, ![8, 2048, 4, 64]⟩
abbrev S8x2048x4x128 : Shape := ⟨4, ![8, 2048, 4, 128]⟩
abbrev S8x2048x8x128 : Shape := ⟨4, ![8, 2048, 8, 128]⟩
abbrev S16384x1024 : Shape := ⟨2, ![16384, 1024]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x8x64, .f32⟩
  | .hbm, ⟨1, _⟩ => ⟨S8x2048x2x64, .f32⟩
  | .hbm, ⟨2, _⟩ => ⟨S8x2048x2x64, .f32⟩
  | .hbm, ⟨3, _⟩ => ⟨S8x512x2x64, .f32⟩
  | .hbm, ⟨4, _⟩ => ⟨S8x512x2x64, .f32⟩
  | .hbm, ⟨5, _⟩ => ⟨S8x2560x2x64, .f32⟩
  | .hbm, ⟨6, _⟩ => ⟨S8x2560x2x4x64, .f32⟩
  | .hbm, ⟨7, _⟩ => ⟨S8x2560x8x64, .f32⟩
  | .hbm, ⟨8, _⟩ => ⟨S8x2560x2x64, .f32⟩
  | .hbm, ⟨9, _⟩ => ⟨S8x2560x2x4x64, .f32⟩
  | .hbm, ⟨10, _⟩ => ⟨S8x2560x8x64, .f32⟩
  | .hbm, ⟨11, _⟩ => ⟨S8x8x2048x2560, .f32⟩
  | .hbm, ⟨12, _⟩ => ⟨S_, .f32⟩
  | .hbm, ⟨13, _⟩ => ⟨S_, .f32⟩
  | .hbm, ⟨14, _⟩ => ⟨S8x8x2048x2560, .f32⟩
  | .hbm, ⟨15, _⟩ => ⟨S8x8x2048x2560, .f32⟩
  | .hbm, ⟨16, _⟩ => ⟨S_, .f32⟩
  | .hbm, ⟨17, _⟩ => ⟨S8x8x2048, .f32⟩
  | .hbm, ⟨18, _⟩ => ⟨S_, .f32⟩
  | .hbm, ⟨19, _⟩ => ⟨S8x8x2048, .f32⟩
  | .hbm, ⟨20, _⟩ => ⟨S8x8x2048, .f32⟩
  | .hbm, ⟨21, _⟩ => ⟨S8x8x2048x1, .f32⟩
  | .hbm, ⟨22, _⟩ => ⟨S8x8x2048x2560, .f32⟩
  | .hbm, ⟨23, _⟩ => ⟨S8x8x2048x2560, .f32⟩
  | .hbm, ⟨24, _⟩ => ⟨S8x8x2048x2560, .f32⟩
  | .hbm, ⟨25, _⟩ => ⟨S_, .f32⟩
  | .hbm, ⟨26, _⟩ => ⟨S8x8x2048, .f32⟩
  | .hbm, ⟨27, _⟩ => ⟨S8x8x2048x1, .f32⟩
  | .hbm, ⟨28, _⟩ => ⟨S8x8x2048x2560, .f32⟩
  | .hbm, ⟨29, _⟩ => ⟨S8x8x2048x2560, .f32⟩
  | .hbm, ⟨30, _⟩ => ⟨S8x8x64x2048, .f32⟩
  | .hbm, ⟨31, _⟩ => ⟨S8x2048x8x64, .f32⟩
  | .hbm, ⟨32, _⟩ => ⟨S8x2048x4x64, .f32⟩
  | .hbm, ⟨33, _⟩ => ⟨S_, .i32⟩
  | .hbm, ⟨34, _⟩ => ⟨S_, .f32⟩
  | .hbm, ⟨35, _⟩ => ⟨S8x2048x4x128, .f32⟩
  | .hbm, ⟨36, _⟩ => ⟨S8x2048x4x64, .f32⟩
  | .hbm, ⟨37, _⟩ => ⟨S_, .i32⟩
  | .hbm, ⟨38, _⟩ => ⟨S_, .f32⟩
  | .hbm, ⟨39, _⟩ => ⟨S8x2048x4x128, .f32⟩
  | .hbm, ⟨40, _⟩ => ⟨S8x2048x8x128, .f32⟩
  | .hbm, ⟨41, _⟩ => ⟨S16384x1024, .f32⟩
  | .hbm, ⟨42, _⟩ => ⟨S16384x1024, .bf16⟩
  | _, _ => ⟨S8x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c : Ref sig .tc := ⟨.hbm, 33, rfl⟩
abbrev main_call0_v0 : Ref sig .tc := ⟨.hbm, 34, rfl⟩
abbrev main_v24 : Ref sig .tc := ⟨.hbm, 35, rfl⟩
abbrev main_v25 : Ref sig .tc := ⟨.hbm, 36, rfl⟩
abbrev main_c_3 : Ref sig .tc := ⟨.hbm, 37, rfl⟩
abbrev main_call1_v0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Proof.ExpertsBlock.lean ====
/-
  What one grid point of the experts kernel computes, element by element, and what the reference
  computes, element by element. Over the extended reals both are the same scalars: the gated hidden
  units of one token, weighted by the expert's gate and multiplied into the down projection.
-/
module

public import proofs.«01_k».proof.Proof.Gen.ExpertsIdeal.Value
public import proofs.«01_k».proof.Proof.Gen.ExpertsRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.ExpertsValue

open Cert.ExpertsIdeal Cert.ExpertsIdeal.Gen

/-- The accumulator starts at zero. -/
theorem zero_apply (j : S1024x1024.Idx) : k0_pay3 (F := Ideal) j = 0 := by
  pointwise [k0_pay3]

/-- A row of gates with every lane but the expert's own replaced by zero sums to the expert's gate. -/
theorem gate_pick (f : Fin 16 → EReal) (e : Fin 16) :
    (∑ x : Fin 16, Scalar.select (IntOp.cmpi CmpIPredicate.eq (BitVec.ofNat 32 (x : ℕ)) (BitVec.ofNat 32 (e : ℕ))) (f x) (0 : EReal)) = f e := by
  rw [Finset.sum_eq_single e]
  · simp [Scalar.select, IntOp.cmpi]
  · intro b _ hb
    have hne : (BitVec.ofNat 32 (b : ℕ) == BitVec.ofNat 32 (e : ℕ)) = false := by
      rw [beq_eq_false_iff_ne]
      intro h
      have h' := congrArg BitVec.toNat h
      rw [BitVec.toNat_ofNat, BitVec.toNat_ofNat, Nat.mod_eq_of_lt (by omega), Nat.mod_eq_of_lt (by omega)] at h'
      exact hb (Fin.ext h')
    simp [Scalar.select, IntOp.cmpi, hne]
  · intro h; exact absurd (Finset.mem_univ e) h

/-- One grid point adds one expert's share to the accumulator: the down projection of the gated
    hidden units, each times the token's gate for the expert the point's second coordinate names. -/
theorem step_apply (i : grid0.Coords) (e : Fin 16) (he : (i 1).val = e.val) (h : FVec Ideal S1024x1024 .bf16)
    (wg wu : FVec Ideal S1x1024x256 .f32) (g : FVec Ideal S1024x16 .f32) (acc : FVec Ideal S1024x1024 .f32)
    (wd : FVec Ideal S1x256x1024 .f32) (j : S1024x1024.Idx) :
    k0_pay1 (k0_pay4 (F := Ideal) i h wg wu g acc wd) j
      = acc j + ∑ f : Fin 256,
        (((∑ k : Fin 1024, h (ix2 (j 0) k) * wg (ix3 0 k f)) * Ideal.logistic (∑ k : Fin 1024, h (ix2 (j 0) k) * wg (ix3 0 k f)) *
              ∑ k : Fin 1024, h (ix2 (j 0) k) * wu (ix3 0 k f)) * g (ix2 (j 0) e)) * wd (ix3 0 f (j 1)) := by
  idx_vars j
  pointwise [k0_pay1, k0_pay4]
  refine Ideal.add_congr rfl (Finset.sum_congr rfl fun f _ => ?_)
  rw [he, gate_pick (fun x => g (ix2 j0 x)) e]

/-- The last point of a block's run stores the residual plus the modulation row times the accumulator. -/
theorem out_apply (x : FVec Ideal S1024x1024 .f32) (m : FVec Ideal S1x1x1024 .f32) (acc : FVec Ideal S1024x1024 .f32)
    (j : S1024x1024.Idx) : k0_pay2 (F := Ideal) x m acc j = x j + m (ix3 0 0 (j 1)) * acc j := by
  idx_vars j
  pointwise [k0_pay2]

/-- The reference's result at one element: the residual plus the modulation row of the token's batch
    times the sum over experts and hidden units. -/
def refAt (x0 : FVec Ideal S20480x1024 .f32) (x1 : FVec Ideal S20480x16 .f32) (x2 x3 : FVec Ideal S16x1024x256 .f32)
    (x4 : FVec Ideal S16x256x1024 .f32) (x5 : FVec Ideal S20480x1024 .f32) (x6 : FVec Ideal S16x6x1024 .f32) :
    FVec Ideal S20480x1024 .f32 := fun j =>
  x5 j + (if h : (j 0 : ℕ) < 4096 then x6 (ix3 0 5 (j 1))
      else x6 (ix3 ⟨1 + ((j 0 : ℕ) - 4096) / 2048, by have := (j 0).isLt; change (j 0 : ℕ) < 20480 at this; omega⟩ 5 (j 1))) *
    ∑ e : Fin 16, ∑ f : Fin 256,
      (((∑ k : Fin 1024, x0 (ix2 (j 0) k) * x2 (ix3 e k f)) * Ideal.logistic (∑ k : Fin 1024, x0 (ix2 (j 0) k) * x2 (ix3 e k f)) *
            ∑ k : Fin 1024, x0 (ix2 (j 0) k) * x3 (ix3 e k f)) * x1 (ix2 (j 0) e)) * x4 (ix3 e f (j 1))

open Cert.ExpertsRefIdeal.Read in
/-- The reference program computes `refAt`. -/
theorem ref_eq (x0 : FVec Ideal S20480x1024 .f32) (x1 : FVec Ideal S20480x16 .f32) (x2 x3 : FVec Ideal S16x1024x256 .f32)
    (x4 : FVec Ideal S16x256x1024 .f32) (x5 : FVec Ideal S20480x1024 .f32) (x6 : FVec Ideal S16x6x1024 .f32) :
    val_main_v17 (F := Ideal) x0 x1 x2 x3 x4 x5 x6 = refAt x0 x1 x2 x3 x4 x5 x6 := by
  funext j
  idx_vars j
  pointwise [refAt, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_call0_v0, val_main_call0_v1, val_main_call0_v2, val_main_call0_v3, val_main_call0_v4, val_main_call0_v5, val_main_call0_cst, val_main_call0_cst_0]
  rfl

end Cert.ExpertsValue
-- ==== Proof.ExpertsArray.lean ====
/-
  What the experts kernel's result array holds after its run: at every element, the reference's value.
-/
module

public import proofs.«01_k».proof.Proof.ExpertsBlock

@[expose] public section

set_option maxRecDepth 16384

noncomputable section

open Idealize.ShloMosaic Idealize.ShloMosaic.TcCoe Idealize.SL.Sem
open Idealize.ShloMosaic.Pipeline (Dat)

namespace Cert.ExpertsValue

open Cert.ExpertsIdeal Cert.ExpertsIdeal.Gen

variable (m : (ℓ : Loc nD τ sig) → Buf (Elt Ideal) ℓ)

/-- Where each window's block lies, in the point's number. -/
theorem idx : ∀ t : Fin cfg0.N, win0_0.index t = ![t.val / 16, 0] ∧ win0_1.index t = ![t.val / 16, 0]
    ∧ win0_2.index t = ![t.val % 16, 0, 0] ∧ win0_3.index t = ![t.val % 16, 0, 0] ∧ win0_4.index t = ![t.val % 16, 0, 0]
    ∧ win0_5.index t = ![t.val / 16, 0]
    ∧ win0_6.index t = ![(if t.val / 16 < 4 then 0 else 1 + (t.val / 16 - 4) / 2), 0, 0]
    ∧ win0_7.index t = ![t.val / 16, 0] ∧ ((grid0.coords t) 1).val = t.val % 16 :=
  (by decide +kernel : ∀ t : Fin grid0.N, _)

/-- One expert's share of one element, from the blocks the point reads. -/
def share (c : Dev nD) (t : Fin cfg0.N) (j : S1024x1024.Idx) : EReal :=
  ∑ f : Fin 256,
    (((∑ k : Fin 1024, (show FVec Ideal S1024x1024 .bf16 from iblk m c 0 t) (ix2 (j 0) k) * (show FVec Ideal S1x1024x256 .f32 from iblk m c 2 t) (ix3 0 k f))
        * Ideal.logistic (∑ k : Fin 1024, (show FVec Ideal S1024x1024 .bf16 from iblk m c 0 t) (ix2 (j 0) k) * (show FVec Ideal S1x1024x256 .f32 from iblk m c 2 t) (ix3 0 k f))
        * ∑ k : Fin 1024, (show FVec Ideal S1024x1024 .bf16 from iblk m c 0 t) (ix2 (j 0) k) * (show FVec Ideal S1x1024x256 .f32 from iblk m c 3 t) (ix3 0 k f))
      * (show FVec Ideal S1024x16 .f32 from iblk m c 1 t) (ix2 (j 0) ⟨t.val % 16, Nat.mod_lt _ (by decide)⟩))
    * (show FVec Ideal S1x256x1024 .f32 from iblk m c 4 t) (ix3 0 f (j 1))

/-- The accumulator after the first point of a run: zero plus the first expert's share. -/
theorem acc_first (c : Dev nD) (t : Fin cfg0.N) (h : t.val % 16 = 0) (j : S1024x1024.Idx) :
    (outsAt0 m c t.val t.isLt).2 j = 0 + share m c t j := by
  rw [outsAt0_A m c t h (by omega)]
  frame_out
  refine (step_apply _ ⟨t.val % 16, Nat.mod_lt _ (by decide)⟩ (idx t).2.2.2.2.2.2.2.2 _ _ _ _ _ _ j).trans ?_
  rw [zero_apply]
  rfl

/-- The accumulator after a later point: what the point before left plus this expert's share. -/
theorem acc_next (c : Dev nD) (t : Fin cfg0.N) (h : ¬ t.val % 16 = 0) (j : S1024x1024.Idx) :
    (outsAt0 m c t.val t.isLt).2 j
      = (outsAt0 m c (t.val - 1) (Nat.lt_of_le_of_lt (Nat.sub_le _ _) t.isLt)).2 j + share m c t j := by
  by_cases h1 : t.val % 16 = 15
  · rw [outsAt0_C m c t h h1]
    frame_out
    refine (step_apply _ ⟨t.val % 16, Nat.mod_lt _ (by decide)⟩ (idx t).2.2.2.2.2.2.2.2 _ _ _ _ _ _ j).trans ?_
    rw [(Memref.isWhole_whole _).read_unread]
    rfl
  · rw [outsAt0_B m c t h h1]
    frame_out
    refine (step_apply _ ⟨t.val % 16, Nat.mod_lt _ (by decide)⟩ (idx t).2.2.2.2.2.2.2.2 _ _ _ _ _ _ j).trans ?_
    rw [(Memref.isWhole_whole _).read_unread]
    rfl

/-- What the last point of a run stores: the residual plus the modulation row times the accumulator. -/
theorem out_last (c : Dev nD) (t : Fin cfg0.N) (h : t.val % 16 = 15) (j : S1024x1024.Idx) :
    (outsAt0 m c t.val t.isLt).1 j = (show FVec Ideal S1024x1024 .f32 from iblk m c 5 t) j
      + (show FVec Ideal S1x6x1024 .f32 from iblk m c 6 t) (ix3 0 5 (j 1)) * (outsAt0 m c t.val t.isLt).2 j := by
  have hs : (outsAt0 m c t.val t.isLt).1 = k0_pay2 (F := Ideal) (iblk m c 5 t) (View.ld (iblk m c 6 t) (Rect.unit (s := S1x6x1024) ![0, 5, 0] S1x1x1024.size inb_S1x6x1024_S1x1x1024_0_5_0)) (outsAt0 m c t.val t.isLt).2 := by
    rw [outsAt0_C m c t (by omega) h]; frame_out; rfl
  rw [hs, out_apply]
  generalize (outsAt0 m c t.val t.isLt).2 = acc
  idx_vars j
  pointwise

/-- The result array after the run is the reference's value at every element. -/
theorem final (c : Dev nD) : (dats m 0 c).arrAt 7 (cfgs 0).N
    = refAt (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 7 _ (by decide +kernel) fun t hf y => ?_
  blk_simp
  have h15 : t.val % 16 = 15 := (flush0_7 t).mp hf
  rw [after0_7]
  refine (out_last m c t h15 y).trans ?_
  rw [Pipeline.eq_sum_fin_of_reset_step_apply_of_flush (fun n h => (outsAt0 m c n h).2) 16 (fun _ => (0 : EReal)) (share m c)
    (acc_first m c) (acc_next m c) t h15 y, zero_add]
  unfold refAt
  refine Ideal.add_congr ?_ (Ideal.mul_congr ?_ (Finset.sum_congr rfl fun e _ => ?_))
  · blk_point [iblk, V, idx t]
  · have hy : (y 0 : ℕ) < 1024 := (y 0).isLt
    have e0 : (((win0_7.blk t).view.emb y) 0 : ℕ) = t.val / 16 * 1024 + (y 0 : ℕ) := by blk_simp [idx t]
    by_cases h4 : t.val / 16 < 4
    · rw [dif_pos (by omega)]
      have i6 : win0_6.index t = ![0, 0, 0] := by rw [(idx t).2.2.2.2.2.2.1, if_pos h4]
      blk_point [iblk, V, i6, (idx t).2.2.2.2.2.2.2.1]
    · rw [dif_neg (by omega)]
      have i6 : win0_6.index t = ![1 + (t.val / 16 - 4) / 2, 0, 0] := by rw [(idx t).2.2.2.2.2.2.1, if_neg h4]
      blk_point [iblk, V, i6, (idx t).2.2.2.2.2.2.2.1, e0]
  · unfold share
    refine Finset.sum_congr rfl fun f _ => ?_
    blk_point [iblk, V, idx t, idx ⟨_, Pipeline.run_point_lt_of_flush t ((flush0_7 t).mp hf) e⟩]

end Cert.ExpertsValue
-- ==== Proof.Softmax.lean ====
/-
  Softmax over the extended reals, for finite scores and any values. The kernels walk the keys in two
  chunks, in base two, carrying a running maximum; the references take one maximum over all the
  keys. Shifting every score by one real changes neither, so both are the weights `exp t / ∑ exp t`.
-/
module

public import Idealize.ShloMosaic.Lib.Pointwise
public import Idealize.ShloMosaic.PureOps.Ideal.Laws

@[expose] public section

noncomputable section

open Idealize.ShloMosaic

namespace Cert.Softmax

/-- The maximum of finitely many reals, over at least one index, is a real. -/
theorem fold_max_real {n : Nat} [NeZero n] (t : Fin n → ℝ) :
    ∃ μ : ℝ, Finset.univ.fold max (⊥ : EReal) (fun i => (t i : EReal)) = (μ : EReal) := by
  have key : ∀ s : Finset (Fin n), s.Nonempty → ∃ μ : ℝ, s.fold max (⊥ : EReal) (fun i => (t i : EReal)) = (μ : EReal) := by
    intro s hs
    induction hs using Finset.Nonempty.cons_induction with
    | singleton a => exact ⟨t a, by rw [Finset.fold_singleton]; exact max_eq_left bot_le⟩
    | cons a s ha hs ih =>
      obtain ⟨μ, hμ⟩ := ih
      exact ⟨max (t a) μ, by rw [Finset.fold_cons, hμ]; exact (EReal.coe_strictMono.monotone.map_max).symm⟩
  exact key _ ⟨0, Finset.mem_univ _⟩

/-- A nonnegative real distributes over a finite sum of extended reals. -/
theorem mul_sum {n : Nat} (c : ℝ) (hc : 0 ≤ c) (f : Fin n → EReal) : (c : EReal) * ∑ i, f i = ∑ i, (c : EReal) * f i := by
  have key : ∀ s : Finset (Fin n), (c : EReal) * ∑ i ∈ s, f i = ∑ i ∈ s, (c : EReal) * f i := by
    intro s
    induction s using Finset.cons_induction with
    | empty => simp
    | cons a s ha ih =>
      rw [Finset.sum_cons, Finset.sum_cons, ← ih]
      exact EReal.left_distrib_of_nonneg_of_ne_top (EReal.coe_nonneg.mpr hc) (EReal.coe_ne_top _) _ _
  exact key _

/-- A finite sum of reals, read as extended reals. -/
theorem coe_sum {n : Nat} (f : Fin n → ℝ) : ∑ i, (f i : EReal) = ((∑ i, f i : ℝ) : EReal) := by
  have key : ∀ s : Finset (Fin n), ∑ i ∈ s, (f i : EReal) = ((∑ i ∈ s, f i : ℝ) : EReal) := by
    intro s
    induction s using Finset.cons_induction with
    | empty => simp
    | cons a s ha ih => rw [Finset.sum_cons, Finset.sum_cons, ih, EReal.coe_add]
  exact key _

/-- Dividing by a positive real is multiplying by its inverse. -/
theorem div_pos (x : EReal) (d : ℝ) (hd : 0 < d) : Ideal.div x (d : EReal) = ((d⁻¹ : ℝ) : EReal) * x := by
  have h0 : (d : EReal) ≠ 0 := by exact_mod_cast hd.ne'
  rw [Ideal.div, if_neg h0, mul_comm, EReal.coe_inv]

/-- Two to the power of a real measured in units of `log 2`, less a shift. -/
theorem rpow_two (t μ : ℝ) : Real.rpow 2 (t / Real.log 2 - μ) = Real.exp (-(Real.log 2 * μ)) * Real.exp t := by
  have h2 : Real.log 2 ≠ 0 := (Real.log_pos (by norm_num)).ne'
  show (2 : ℝ) ^ (t / Real.log 2 - μ) = _
  rw [Real.rpow_def_of_pos (by norm_num), ← Real.exp_add]
  congr 1
  field_simp
  ring

/-- What a kernel accumulates over two chunks of keys: the first chunk's sum, rescaled to the running
    maximum after the second, plus the second chunk's sum. -/
def attend {n p : Nat} (s0 : Fin n → EReal) (s1 : Fin p → EReal) (w0 : Fin n → EReal) (w1 : Fin p → EReal) : EReal :=
  Ideal.exp2 (Finset.univ.fold max ⊥ s0 - max (Finset.univ.fold max ⊥ s0) (Finset.univ.fold max ⊥ s1))
      * (∑ i, Ideal.exp2 (s0 i - Finset.univ.fold max ⊥ s0) * w0 i)
    + ∑ i, Ideal.exp2 (s1 i - max (Finset.univ.fold max ⊥ s0) (Finset.univ.fold max ⊥ s1)) * w1 i

/-- Over finite scores in base two, the accumulated sum is one common positive factor times the sums of
    the exponentials times the values. -/
theorem attend_eq {n p : Nat} [NeZero n] [NeZero p] (t0 : Fin n → ℝ) (t1 : Fin p → ℝ) :
    ∃ γ : ℝ, 0 < γ ∧ ∀ (w0 : Fin n → EReal) (w1 : Fin p → EReal),
      attend (fun i => ((t0 i / Real.log 2 : ℝ) : EReal)) (fun i => ((t1 i / Real.log 2 : ℝ) : EReal)) w0 w1
        = (∑ i, ((γ * Real.exp (t0 i) : ℝ) : EReal) * w0 i) + ∑ i, ((γ * Real.exp (t1 i) : ℝ) : EReal) * w1 i := by
  obtain ⟨μ0, h0⟩ := fold_max_real fun i => t0 i / Real.log 2
  obtain ⟨μ1, h1⟩ := fold_max_real fun i => t1 i / Real.log 2
  refine ⟨Real.exp (-(Real.log 2 * max μ0 μ1)), Real.exp_pos _, fun w0 w1 => ?_⟩
  have hm : max ((μ0 : ℝ) : EReal) ((μ1 : ℝ) : EReal) = ((max μ0 μ1 : ℝ) : EReal) := (EReal.coe_strictMono.monotone.map_max).symm
  have hc : Real.rpow 2 (μ0 - max μ0 μ1) = Real.exp (Real.log 2 * (μ0 - max μ0 μ1)) :=
    Real.rpow_def_of_pos (by norm_num) _
  unfold attend
  rw [h0, h1, hm, ← EReal.coe_sub, Ideal.exp2_coe, hc, mul_sum _ (Real.exp_pos _).le]
  refine congrArg₂ (· + ·) (Finset.sum_congr rfl fun i _ => ?_) (Finset.sum_congr rfl fun i _ => ?_)
  · rw [← EReal.coe_sub, Ideal.exp2_coe, rpow_two, ← mul_assoc, ← EReal.coe_mul, ← mul_assoc, ← Real.exp_add]
    congr 4
    ring
  · rw [← EReal.coe_sub, Ideal.exp2_coe, rpow_two]

/-- The weight of a score among two chunks of scores. -/
def weight {n p : Nat} (t0 : Fin n → ℝ) (t1 : Fin p → ℝ) (t : ℝ) : ℝ :=
  Real.exp t / ((∑ i, Real.exp (t0 i)) + ∑ i, Real.exp (t1 i))

/-- The kernels' quotient: the accumulated values over the accumulated ones are the values weighted by
    their scores' shares. -/
theorem attend_div {n p : Nat} [NeZero n] [NeZero p] (t0 : Fin n → ℝ) (t1 : Fin p → ℝ) (w0 : Fin n → EReal) (w1 : Fin p → EReal) :
    Ideal.div
        (attend (fun i => ((t0 i / Real.log 2 : ℝ) : EReal)) (fun i => ((t1 i / Real.log 2 : ℝ) : EReal)) w0 w1)
        (attend (fun i => ((t0 i / Real.log 2 : ℝ) : EReal)) (fun i => ((t1 i / Real.log 2 : ℝ) : EReal)) (fun _ => 1) (fun _ => 1))
      = (∑ i, (weight t0 t1 (t0 i) : EReal) * w0 i) + ∑ i, (weight t0 t1 (t1 i) : EReal) * w1 i := by
  obtain ⟨γ, hγ, h⟩ := attend_eq t0 t1
  have hZ : 0 < (∑ i, Real.exp (t0 i)) + ∑ i, Real.exp (t1 i) :=
    add_pos (Finset.sum_pos (fun i _ => Real.exp_pos _) ⟨0, Finset.mem_univ _⟩)
      (Finset.sum_pos (fun i _ => Real.exp_pos _) ⟨0, Finset.mem_univ _⟩)
  have hD : (∑ i, ((γ * Real.exp (t0 i) : ℝ) : EReal) * 1) + ∑ i, ((γ * Real.exp (t1 i) : ℝ) : EReal) * 1
      = ((γ * ((∑ i, Real.exp (t0 i)) + ∑ i, Real.exp (t1 i)) : ℝ) : EReal) := by
    simp only [mul_one]
    rw [coe_sum, coe_sum, ← EReal.coe_add, ← Finset.mul_sum, ← Finset.mul_sum, ← mul_add]
  rw [h, h, hD, div_pos _ _ (mul_pos hγ hZ)]
  rw [EReal.left_distrib_of_nonneg_of_ne_top (EReal.coe_nonneg.mpr (inv_pos.mpr (mul_pos hγ hZ)).le) (EReal.coe_ne_top _)]
  rw [mul_sum _ (inv_pos.mpr (mul_pos hγ hZ)).le, mul_sum _ (inv_pos.mpr (mul_pos hγ hZ)).le]
  refine congrArg₂ (· + ·) (Finset.sum_congr rfl fun i _ => ?_) (Finset.sum_congr rfl fun i _ => ?_) <;>
  · rw [← mul_assoc, ← EReal.coe_mul]
    congr 2
    unfold weight
    have := hγ.ne'
    have := hZ.ne'
    field_simp

/-- The references' softmax: exponentials of the scores less their maximum over the sum of those are the
    scores' shares. -/
theorem softmax_eq {n : Nat} [NeZero n] (t : Fin n → ℝ) (k : Fin n) :
    Ideal.div (Ideal.exp ((t k : EReal) - max ⊥ (Finset.univ.fold max ⊥ fun i => (t i : EReal))))
        (∑ j, Ideal.exp ((t j : EReal) - max ⊥ (Finset.univ.fold max ⊥ fun i => (t i : EReal))))
      = ((Real.exp (t k) / ∑ j, Real.exp (t j) : ℝ) : EReal) := by
  obtain ⟨μ, h⟩ := fold_max_real t
  have hZ : 0 < ∑ i, Real.exp (t i - μ) := Finset.sum_pos (fun i _ => Real.exp_pos _) ⟨0, Finset.mem_univ _⟩
  rw [h, max_eq_right bot_le]
  simp only [← EReal.coe_sub, Ideal.exp_coe]
  rw [coe_sum, div_pos _ _ hZ, ← EReal.coe_mul]
  congr 1
  have hZ' : (∑ i, Real.exp (t i - μ)) = (∑ i, Real.exp (t i)) * Real.exp (-μ) := by
    rw [Finset.sum_mul]
    exact Finset.sum_congr rfl fun i _ => by rw [← Real.exp_add, sub_eq_add_neg]
  have hT : (∑ i, Real.exp (t i)) ≠ 0 := (Finset.sum_pos (fun i _ => Real.exp_pos _) ⟨(0 : Fin n), Finset.mem_univ _⟩).ne'
  have hμ : Real.exp (-μ) ≠ 0 := (Real.exp_pos _).ne'
  rw [hZ', sub_eq_add_neg, Real.exp_add]
  field_simp

/-- The pattern the maxima start from is minus infinity. -/
theorem minus_inf : Ideal.ofBits .f32 0xFF800000#32 = ⊥ := by
  simp [Ideal.ofBits, Ideal.ieee]

/-- A largest element along the last of four axes. -/
theorem reduce_max {n0 n1 n2 n3 : Nat} {u : Shape} (x : FVec Ideal ⟨4, ![n0, n1, n2, n3]⟩ .f32) (init : FVec Ideal u .f32)
    (h : (⟨4, ![n0, n1, n2, n3]⟩ : Shape).ReducesTo [3] ⟨3, ![n0, n1, n2]⟩) (hu : 0 < u.numel) (a : Fin n0) (b : Fin n1) (c : Fin n2) :
    Host.reduce FloatOps.maximumf x init h hu (ix3 a b c)
      = Finset.univ.fold max (init (Shape.Idx.first hu)) fun k => x (ix4 a b c k) := by
  rw [Host.reduce_eq_fold, h.fold_fiber_r4_a3]
  rfl

/-- A sum over joined indices is the two parts' sums. -/
theorem sum_joined {A : Type} [AddCommMonoid A] {N : Nat} (n p : Nat) (h : N = n + p) (f : Fin N → A) :
    ∑ k, f k = (∑ i : Fin n, f ⟨i.val, by have := i.isLt; omega⟩) + ∑ i : Fin p, f ⟨n + i.val, by have := i.isLt; omega⟩ := by
  subst h
  exact Fin.sum_univ_add f

end Cert.Softmax
-- ==== Proof.MlaBlock.lean ====
/-
  What one grid point of the latent attention kernel computes, element by element.
-/
module

public import proofs.«01_k».proof.Proof.Gen.MlaIdeal.Value
public import proofs.«01_k».proof.Proof.Softmax
public import Idealize.ShloMosaic.Lib.Pipeline.ValueKit

@[expose] public section

set_option maxRecDepth 16384

noncomputable section

open Idealize.ShloMosaic Idealize.ShloMosaic.TcCoe Idealize.SL.Sem

namespace Cert.MlaValue

open Cert.MlaIdeal Cert.MlaIdeal.Gen

/-- Whether a lane is one of the first 64. -/
theorem low_lane : ∀ l : Fin 128, IntOp.cmpi CmpIPredicate.slt (BitVec.ofNat 32 (l : ℕ)) 64#32 = if (l : ℕ) < 64 then 1#1 else 0#1 := by
  decide +kernel

/-- The scale of the scores. -/
abbrev scale : EReal := (Named.named κ "mla_scale" 0x3E16C740#32 : Ideal .f32)

/-- The score of a query row against a row of a chunk of keys, over the 128 lanes of one head. -/
def score {n : Nat} (q : FVec Ideal S1024x256 .f32) (k : FVec Ideal ⟨2, ![n, 128]⟩ .bf16) (off : Nat) (h : off ≤ 128) (r : Fin 1024) (i : Fin n) : EReal :=
  ∑ x : Fin 128, (q (ix2 r ⟨off + (x : ℕ), by omega⟩) * scale) * k (ix2 i x)

theorem score_a (q : FVec Ideal S1024x256 .f32) (k : FVec Ideal S512x128 .bf16) (r : Fin 1024) (i : Fin 512) :
    k0_pay5 (F := Ideal) q k (ix2 r i) = score q k 0 (by omega) r i := by
  pointwise [k0_pay5, k0_pay3, k0_pay2]
  exact Finset.sum_congr rfl fun x _ => by simp only [Nat.zero_add]

theorem score_b (q : FVec Ideal S1024x256 .f32) (k : FVec Ideal S2048x128 .bf16) (r : Fin 1024) (i : Fin 2048) :
    k0_pay8 (F := Ideal) q k (ix2 r i) = score q k 0 (by omega) r i := by
  pointwise [k0_pay8, k0_pay3, k0_pay2]
  exact Finset.sum_congr rfl fun x _ => by simp only [Nat.zero_add]

theorem score_c (q : FVec Ideal S1024x256 .f32) (k : FVec Ideal S512x128 .bf16) (r : Fin 1024) (i : Fin 512) :
    k0_pay15 (F := Ideal) (k0_pay2 q) k (ix2 r i) = score q k 128 (by omega) r i := by
  pointwise [k0_pay15, k0_pay13, k0_pay2]
  rfl

theorem score_d (q : FVec Ideal S1024x256 .f32) (r : Fin 1024) (x : Fin 128) :
    k0_pay13 (F := Ideal) (k0_pay2 q) (ix2 r x) = q (ix2 r ⟨128 + (x : ℕ), by omega⟩) * scale := by
  pointwise [k0_pay13, k0_pay2]

theorem max_a (q : FVec Ideal S1024x256 .f32) (k : FVec Ideal S512x128 .bf16) (r : Fin 1024) :
    k0_pay6 (F := Ideal) q k (ix2 r 0) = Finset.univ.fold max ⊥ (score q k 0 (by omega) r) := by
  unfold k0_pay6
  rw [← Softmax.minus_inf, ← funext (score_a q k r)]
  generalize k0_pay5 (F := Ideal) q k = s
  pointwise

theorem max_c (q : FVec Ideal S1024x256 .f32) (k : FVec Ideal S512x128 .bf16) (r : Fin 1024) :
    k0_pay16 (F := Ideal) (k0_pay2 q) k (ix2 r 0) = Finset.univ.fold max ⊥ (score q k 128 (by omega) r) := by
  unfold k0_pay16
  rw [← Softmax.minus_inf, ← funext (score_c q k r)]
  generalize k0_pay15 (F := Ideal) (k0_pay2 q) k = s
  pointwise

/-- The first chunk's sum of the first head: values in the lanes below 64, ones above. -/
theorem sum_a (q : FVec Ideal S1024x256 .f32) (k v : FVec Ideal S512x128 .bf16) (r : Fin 1024) (l : Fin 128) :
    k0_pay7 (F := Ideal) q k v (ix2 r l) = ∑ i, Ideal.exp2 (score q k 0 (by omega) r i - Finset.univ.fold max ⊥ (score q k 0 (by omega) r))
      * (if (l : ℕ) < 64 then v (ix2 i l) else 1) := by
  unfold k0_pay7
  rw [← max_a, ← funext (score_a q k r)]
  generalize k0_pay5 (F := Ideal) q k = s
  generalize k0_pay6 (F := Ideal) q k = m
  pointwise [k0_pay4]
  refine Finset.sum_congr rfl fun i _ => ?_
  rw [low_lane]
  by_cases h : (l : ℕ) < 64 <;> simp [h, Scalar.select, IntOp.xori] <;> rfl

/-- The first chunk's sum of the second head: values in the lanes from 64, ones below. -/
theorem sum_c (q : FVec Ideal S1024x256 .f32) (k v : FVec Ideal S512x128 .bf16) (r : Fin 1024) (l : Fin 128) :
    k0_pay17 (F := Ideal) (k0_pay2 q) k v (ix2 r l) = ∑ i, Ideal.exp2 (score q k 128 (by omega) r i - Finset.univ.fold max ⊥ (score q k 128 (by omega) r))
      * (if (l : ℕ) < 64 then 1 else v (ix2 i l)) := by
  unfold k0_pay17
  rw [← max_c, ← funext (score_c q k r)]
  generalize k0_pay15 (F := Ideal) (k0_pay2 q) k = s
  generalize k0_pay16 (F := Ideal) (k0_pay2 q) k = m
  pointwise [k0_pay14]
  refine Finset.sum_congr rfl fun i _ => ?_
  rw [low_lane]
  by_cases h : (l : ℕ) < 64 <;> simp [h, Scalar.select, IntOp.xori] <;> rfl

/-- The first head's half of the result. -/
theorem half_a (q : FVec Ideal S1024x256 .f32) (k v : FVec Ideal S512x128 .bf16) (k' v' : FVec Ideal S2048x128 .bf16) (r : Fin 1024) (l : Fin 128) :
    k0_pay12 (F := Ideal) k0_pay4 (k0_pay6 q k) (k0_pay7 q k v) (k0_pay8 q k') (k0_pay9 v') k0_pay10 k0_pay11 (ix2 r l)
      = if (l : ℕ) < 64 then
          Ideal.div (Softmax.attend (score q k 0 (by omega) r) (score q k' 0 (by omega) r) (fun i => v (ix2 i l)) (fun i => v' (ix2 i l)))
            (Softmax.attend (score q k 0 (by omega) r) (score q k' 0 (by omega) r) (fun _ => 1) (fun _ => 1))
        else 0 := by
  unfold Softmax.attend
  rw [← max_a]
  have ha := sum_a q k v r
  rw [← max_a] at ha
  rw [← funext (score_b q k' r), ← Softmax.minus_inf]
  generalize hm : k0_pay6 (F := Ideal) q k = m at ha ⊢
  generalize hn : k0_pay7 (F := Ideal) q k v = n at ha ⊢
  generalize hs : k0_pay8 (F := Ideal) q k' = s
  pointwise [k0_pay12, k0_pay4, k0_pay9, k0_pay10, k0_pay11]
  rw [low_lane, show IntOp.cmpi CmpIPredicate.slt (BitVec.ofNat 32 (((l : ℕ) + 128 - 64) % 128)) 64#32 = if ((l : ℕ) + 128 - 64) % 128 < 64 then 1#1 else 0#1 from
    low_lane ⟨((l : ℕ) + 128 - 64) % 128, by omega⟩]
  by_cases h : (l : ℕ) < 64
  · have h' : ¬ ((l : ℕ) + 128 - 64) % 128 < 64 := by omega
    rw [ha l, ha ⟨((l : ℕ) + 128 - 64) % 128, by omega⟩]
    simp only [h, h', if_true, if_false]
    simp [Scalar.select, IntOp.xori]
    rfl
  · simp [h, Scalar.select, IntOp.xori]

/-- The block: the first head's half in the lanes below 64, the second head's from there. -/
theorem out_apply (q : FVec Ideal S1024x256 .f32) (k k2 v : FVec Ideal S512x128 .bf16) (k' k2' v' : FVec Ideal S2048x128 .bf16) (r : Fin 1024) (l : Fin 128) :
    k0_pay1 (F := Ideal) (k0_pay12 k0_pay4 (k0_pay6 q k) (k0_pay7 q k v) (k0_pay8 q k') (k0_pay9 v') k0_pay10 k0_pay11)
        (k0_pay13 (k0_pay2 q)) k0_pay14 (k0_pay16 (k0_pay2 q) k2) (k0_pay17 (k0_pay2 q) k2 v) k2' v' (ix2 r l)
      = if (l : ℕ) < 64 then
          Ideal.div (Softmax.attend (score q k 0 (by omega) r) (score q k' 0 (by omega) r) (fun i => v (ix2 i l)) (fun i => v' (ix2 i l)))
            (Softmax.attend (score q k 0 (by omega) r) (score q k' 0 (by omega) r) (fun _ => 1) (fun _ => 1))
        else
          Ideal.div (Softmax.attend (score q k2 128 (by omega) r) (score q k2' 128 (by omega) r) (fun i => v (ix2 i l)) (fun i => v' (ix2 i l)))
            (Softmax.attend (score q k2 128 (by omega) r) (score q k2' 128 (by omega) r) (fun _ => 1) (fun _ => 1)) := by
  have hh := half_a q k v k' v' r l
  generalize k0_pay12 (F := Ideal) k0_pay4 (k0_pay6 q k) (k0_pay7 q k v) (k0_pay8 q k') (k0_pay9 v') k0_pay10 k0_pay11 = half at hh ⊢
  unfold Softmax.attend at hh ⊢
  have ha := sum_c q k2 v r
  rw [← max_c] at ha ⊢
  have hd : score q k2' 128 (by omega) r = fun i => ∑ x : Fin 128, k0_pay13 (F := Ideal) (k0_pay2 q) (ix2 r x) * k2' (ix2 i x) := by
    funext i
    simp only [score_d]
    rfl
  rw [hd]
  generalize hm : k0_pay16 (F := Ideal) (k0_pay2 q) k2 = m at ha ⊢
  generalize hn : k0_pay17 (F := Ideal) (k0_pay2 q) k2 v = n at ha ⊢
  generalize hs : k0_pay13 (F := Ideal) (k0_pay2 q) = s
  pointwise [k0_pay1, k0_pay14]
  rw [Softmax.minus_inf, low_lane, show IntOp.cmpi CmpIPredicate.slt (BitVec.ofNat 32 (((l : ℕ) + 128 - 64) % 128)) 64#32 = if ((l : ℕ) + 128 - 64) % 128 < 64 then 1#1 else 0#1 from
    low_lane ⟨((l : ℕ) + 128 - 64) % 128, by omega⟩]
  rw [hh]
  by_cases h : (l : ℕ) < 64
  · simp [h, Scalar.select, IntOp.xori]
  · have h' : ((l : ℕ) + 128 - 64) % 128 < 64 := by omega
    rw [ha l, ha ⟨((l : ℕ) + 128 - 64) % 128, by omega⟩]
    simp only [h, h', if_true, if_false]
    simp [Scalar.select, IntOp.xori]
    rfl

end Cert.MlaValue
-- ==== Proof.MlaRef.lean ====
/-
  What the latent attention's reference computes, element by element.
-/
module

public import proofs.«01_k».proof.Proof.Gen.MlaRefIdeal.Read
public import proofs.«01_k».proof.Proof.Softmax
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.MlaValue

open Cert.MlaRefIdeal Cert.MlaRefIdeal.Gen Cert.MlaRefIdeal.Read

/-- A score of the reference: the inner product of a query and a key over the root of their length. -/
theorem ref_score (q k : FVec Ideal S8x2048x16x96 .f32) (kc : FVec Ideal S8x512x16x96 .f32) (b : Fin 8) (h : Fin 16) (r : Fin 2048) (j : Fin 2560) :
   val_main_v5 (F := Ideal) q k kc (ix4 b h r j) = Ideal.div
      (∑ x : Fin 96, q (ix4 b r h x) * if c : (j : ℕ) < 512 then kc (ix4 b ⟨j, c⟩ h x) else k (ix4 b ⟨(j : ℕ) - 512, by omega⟩ h x))
      (Ideal.sqrt (Ideal.ofBits .f32 0x42C00000#32)) := by
  pointwise [val_main_v5, val_main_v2, val_main_v0, val_main_v4, val_main_v3, val_main_cst]
/-- The largest score of a query. -/
theorem ref_max (q k : FVec Ideal S8x2048x16x96 .f32) (kc : FVec Ideal S8x512x16x96 .f32) (b : Fin 8) (h : Fin 16) (r : Fin 2048) :
   val_main_v6 (F := Ideal) q k kc (ix3 b h r) = Finset.univ.fold max (Ideal.ofBits .f32 0xFF800000#32) fun x => val_main_v5 (F := Ideal) q k kc (ix4 b h r x) := by
  unfold val_main_v6
  exact Cert.Softmax.reduce_max _ _ _ _ b h r
/-- The joined values: the cached ones, then the new ones. -/
theorem ref_val (v : FVec Ideal S8x2048x16x64 .f32) (vc : FVec Ideal S8x512x16x64 .f32) (b : Fin 8) (h : Fin 16)  (j : Fin 2560) (d : Fin 64) :
   val_main_v1 (F := Ideal) v vc (ix4 b j h d) = if c : (j : ℕ) < 512 then vc (ix4 b ⟨j, c⟩ h d) else v (ix4 b ⟨(j : ℕ) - 512, by omega⟩ h d) := by
  pointwise [val_main_v1]

/-- The constant under the root is 96. -/
theorem ninety_six : Ideal.ofBits .f32 0x42C00000#32 = ((96 : ℝ) : EReal) := by
  simp [Ideal.ofBits, Ideal.ieee]
  norm_num
  rw [← EReal.coe_mul]
  norm_num

section Real

variable (q k : S8x2048x16x96.Idx → ℝ) (kc : S8x512x16x96.Idx → ℝ) (v : FVec Ideal S8x2048x16x64 .f32) (vc : FVec Ideal S8x512x16x64 .f32)

/-- The score of a query against a cached key. -/
def cached (b : Fin 8) (h : Fin 16) (r : Fin 2048) (i : Fin 512) : ℝ :=
  (∑ x : Fin 96, q (ix4 b r h x) * kc (ix4 b i h x)) / Real.sqrt 96

/-- The score of a query against a new key. -/
def fresh (b : Fin 8) (h : Fin 16) (r : Fin 2048) (i : Fin 2048) : ℝ :=
  (∑ x : Fin 96, q (ix4 b r h x) * k (ix4 b i h x)) / Real.sqrt 96

/-- The values, weighted by the softmax of the scores. -/
def mixed (b : Fin 8) (h : Fin 16) (r : Fin 2048) (d : Fin 64) : EReal :=
  (∑ i, (Softmax.weight (cached q kc b h r) (fresh q k b h r) (cached q kc b h r i) : EReal) * vc (ix4 b i h d))
    + ∑ i, (Softmax.weight (cached q kc b h r) (fresh q k b h r) (fresh q k b h r i) : EReal) * v (ix4 b i h d)

/-- The joined scores: against the cached keys, then the new ones. -/
def scores (b : Fin 8) (h : Fin 16) (r : Fin 2048) (j : Fin 2560) : ℝ :=
  if c : (j : ℕ) < 512 then cached q kc b h r ⟨j, c⟩ else fresh q k b h r ⟨(j : ℕ) - 512, by omega⟩

theorem scores_eq (b : Fin 8) (h : Fin 16) (r : Fin 2048) (j : Fin 2560) :
    val_main_v5 (F := Ideal) (fun i => (q i : EReal)) (fun i => (k i : EReal)) (fun i => (kc i : EReal)) (ix4 b h r j) = (scores q k kc b h r j : EReal) := by
  have h96 : (0 : ℝ) < Real.sqrt 96 := Real.sqrt_pos.mpr (by norm_num)
  rw [ref_score, ninety_six, Ideal.sqrt_coe, if_neg (by norm_num), Softmax.div_pos _ _ h96]
  unfold scores
  split
  · rw [cached, div_eq_inv_mul, EReal.coe_mul, ← Softmax.coe_sum]
    simp only [EReal.coe_mul]
  · rw [fresh, div_eq_inv_mul, EReal.coe_mul, ← Softmax.coe_sum]
    simp only [EReal.coe_mul]

theorem weight_eq (b : Fin 8) (h : Fin 16) (r : Fin 2048) (j : Fin 2560) :
    val_main_v16 (F := Ideal) (fun i => (q i : EReal)) (fun i => (k i : EReal)) (fun i => (kc i : EReal)) (ix4 b h r j)
      = (Softmax.weight (cached q kc b h r) (fresh q k b h r) (scores q k kc b h r j) : EReal) := by
  have hm : val_main_v8 (F := Ideal) (fun i => (q i : EReal)) (fun i => (k i : EReal)) (fun i => (kc i : EReal)) (ix3 b h r)
      = max ⊥ (Finset.univ.fold max ⊥ fun x => (scores q k kc b h r x : EReal)) := by
    rw [val_main_v8_apply, ref_max, Softmax.minus_inf]
    simp only [scores_eq]
    rw [← Softmax.minus_inf]
    rfl
  have he : ∀ x : Fin 2560, val_main_v12 (F := Ideal) (fun i => (q i : EReal)) (fun i => (k i : EReal)) (fun i => (kc i : EReal)) (ix4 b h r x)
      = Ideal.exp ((scores q k kc b h r x : EReal) - max ⊥ (Finset.univ.fold max ⊥ fun x => (scores q k kc b h r x : EReal))) := by
    intro x
    rw [val_main_v12_apply, val_main_v11_apply, val_main_v10_apply, val_main_v9_apply, ← hm, ← scores_eq]
    generalize val_main_v8 (F := Ideal) (fun i => (q i : EReal)) (fun i => (k i : EReal)) (fun i => (kc i : EReal)) = g
    generalize val_main_v5 (F := Ideal) (fun i => (q i : EReal)) (fun i => (k i : EReal)) (fun i => (kc i : EReal)) = s
    exact congrArg Ideal.exp (congrArg (_ - ·) (congrArg _ (funext fun a => Fin.ext (by match a with | ⟨0, _⟩ => rfl | ⟨1, _⟩ => rfl | ⟨2, _⟩ => rfl))))
  have hs : val_main_v15 (F := Ideal) (fun i => (q i : EReal)) (fun i => (k i : EReal)) (fun i => (kc i : EReal)) (ix4 b h r j)
      = ∑ x, val_main_v12 (F := Ideal) (fun i => (q i : EReal)) (fun i => (k i : EReal)) (fun i => (kc i : EReal)) (ix4 b h r x) := by
    rw [val_main_v15_apply, val_main_v14_apply, val_main_v13_apply, val_main_cst_2_apply]
    generalize hg : val_main_v12 (F := Ideal) (fun i => (q i : EReal)) (fun i => (k i : EReal)) (fun i => (kc i : EReal)) = g
    have hz : (FloatOps.ofBits .f32 0x00000000#32 : Ideal .f32) = (0 : EReal) := Ideal.ofBits_zero_f32
    rw [hz]
    refine (zero_add _).trans (Finset.sum_congr rfl fun x _ => ?_)
    exact congrArg _ (funext fun a => Fin.ext (by match a with | ⟨0, _⟩ => rfl | ⟨1, _⟩ => rfl | ⟨2, _⟩ => rfl | ⟨3, _⟩ => rfl))
  rw [val_main_v16_apply, hs]
  simp only [he]
  refine (Softmax.softmax_eq (scores q k kc b h r) j).trans ?_
  rw [Softmax.weight, Softmax.sum_joined 512 2048 rfl]
  have e0 : ∀ i : Fin 512, scores q k kc b h r ⟨i, by omega⟩ = cached q kc b h r i := fun i => by
    rw [scores, dif_pos i.isLt]
  have e1 : ∀ i : Fin 2048, scores q k kc b h r ⟨512 + i, by omega⟩ = fresh q k b h r i := fun i => by
    rw [scores, dif_neg (by simp)]
    exact congrArg _ (Fin.ext (by simp))
  simp only [e0, e1]

/-- The reference's result: each row a batch element and a query, each column a head and a lane. -/
theorem ref_out (i : S16384x1024.Idx) :
    val_main_v20 (F := Ideal) (fun i => (q i : EReal)) (fun i => (k i : EReal)) v (fun i => (kc i : EReal)) vc i
      = mixed q k kc v vc ⟨(i 0 : ℕ) / 2048, by have := (i 0).isLt; simp at this; omega⟩ ⟨(i 1 : ℕ) / 64, by have := (i 1).isLt; simp at this; omega⟩
          ⟨(i 0 : ℕ) % 2048, by omega⟩ ⟨(i 1 : ℕ) % 64, by omega⟩ := by
  idx_vars i
  rw [val_main_v20_apply, val_main_v19_apply, val_main_v18_apply, val_main_v17_apply]
  have hi : idx_main_v18 (idx_main_v19 (ix2 i0 i1))
      = ix4 ⟨(i0 : ℕ) / 2048, by omega⟩ ⟨(i1 : ℕ) / 64, by omega⟩ ⟨(i1 : ℕ) % 64, by omega⟩ ⟨(i0 : ℕ) % 2048, by omega⟩ :=
    funext fun a => Fin.ext (by
      match a with
      | ⟨0, _⟩ => show ((i0 : ℕ) * 1024 + (i1 : ℕ)) / 2097152 = (i0 : ℕ) / 2048; omega
      | ⟨1, _⟩ => show ((i0 : ℕ) * 1024 + (i1 : ℕ)) / 64 % 16 = (i1 : ℕ) / 64; omega
      | ⟨2, _⟩ => show ((i0 : ℕ) * 1024 + (i1 : ℕ)) % 64 = (i1 : ℕ) % 64; omega
      | ⟨3, _⟩ => show ((i0 : ℕ) * 1024 + (i1 : ℕ)) / 1024 % 2048 = (i0 : ℕ) % 2048; omega)
  rw [hi]
  show (∑ x : Fin 2560, _) = _
  have hl : ∀ (b : Fin 8) (h : Fin 16) (d : Fin 64) (r : Fin 2048) (x : Fin 2560), lidx_main_v17 (ix4 b h d r) x = ix4 b x h d := fun b h d r x =>
    funext fun a => Fin.ext (by match a with | ⟨0, _⟩ => rfl | ⟨1, _⟩ => rfl | ⟨2, _⟩ => rfl | ⟨3, _⟩ => rfl)
  have hr : ∀ (b : Fin 8) (h : Fin 16) (d : Fin 64) (r : Fin 2048) (x : Fin 2560), ridx_main_v17 (ix4 b h d r) x = ix4 b h r x := fun b h d r x =>
    funext fun a => Fin.ext (by match a with | ⟨0, _⟩ => rfl | ⟨1, _⟩ => rfl | ⟨2, _⟩ => rfl | ⟨3, _⟩ => rfl)
  simp only [hl, hr, ref_val, weight_eq]
  rw [Softmax.sum_joined 512 2048 rfl]
  refine congrArg₂ (· + ·) (Finset.sum_congr rfl fun x _ => ?_) (Finset.sum_congr rfl fun x _ => ?_)
  · rw [dif_pos x.isLt, mul_comm, scores, dif_pos x.isLt]
  · rw [dif_neg (by simp), mul_comm, scores, dif_neg (by simp)]
    simp only [Nat.add_sub_cancel_left]

end Real

end Cert.MlaValue
-- ==== Proof.MlaArray.lean ====
/-
  What the latent attention kernel's result array holds after its run.
-/
module

public import proofs.«01_k».proof.Proof.MlaBlock
public import proofs.«01_k».proof.Proof.MlaRef
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MlaValue

open Cert.MlaIdeal Cert.MlaIdeal.Gen

variable (m : (ℓ : Loc nD τ sig) → Buf (Elt Ideal) ℓ)

/-- Where each window's block lies, in the point's number. -/
theorem idx : ∀ t : Fin cfg0.N, win0_0.index t = ![t.val / 16 * 2 + t.val % 2, t.val / 2 % 8] ∧ win0_1.index t = ![t.val / 16, t.val / 2 % 8]
    ∧ win0_2.index t = ![t.val / 16, t.val / 2 % 8] ∧ win0_3.index t = ![t.val / 16, t.val / 2 % 8] ∧ win0_4.index t = ![t.val / 16, t.val / 2 % 8]
    ∧ win0_5.index t = ![t.val / 16 * 2 + t.val % 2, t.val / 2 % 8] :=
  (by decide +kernel : ∀ t : Fin grid0.N, _)

theorem points (t : Fin cfg0.N) : t.val < 128 := t.isLt

/-- Lanes 96 to 127 of every head are padding. -/
theorem pad_apply (x : FVec Ideal S8x2048x16x96 .f32) (r : Fin 16384) (y : Fin 2048) :
    shapeCast S16384x2048 (pad S8x2048x16x128 ![0, 0, 0, 0] ![0, 0, 0, 32] ![0, 0, 0, 0] x (sitofp (F := Ideal) .f32 (constantI S_ 32 0#32))
        pads_S8x2048x16x96_S8x2048x16x128_000_000_000_0320 h_S_) shapeCasts_S8x2048x16x128_S16384x2048 (ix2 r y)
      = if h : (y : ℕ) % 128 < 96 then x (ix4 ⟨(r : ℕ) / 2048, by omega⟩ ⟨(r : ℕ) % 2048, by omega⟩ ⟨(y : ℕ) / 128, by omega⟩ ⟨(y : ℕ) % 128, h⟩) else 0 := by
  pointwise
  by_cases h : (y : ℕ) % 128 < 96
  · rw [dif_pos ⟨by omega, by omega, by omega, h⟩, dif_pos h]
  · rw [dif_neg (fun h' => h h'.2.2.2), dif_neg h]
    show (((0#32 : BitVec 32).toInt : ℝ) : EReal) = 0
    simp

theorem pad_cache_apply (x : FVec Ideal S8x512x16x96 .f32) (r : Fin 4096) (y : Fin 2048) :
    shapeCast S4096x2048 (pad S8x512x16x128 ![0, 0, 0, 0] ![0, 0, 0, 32] ![0, 0, 0, 0] x (sitofp (F := Ideal) .f32 (constantI S_ 32 0#32))
        pads_S8x512x16x96_S8x512x16x128_000_000_000_0320 h_S_) shapeCasts_S8x512x16x128_S4096x2048 (ix2 r y)
      = if h : (y : ℕ) % 128 < 96 then x (ix4 ⟨(r : ℕ) / 512, by omega⟩ ⟨(r : ℕ) % 512, by omega⟩ ⟨(y : ℕ) / 128, by omega⟩ ⟨(y : ℕ) % 128, h⟩) else 0 := by
  pointwise
  by_cases h : (y : ℕ) % 128 < 96
  · rw [dif_pos ⟨by omega, by omega, by omega, h⟩, dif_pos h]
  · rw [dif_neg (fun h' => h h'.2.2.2), dif_neg h]
    show (((0#32 : BitVec 32).toInt : ℝ) : EReal) = 0
    simp

/-- The queries as the call takes them: 96 lanes per head, padded with zeros to 128. -/
theorem entry_q (c : Dev nD) (r : Fin 16384) (x : Fin 2048) :
    (show FVec Ideal S16384x2048 .f32 from V m c main_v6) (ix2 r x)
      = if h : (x : ℕ) % 128 < 96 then (show FVec Ideal S8x2048x16x96 .f32 from m ((c : Thread nD τ).loc main_arg0)) (ix4 ⟨(r : ℕ) / 2048, by omega⟩ ⟨(r : ℕ) % 2048, by omega⟩ ⟨(x : ℕ) / 128, by omega⟩ ⟨(x : ℕ) % 128, h⟩) else 0 := by
  simp only [V, hostOps0, hostOps0_1, hostOps0_2, hostOps0_3, hostOps0_4, hostOps0_5, hostOps0_6, List.flatten_cons, List.flatten_nil, List.append_nil, List.cons_append, List.nil_append]
  entry_read
  exact pad_apply _ r x

/-- The new keys, likewise. -/
theorem entry_k (c : Dev nD) (r : Fin 16384) (x : Fin 2048) :
    (show FVec Ideal S16384x2048 .bf16 from V m c main_v9) (ix2 r x)
      = if h : (x : ℕ) % 128 < 96 then (show FVec Ideal S8x2048x16x96 .f32 from m ((c : Thread nD τ).loc main_arg1)) (ix4 ⟨(r : ℕ) / 2048, by omega⟩ ⟨(r : ℕ) % 2048, by omega⟩ ⟨(x : ℕ) / 128, by omega⟩ ⟨(x : ℕ) % 128, h⟩) else 0 := by
  simp only [V, hostOps0, hostOps0_1, hostOps0_2, hostOps0_3, hostOps0_4, hostOps0_5, hostOps0_6, List.flatten_cons, List.flatten_nil, List.append_nil, List.cons_append, List.nil_append]
  entry_read
  exact pad_apply _ r x

/-- The cached keys, likewise. -/
theorem entry_kc (c : Dev nD) (r : Fin 4096) (x : Fin 2048) :
    (show FVec Ideal S4096x2048 .bf16 from V m c main_v2) (ix2 r x)
      = if h : (x : ℕ) % 128 < 96 then (show FVec Ideal S8x512x16x96 .f32 from m ((c : Thread nD τ).loc main_arg3)) (ix4 ⟨(r : ℕ) / 512, by omega⟩ ⟨(r : ℕ) % 512, by omega⟩ ⟨(x : ℕ) / 128, by omega⟩ ⟨(x : ℕ) % 128, h⟩) else 0 := by
  simp only [V, hostOps0, hostOps0_1, hostOps0_2, hostOps0_3, hostOps0_4, hostOps0_5, hostOps0_6, List.flatten_cons, List.flatten_nil, List.append_nil, List.cons_append, List.nil_append]
  entry_read
  exact pad_cache_apply _ r x

/-- The new values: 64 lanes per head. -/
theorem entry_v (c : Dev nD) (r : Fin 16384) (x : Fin 1024) :
    (show FVec Ideal S16384x1024 .bf16 from V m c main_v11) (ix2 r x)
      = (show FVec Ideal S8x2048x16x64 .f32 from m ((c : Thread nD τ).loc main_arg2)) (ix4 ⟨(r : ℕ) / 2048, by omega⟩ ⟨(r : ℕ) % 2048, by omega⟩ ⟨(x : ℕ) / 64, by omega⟩ ⟨(x : ℕ) % 64, by omega⟩) := by
  simp only [V, hostOps0, hostOps0_1, hostOps0_2, hostOps0_3, hostOps0_4, hostOps0_5, hostOps0_6, List.flatten_cons, List.flatten_nil, List.append_nil, List.cons_append, List.nil_append]
  entry_read
  pointwise

/-- The cached values, likewise. -/
theorem entry_vc (c : Dev nD) (r : Fin 4096) (x : Fin 1024) :
    (show FVec Ideal S4096x1024 .bf16 from V m c main_v4) (ix2 r x)
      = (show FVec Ideal S8x512x16x64 .f32 from m ((c : Thread nD τ).loc main_arg4)) (ix4 ⟨(r : ℕ) / 512, by omega⟩ ⟨(r : ℕ) % 512, by omega⟩ ⟨(x : ℕ) / 64, by omega⟩ ⟨(x : ℕ) % 64, by omega⟩) := by
  simp only [V, hostOps0, hostOps0_1, hostOps0_2, hostOps0_3, hostOps0_4, hostOps0_5, hostOps0_6, List.flatten_cons, List.flatten_nil, List.append_nil, List.cons_append, List.nil_append]
  entry_read
  pointwise

/-- The query block of a point. -/
theorem blk_q (c : Dev nD) (t : Fin cfg0.N) (r : Fin 1024) (x : Fin 256) :
    (show FVec Ideal S1024x256 .f32 from iblk m c 0 t) (ix2 r x)
      = (show FVec Ideal S16384x2048 .f32 from V m c main_v6) (ix2 ⟨(t.val / 16 * 2 + t.val % 2) * 1024 + r, by have := points t; omega⟩ ⟨t.val / 2 % 8 * 256 + x, by omega⟩) := by
  generalize hv : (show FVec Ideal S16384x2048 .f32 from V m c main_v6) = v
  blk_point [iblk, hv, idx t]

/-- The cached keys' block. -/
theorem blk_kc (c : Dev nD) (t : Fin cfg0.N) (r : Fin 512) (x : Fin 256) :
    (show FVec Ideal S512x256 .bf16 from iblk m c 1 t) (ix2 r x)
      = (show FVec Ideal S4096x2048 .bf16 from V m c main_v2) (ix2 ⟨t.val / 16 * 512 + r, by have := points t; omega⟩ ⟨t.val / 2 % 8 * 256 + x, by omega⟩) := by
  generalize hv : (show FVec Ideal S4096x2048 .bf16 from V m c main_v2) = v
  blk_point [iblk, hv, idx t]

/-- The cached values' block. -/
theorem blk_vc (c : Dev nD) (t : Fin cfg0.N) (r : Fin 512) (x : Fin 128) :
    (show FVec Ideal S512x128 .bf16 from iblk m c 2 t) (ix2 r x)
      = (show FVec Ideal S4096x1024 .bf16 from V m c main_v4) (ix2 ⟨t.val / 16 * 512 + r, by have := points t; omega⟩ ⟨t.val / 2 % 8 * 128 + x, by omega⟩) := by
  generalize hv : (show FVec Ideal S4096x1024 .bf16 from V m c main_v4) = v
  blk_point [iblk, hv, idx t]

/-- The new keys' block. -/
theorem blk_k (c : Dev nD) (t : Fin cfg0.N) (r : Fin 2048) (x : Fin 256) :
    (show FVec Ideal S2048x256 .bf16 from iblk m c 3 t) (ix2 r x)
      = (show FVec Ideal S16384x2048 .bf16 from V m c main_v9) (ix2 ⟨t.val / 16 * 2048 + r, by have := points t; omega⟩ ⟨t.val / 2 % 8 * 256 + x, by omega⟩) := by
  generalize hv : (show FVec Ideal S16384x2048 .bf16 from V m c main_v9) = v
  blk_point [iblk, hv, idx t]

/-- The new values' block. -/
theorem blk_v (c : Dev nD) (t : Fin cfg0.N) (r : Fin 2048) (x : Fin 128) :
    (show FVec Ideal S2048x128 .bf16 from iblk m c 4 t) (ix2 r x)
      = (show FVec Ideal S16384x1024 .bf16 from V m c main_v11) (ix2 ⟨t.val / 16 * 2048 + r, by have := points t; omega⟩ ⟨t.val / 2 % 8 * 128 + x, by omega⟩) := by
  generalize hv : (show FVec Ideal S16384x1024 .bf16 from V m c main_v11) = v
  blk_point [iblk, hv, idx t]

/-- A score over padded lanes: the inner product of the 96 lanes over the root of their number, in base two. -/
theorem score_real {n : Nat} (q : FVec Ideal S1024x256 .f32) (k : FVec Ideal ⟨2, ![n, 128]⟩ .bf16) (off : Nat) (h : off ≤ 128) (r : Fin 1024) (i : Fin n)
    (a b : Fin 96 → ℝ) (hq : ∀ x : Fin 128, q (ix2 r ⟨off + (x : ℕ), by omega⟩) = if c : (x : ℕ) < 96 then (a ⟨x, c⟩ : EReal) else 0)
    (hk : ∀ x : Fin 128, k (ix2 i x) = if c : (x : ℕ) < 96 then (b ⟨x, c⟩ : EReal) else 0) :
    score q k off h r i = (((∑ x, a x * b x) / Real.sqrt 96 / Real.log 2 : ℝ) : EReal) := by
  have hsc : scale = (((Real.sqrt 96)⁻¹ * (Real.log 2)⁻¹ : ℝ) : EReal) := rfl
  unfold score
  simp only [hq, hk, hsc]
  rw [Softmax.sum_joined 96 32 rfl]
  have h0 : ∀ x : Fin 96, (if c : (x : ℕ) < 96 then (a ⟨x, c⟩ : EReal) else 0) * (((Real.sqrt 96)⁻¹ * (Real.log 2)⁻¹ : ℝ) : EReal)
      * (if c : (x : ℕ) < 96 then (b ⟨x, c⟩ : EReal) else 0) = ((a x * b x * ((Real.sqrt 96)⁻¹ * (Real.log 2)⁻¹) : ℝ) : EReal) := fun x => by
    rw [dif_pos x.isLt, dif_pos x.isLt, ← EReal.coe_mul, ← EReal.coe_mul]
    congr 1
    ring
  have h1 : ∀ x : Fin 32, (if c : 96 + (x : ℕ) < 96 then (a ⟨96 + x, c⟩ : EReal) else 0) * (((Real.sqrt 96)⁻¹ * (Real.log 2)⁻¹ : ℝ) : EReal)
      * (if c : 96 + (x : ℕ) < 96 then (b ⟨96 + x, c⟩ : EReal) else 0) = 0 := fun x => by
    rw [dif_neg (by omega), dif_neg (by omega), zero_mul, zero_mul]
  simp only [h0, h1]
  rw [Finset.sum_const_zero, add_zero, Softmax.coe_sum, ← Finset.sum_mul]
  congr 1
  rw [div_eq_mul_inv, div_eq_mul_inv, mul_assoc]

section Final

variable (q k : S8x2048x16x96.Idx → ℝ) (kc : S8x512x16x96.Idx → ℝ) (c : Dev nD)
  (hq : (show FVec Ideal S8x2048x16x96 .f32 from m ((c : Thread nD τ).loc main_arg0)) = fun i => (q i : EReal))
  (hk : (show FVec Ideal S8x2048x16x96 .f32 from m ((c : Thread nD τ).loc main_arg1)) = fun i => (k i : EReal))
  (hkc : (show FVec Ideal S8x512x16x96 .f32 from m ((c : Thread nD τ).loc main_arg3)) = fun i => (kc i : EReal))

include hq in
/-- A point's query lanes, per head of its pair. -/
theorem lanes_q (t : Fin cfg0.N) (o : Fin 2) (r : Fin 1024) (x : Fin 128) :
    (show FVec Ideal S1024x256 .f32 from iblk m c 0 t) (ix2 r ⟨128 * o + (x : ℕ), by omega⟩)
      = if h : (x : ℕ) < 96 then (q (ix4 ⟨t.val / 16, by have := points t; omega⟩ ⟨t.val % 2 * 1024 + r, by omega⟩ ⟨t.val / 2 % 8 * 2 + o, by omega⟩ ⟨x, h⟩) : EReal) else 0 := by
  have ht := points t
  have e1 : (t.val / 2 % 8 * 256 + (128 * (o : ℕ) + (x : ℕ))) % 128 = x := by omega
  have e2 : (t.val / 2 % 8 * 256 + (128 * (o : ℕ) + (x : ℕ))) / 128 = t.val / 2 % 8 * 2 + o := by omega
  have e3 : ((t.val / 16 * 2 + t.val % 2) * 1024 + (r : ℕ)) / 2048 = t.val / 16 := by omega
  have e4 : ((t.val / 16 * 2 + t.val % 2) * 1024 + (r : ℕ)) % 2048 = t.val % 2 * 1024 + r := by omega
  rw [blk_q, entry_q, hq]
  simp only [e1, e2, e3, e4]

include hk in
/-- A point's new keys. -/
theorem lanes_k (t : Fin cfg0.N) (o : Fin 2) (r : Fin 2048) (x : Fin 128) :
    (show FVec Ideal S2048x256 .bf16 from iblk m c 3 t) (ix2 r ⟨128 * o + (x : ℕ), by omega⟩)
      = if h : (x : ℕ) < 96 then (k (ix4 ⟨t.val / 16, by have := points t; omega⟩ r ⟨t.val / 2 % 8 * 2 + o, by omega⟩ ⟨x, h⟩) : EReal) else 0 := by
  have ht := points t
  have e1 : (t.val / 2 % 8 * 256 + (128 * (o : ℕ) + (x : ℕ))) % 128 = x := by omega
  have e2 : (t.val / 2 % 8 * 256 + (128 * (o : ℕ) + (x : ℕ))) / 128 = t.val / 2 % 8 * 2 + o := by omega
  have e3 : (t.val / 16 * 2048 + (r : ℕ)) / 2048 = t.val / 16 := by omega
  have e4 : (t.val / 16 * 2048 + (r : ℕ)) % 2048 = r := by omega
  rw [blk_k, entry_k, hk]
  simp only [e1, e2, e3, e4]

include hkc in
/-- A point's cached keys. -/
theorem lanes_kc (t : Fin cfg0.N) (o : Fin 2) (r : Fin 512) (x : Fin 128) :
    (show FVec Ideal S512x256 .bf16 from iblk m c 1 t) (ix2 r ⟨128 * o + (x : ℕ), by omega⟩)
      = if h : (x : ℕ) < 96 then (kc (ix4 ⟨t.val / 16, by have := points t; omega⟩ r ⟨t.val / 2 % 8 * 2 + o, by omega⟩ ⟨x, h⟩) : EReal) else 0 := by
  have ht := points t
  have e1 : (t.val / 2 % 8 * 256 + (128 * (o : ℕ) + (x : ℕ))) % 128 = x := by omega
  have e2 : (t.val / 2 % 8 * 256 + (128 * (o : ℕ) + (x : ℕ))) / 128 = t.val / 2 % 8 * 2 + o := by omega
  have e3 : (t.val / 16 * 512 + (r : ℕ)) / 512 = t.val / 16 := by omega
  have e4 : (t.val / 16 * 512 + (r : ℕ)) % 512 = r := by omega
  rw [blk_kc, entry_kc, hkc]
  simp only [e1, e2, e3, e4]

/-- A point's new values. -/
theorem lanes_v (t : Fin cfg0.N) (o : Fin 2) (r : Fin 2048) (x : Fin 128) (ho : (x : ℕ) / 64 = o) :
    (show FVec Ideal S2048x128 .bf16 from iblk m c 4 t) (ix2 r x)
      = (show FVec Ideal S8x2048x16x64 .f32 from m ((c : Thread nD τ).loc main_arg2)) (ix4 ⟨t.val / 16, by have := points t; omega⟩ r ⟨t.val / 2 % 8 * 2 + o, by omega⟩ ⟨(x : ℕ) % 64, by omega⟩) := by
  have ht := points t
  have e1 : (t.val / 2 % 8 * 128 + (x : ℕ)) % 64 = (x : ℕ) % 64 := by omega
  have e2 : (t.val / 2 % 8 * 128 + (x : ℕ)) / 64 = t.val / 2 % 8 * 2 + o := by omega
  have e3 : (t.val / 16 * 2048 + (r : ℕ)) / 2048 = t.val / 16 := by omega
  have e4 : (t.val / 16 * 2048 + (r : ℕ)) % 2048 = r := by omega
  rw [blk_v, entry_v]
  simp only [e1, e2, e3, e4]

/-- A point's cached values. -/
theorem lanes_vc (t : Fin cfg0.N) (o : Fin 2) (r : Fin 512) (x : Fin 128) (ho : (x : ℕ) / 64 = o) :
    (show FVec Ideal S512x128 .bf16 from iblk m c 2 t) (ix2 r x)
      = (show FVec Ideal S8x512x16x64 .f32 from m ((c : Thread nD τ).loc main_arg4)) (ix4 ⟨t.val / 16, by have := points t; omega⟩ r ⟨t.val / 2 % 8 * 2 + o, by omega⟩ ⟨(x : ℕ) % 64, by omega⟩) := by
  have ht := points t
  have e1 : (t.val / 2 % 8 * 128 + (x : ℕ)) % 64 = (x : ℕ) % 64 := by omega
  have e2 : (t.val / 2 % 8 * 128 + (x : ℕ)) / 64 = t.val / 2 % 8 * 2 + o := by omega
  have e3 : (t.val / 16 * 512 + (r : ℕ)) / 512 = t.val / 16 := by omega
  have e4 : (t.val / 16 * 512 + (r : ℕ)) % 512 = r := by omega
  rw [blk_vc, entry_vc]
  simp only [e1, e2, e3, e4]

include hq hk hkc in
/-- One head's quotient at a point, from any keys that read the block's slot of that head. -/
theorem head_eq (t : Fin cfg0.N) (o : Fin 2) (off : Nat) (hoff : off = 128 * (o : ℕ)) (r : Fin 1024) (l : Fin 128) (ho : (l : ℕ) / 64 = o)
    (ka : FVec Ideal S512x128 .bf16) (kb : FVec Ideal S2048x128 .bf16)
    (ha : ∀ i x, ka (ix2 i x) = (show FVec Ideal S512x256 .bf16 from iblk m c 1 t) (ix2 i ⟨128 * o + (x : ℕ), by omega⟩))
    (hb : ∀ i x, kb (ix2 i x) = (show FVec Ideal S2048x256 .bf16 from iblk m c 3 t) (ix2 i ⟨128 * o + (x : ℕ), by omega⟩)) :
    Ideal.div (Softmax.attend (score (iblk m c 0 t) ka off (by omega) r) (score (iblk m c 0 t) kb off (by omega) r)
          (fun i => (show FVec Ideal S512x128 .bf16 from iblk m c 2 t) (ix2 i l)) (fun i => (show FVec Ideal S2048x128 .bf16 from iblk m c 4 t) (ix2 i l)))
        (Softmax.attend (score (iblk m c 0 t) ka off (by omega) r) (score (iblk m c 0 t) kb off (by omega) r) (fun _ => 1) (fun _ => 1))
      = mixed q k kc (m ((c : Thread nD τ).loc main_arg2)) (m ((c : Thread nD τ).loc main_arg4)) ⟨t.val / 16, by have := points t; omega⟩
          ⟨t.val / 2 % 8 * 2 + o, by omega⟩ ⟨t.val % 2 * 1024 + r, by omega⟩ ⟨(l : ℕ) % 64, by omega⟩ := by
  subst hoff
  have sa : score (iblk m c 0 t) ka (128 * (o : ℕ)) (by omega) r = fun i => ((cached q kc ⟨t.val / 16, by have := points t; omega⟩
          ⟨t.val / 2 % 8 * 2 + o, by omega⟩ ⟨t.val % 2 * 1024 + r, by omega⟩ i / Real.log 2 : ℝ) : EReal) := funext fun i =>
    score_real _ _ _ _ _ _ _ _ (fun x => lanes_q m q c hq t o r x) (fun x => (ha i x).trans (lanes_kc m kc c hkc t o i x))
  have sb : score (iblk m c 0 t) kb (128 * (o : ℕ)) (by omega) r = fun i => ((fresh q k ⟨t.val / 16, by have := points t; omega⟩
          ⟨t.val / 2 % 8 * 2 + o, by omega⟩ ⟨t.val % 2 * 1024 + r, by omega⟩ i / Real.log 2 : ℝ) : EReal) := funext fun i =>
    score_real _ _ _ _ _ _ _ _ (fun x => lanes_q m q c hq t o r x) (fun x => (hb i x).trans (lanes_k m k c hk t o i x))
  rw [sa, sb, Softmax.attend_div]
  refine congrArg₂ (· + ·) (Finset.sum_congr rfl fun i _ => congrArg (_ * ·) ?_) (Finset.sum_congr rfl fun i _ => congrArg (_ * ·) ?_)
  · exact lanes_vc m c t o i l ho
  · exact lanes_v m c t o i l ho

/-- The softmax of the scores times the values, laid out as the result is: a row per query, a column per head and lane. -/
def outAt (v : FVec Ideal S8x2048x16x64 .f32) (vc : FVec Ideal S8x512x16x64 .f32) : S16384x1024.Idx → EReal := fun i =>
  mixed q k kc v vc ⟨(i 0 : ℕ) / 2048, by have := (i 0).isLt; simp at this; omega⟩ ⟨(i 1 : ℕ) / 64, by have := (i 1).isLt; simp at this; omega⟩
          ⟨(i 0 : ℕ) % 2048, by omega⟩ ⟨(i 1 : ℕ) % 64, by omega⟩

include hq hk hkc in
/-- The result array after the run. -/
theorem final : (dats m 0 c).arrAt 5 (cfgs 0).N
    = outAt q k kc (m ((c : Thread nD τ).loc main_arg2)) (m ((c : Thread nD τ).loc main_arg4)) := by
  refine (dats m 0 c).arrAt_eq_of_covers 5 _ (by decide +kernel) fun t hf y => ?_
  blk_simp
  have ht := points t
  have hy0 : (y 0 : ℕ) < 1024 := (y 0).isLt
  have hy1 : (y 1 : ℕ) < 128 := (y 1).isLt
  have e0 : (((win0_5.blk t).view.emb y) 0 : ℕ) = (t.val / 16 * 2 + t.val % 2) * 1024 + (y 0 : ℕ) := by blk_simp [idx t]
  have e1 : (((win0_5.blk t).view.emb y) 1 : ℕ) = t.val / 2 % 8 * 128 + (y 1 : ℕ) := by blk_simp [idx t]
  have d0 : ((t.val / 16 * 2 + t.val % 2) * 1024 + (y 0 : ℕ)) / 2048 = t.val / 16 := by omega
  have d1 : ((t.val / 16 * 2 + t.val % 2) * 1024 + (y 0 : ℕ)) % 2048 = t.val % 2 * 1024 + (y 0 : ℕ) := by omega
  have d2 : (t.val / 2 % 8 * 128 + (y 1 : ℕ)) % 64 = (y 1 : ℕ) % 64 := by omega
  have hy : y = ix2 (⟨(y 0 : ℕ), hy0⟩ : Fin 1024) (⟨(y 1 : ℕ), hy1⟩ : Fin 128) := funext fun a => by match a with | ⟨0, _⟩ => rfl | ⟨1, _⟩ => rfl
  rw [after0_5]
  have hs : ∀ (j : S1024x128.Idx), out0_5 (iblk m c 0 t) (iblk m c 1 t) (iblk m c 2 t) (iblk m c 3 t) (iblk m c 4 t) j
      = k0_pay1 (F := Ideal) (k0_pay12 k0_pay4 (k0_pay6 (iblk m c 0 t) (View.ld (iblk m c 1 t) r0_1)) (k0_pay7 (iblk m c 0 t) (View.ld (iblk m c 1 t) r0_1) (iblk m c 2 t))
          (k0_pay8 (iblk m c 0 t) (View.ld (iblk m c 3 t) r0_3)) (k0_pay9 (iblk m c 4 t)) k0_pay10 k0_pay11)
        (k0_pay13 (k0_pay2 (iblk m c 0 t))) k0_pay14 (k0_pay16 (k0_pay2 (iblk m c 0 t)) (View.ld (iblk m c 1 t) r0_5))
        (k0_pay17 (k0_pay2 (iblk m c 0 t)) (View.ld (iblk m c 1 t) r0_5) (iblk m c 2 t)) (View.ld (iblk m c 3 t) r0_6) (iblk m c 4 t) j := by
    intro j
    unfold_out out0_5
    frame_out
    rfl
  refine (hs y).trans ?_
  unfold outAt
  simp only [e0, e1, d0, d1, d2]
  refine ((congrArg _ hy).trans (out_apply _ _ _ _ _ _ _ _ _)).trans ?_
  by_cases h : (y 1 : ℕ) < 64
  · rw [if_pos h]
    refine (head_eq m q k kc c hq hk hkc t 0 0 rfl ⟨(y 0 : ℕ), hy0⟩ ⟨(y 1 : ℕ), hy1⟩ (by show (y 1 : ℕ) / 64 = 0; omega) _ _ (fun i x => ?_) (fun i x => ?_)).trans ?_
    · generalize iblk m c 1 t = z
      pointwise
    · generalize iblk m c 3 t = z
      pointwise
    · congr 1
      exact Fin.ext (by show t.val / 2 % 8 * 2 + 0 = (t.val / 2 % 8 * 128 + (y 1 : ℕ)) / 64; omega)
  · rw [if_neg h]
    refine (head_eq m q k kc c hq hk hkc t 1 128 rfl ⟨(y 0 : ℕ), hy0⟩ ⟨(y 1 : ℕ), hy1⟩ (by show (y 1 : ℕ) / 64 = 1; omega) _ _ (fun i x => ?_) (fun i x => ?_)).trans ?_
    · generalize iblk m c 1 t = z
      pointwise
    · generalize iblk m c 3 t = z
      pointwise
    · congr 1
      exact Fin.ext (by show t.val / 2 % 8 * 2 + 1 = (t.val / 2 % 8 * 128 + (y 1 : ℕ)) / 64; omega)

end Final

end Cert.MlaValue
-- ==== Proof.MlaPre.lean ====
/-
  What the claim's condition says: three of the attention's arguments hold real numbers.
-/
module

public import proofs.«01_k».proof.Pre_mla_finite
public import Idealize.ShloMosaic.Lib.ReduceAll
public import Idealize.ShloMosaic.Lib.Pointwise
public import Idealize.ShloMosaic.PureOps.Ideal.Laws

@[expose] public section

set_option maxRecDepth 16384

noncomputable section

namespace Cert.MlaPre

open Idealize.ShloMosaic Cert.Pre_mla_finite

/-- The shape relations of the condition. -/
theorem facts : Cert.Pre_mla_finite.Facts := ⟨by decide, by decide, by decide, by decide, by decide⟩

/-- The constant compared against is the greatest extended real. -/
theorem inf_eq : Ideal.ofBits .f32 0x7F800000#32 = ⊤ := by
  simp [Ideal.ofBits, Ideal.ieee]

/-- An extended real whose absolute value is below infinity is a real number. -/
theorem real_of_abs_lt (x : Ideal .f32) (h : FloatOps.cmpf .olt (FloatOps.absf x) (Ideal.ofBits .f32 0x7F800000#32) = 1#1) :
    x = ((EReal.toReal x : ℝ) : EReal) := by
  rw [inf_eq] at h
  induction x using EReal.rec with
  | bot => exfalso; revert h; simp [FloatOps.cmpf, FloatOps.absf, Ideal.cmp]
  | coe r => rfl
  | top => exfalso; revert h; simp [FloatOps.cmpf, FloatOps.absf, Ideal.cmp]

/-- An array all of whose absolute values are below infinity holds real numbers. -/
theorem real_of_all {s : Shape} {axes : List (Fin s.rank)} (x : FVec Ideal s .f32) (b : S_.BroadcastsInDim s (![] : Fin 0 → Fin s.rank))
    (h : s.ReducesTo axes S_) (hu : 0 < S_.numel) (j : S_.Idx)
    (e : Host.reduce IntOp.andi (cmpf .olt (Host.absf x) (broadcastInDim s ![] b (constant (F := Ideal) S_ .f32 0x7F800000#32))) (constantI S_ 1 1#1) h hu j = 1#1) :
    ∃ r : s.Idx → ℝ, x = fun i => ((r i : ℝ) : EReal) :=
  haveI : Subsingleton S_.Idx := ⟨fun a b => funext fun k => k.elim0⟩
  ⟨fun i => EReal.toReal (x i), funext fun i => real_of_abs_lt (x i) (Host.reduce_andi_all _ _ h hu j e i)⟩

/-- Under the condition the queries, the new keys and the cached keys hold real numbers. -/
theorem finite [Facts] (q k : FVec Ideal S8x2048x16x96 .f32) (v : FVec Ideal S8x2048x16x64 .f32) (kc : FVec Ideal S8x512x16x96 .f32) (vc : FVec Ideal S8x512x16x64 .f32)
    (j : S_.Idx) (h : fn q k v kc vc j = 1#1) :
    (∃ r : S8x2048x16x96.Idx → ℝ, q = fun i => ((r i : ℝ) : EReal)) ∧ (∃ r : S8x2048x16x96.Idx → ℝ, k = fun i => ((r i : ℝ) : EReal))
      ∧ ∃ r : S8x512x16x96.Idx → ℝ, kc = fun i => ((r i : ℝ) : EReal) := by
  obtain ⟨h1, h2⟩ := IntOp.andi_eq_one.1 h
  obtain ⟨h3, h4⟩ := IntOp.andi_eq_one.1 h1
  exact ⟨real_of_all q _ _ _ j h3, real_of_all k _ _ _ j h4, real_of_all kc _ _ _ j h2⟩

end Cert.MlaPre

end
-- ==== Proof.Rows.lean ====
/-
  The row formulas that the kernels' blocks and the references share: the normalised and modulated row of
  a token, the modulation row of the token's batch element, and the normalisation per head.
-/
module

public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Rows

/-- One row, divided by the root of its mean square plus the small constant, times the gain, times one
    plus the scale, plus the shift: the element at `d`. -/
def normed (x g sc sh : Fin 1024 → EReal) (d : Fin 1024) : EReal :=
  x d * Ideal.rsqrt (Ideal.div (∑ k : Fin 1024, x k * x k) (Ideal.ofBits .f32 0x44800000#32) + Ideal.ofBits .f32 0x358637BD#32) * g d
    * (Ideal.ofBits .f32 0x3F800000#32 + sc d) + sh d

/-- The modulation row of a token: the first for the 4096 tokens of the prompt, then one for every 2048 tokens. -/
def tok (f : Fin 16 → Fin 1024 → EReal) (r : Fin 20480) (d : Fin 1024) : EReal :=
  if h : (r : ℕ) < 4096 then f 0 d else f ⟨1 + ((r : ℕ) - 4096) / 2048, by omega⟩ d

/-- The 64 lanes of the head that holds lane `j`, divided by the root of their mean square plus the
    small constant: the element at `j`. -/
def perHead (f : Fin 128 → EReal) (j : Fin 128) : EReal :=
  f j * Ideal.rsqrt (Ideal.div (∑ x : Fin 64, f ⟨64 * ((j : ℕ) / 64) + x, by omega⟩ * f ⟨64 * ((j : ℕ) / 64) + x, by omega⟩)
    (Ideal.ofBits .f32 0x42800000#32) + Ideal.ofBits .f32 0x358637BD#32)

end Cert.Rows
-- ==== Proof.EvenInBlock.lean ====
/-
  What one grid point of the even layer's input kernel computes, element by element: the normalised,
  modulated rows of its block, their projection, and the keys normalised per head.
-/
module

public import proofs.«01_k».proof.Proof.Gen.EvenInIdeal.Value
public import proofs.«01_k».proof.Proof.Rows
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.EvenInValue

open Cert.EvenInIdeal Cert.EvenInIdeal.Gen

open Cert.Rows

/-- The projection of the block's normalised rows. -/
theorem proj_apply (x : FVec Ideal S512x1024 .f32) (g : FVec Ideal S1x1024 .f32) (sc sh : FVec Ideal S1x1x1024 .f32)
    (w : FVec Ideal S1024x2816 .bf16) (r : Fin 512) (j : Fin 2816) :
    k0_pay3 (F := Ideal) x g sc sh w (ix2 r j)
      = ∑ d : Fin 1024, normed (fun k => x (ix2 r k)) (fun k => g (ix2 0 k)) (fun k => sc (ix3 0 0 k)) (fun k => sh (ix3 0 0 k)) d * w (ix2 d j) := by
  pointwise [k0_pay3, normed]

/-- The first 1536 columns are stored. -/
theorem hy_apply (x : FVec Ideal S512x1024 .f32) (g : FVec Ideal S1x1024 .f32) (sc sh : FVec Ideal S1x1x1024 .f32)
    (w : FVec Ideal S1024x2816 .bf16) (r : Fin 512) (j : Fin 1536) :
    k0_pay4 (F := Ideal) x g sc sh w (ix2 r j) = k0_pay3 (F := Ideal) x g sc sh w (ix2 r ⟨j, by omega⟩) := by
  unfold k0_pay4
  generalize k0_pay3 (F := Ideal) x g sc sh w = u
  pointwise

/-- The values are columns 2688 to 2815. -/
theorem v_apply (u : FVec Ideal S512x2816 .f32) (r : Fin 512) (j : Fin 128) :
    k0_pay1 (F := Ideal) u (ix2 r j) = u (ix2 r ⟨2688 + j, by omega⟩) := by
  pointwise [k0_pay1]

/-- The rounded values are the same columns. -/
theorem vb_apply (u : FVec Ideal S512x2816 .f32) (r : Fin 512) (j : Fin 128) :
    k0_pay2 (F := Ideal) u (ix2 r j) = u (ix2 r ⟨2688 + j, by omega⟩) := by
  pointwise [k0_pay2, k0_pay1]

/-- The mask of the first 64 lanes. -/
theorem mask_eq : ∀ x : Fin 128, IntOp.cmpi CmpIPredicate.slt (BitVec.ofNat 32 (x : ℕ)) 64#32 = if (x : ℕ) < 64 then 1#1 else 0#1 := by
  decide

/-- Summing the first 64 lanes, the others replaced by zero. -/
theorem sum_low (f : Fin 128 → EReal) :
    (∑ x : Fin 128, Scalar.select (IntOp.cmpi CmpIPredicate.slt (BitVec.ofNat 32 (x : ℕ)) 64#32) (f x) (0 : EReal))
      = ∑ x : Fin 64, f ⟨64 * 0 + x, by omega⟩ := by
  rw [Fin.sum_univ_add (a := 64) (b := 64)]
  rw [show (∑ i : Fin 64, Scalar.select (IntOp.cmpi CmpIPredicate.slt (BitVec.ofNat 32 ((Fin.natAdd 64 i : Fin 128) : ℕ)) 64#32) (f (Fin.natAdd 64 i)) (0 : EReal)) = 0 from
    Finset.sum_eq_zero fun i _ => by rw [mask_eq]; simp [Scalar.select], add_zero]
  refine Finset.sum_congr rfl fun i _ => ?_
  rw [mask_eq]
  simp [Scalar.select]
  rfl

/-- Summing the last 64 lanes, the others replaced by zero. -/
theorem sum_high (f : Fin 128 → EReal) :
    (∑ x : Fin 128, Scalar.select (IntOp.cmpi CmpIPredicate.slt (BitVec.ofNat 32 (x : ℕ)) 64#32) (0 : EReal) (f x))
      = ∑ x : Fin 64, f ⟨64 * 1 + x, by omega⟩ := by
  rw [Fin.sum_univ_add (a := 64) (b := 64)]
  rw [show (∑ i : Fin 64, Scalar.select (IntOp.cmpi CmpIPredicate.slt (BitVec.ofNat 32 ((Fin.castAdd 64 i : Fin 128) : ℕ)) 64#32) (0 : EReal) (f (Fin.castAdd 64 i))) = 0 from
    Finset.sum_eq_zero fun i _ => by rw [mask_eq]; simp [Scalar.select], zero_add]
  refine Finset.sum_congr rfl fun i _ => ?_
  rw [mask_eq]
  simp [Scalar.select]
  exact congrArg f (Fin.ext (by simp [Nat.add_comm]))

/-- The keys are columns 2560 to 2687, normalised per head and multiplied by the gain. -/
theorem k_apply (u : FVec Ideal S512x2816 .f32) (g : FVec Ideal S1x128 .f32) (r : Fin 512) (j : Fin 128) :
    k0_pay25 (F := Ideal) (k0_pay20 u) k0_pay21 (k0_pay22 u) (k0_pay23 u) g (ix2 r j)
      = perHead (fun l => u (ix2 r ⟨2560 + l, by omega⟩)) j * g (ix2 0 j) := by
  pointwise [k0_pay25, k0_pay24, k0_pay20, k0_pay21, k0_pay22, k0_pay23, perHead]
  rw [sum_low (fun x => u (ix2 r ⟨2560 + x, by omega⟩) * u (ix2 r ⟨2560 + x, by omega⟩)),
    sum_high (fun x => u (ix2 r ⟨2560 + x, by omega⟩) * u (ix2 r ⟨2560 + x, by omega⟩)), mask_eq]
  by_cases h : (j : ℕ) < 64
  · rw [if_pos h]
    have h0 : (j : ℕ) / 64 = 0 := by omega
    simp only [h0]
    rfl
  · rw [if_neg h]
    have h1 : (j : ℕ) / 64 = 1 := by omega
    simp only [h1]
    rfl

end Cert.EvenInValue
-- ==== Proof.EvenInRef.lean ====
/-
  What the even layer's input reference computes, element by element.
-/
module

public import proofs.«01_k».proof.Proof.Gen.EvenInRefIdeal.Read
public import proofs.«01_k».proof.Proof.Rows
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.EvenInValue

open Cert.EvenInRefIdeal Cert.EvenInRefIdeal.Gen Cert.EvenInRefIdeal.Read Cert.Rows

variable (x0 : FVec Ideal S20480x1024 .f32) (x1 : FVec Ideal S1024 .f32) (x2 : FVec Ideal S16x6x1024 .f32)
  (x3 : FVec Ideal S1024x2304 .f32) (x5 : FVec Ideal S64 .f32)

/-- The normalised and modulated row of a token. -/
def hid (r : Fin 20480) (d : Fin 1024) : EReal :=
  normed (fun k => x0 (ix2 r k)) (fun k => x1 (ix1 k)) (tok (fun b k => x2 (ix3 b 1 k)) r) (tok (fun b k => x2 (ix3 b 0 k)) r) d

/-- The projection of that row. -/
def proj (r : Fin 20480) (j : Fin 2304) : EReal := ∑ d : Fin 1024, hid x0 x1 x2 r d * x3 (ix2 d j)

/-- The reference's normalised rows. -/
theorem ref_hid (r : Fin 20480) (d : Fin 1024) : val_main_v32 (F := Ideal) x0 x1 x2 (ix2 r d) = hid x0 x1 x2 r d := by
  pointwise [val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, hid, normed, tok]

/-- The reference's projection. -/
theorem ref_proj (r : Fin 20480) (j : Fin 2304) : val_main_v33 (F := Ideal) x0 x1 x2 x3 (ix2 r j) = proj x0 x1 x2 x3 r j := by
  rw [val_main_v33_apply]
  unfold proj
  refine Finset.sum_congr rfl fun d _ => ?_
  rw [← ref_hid]
  exact congr (congrArg _ (congrArg _ (funext fun a => Fin.ext (by match a with | ⟨0, _⟩ => rfl | ⟨1, _⟩ => rfl))))
    (congrArg _ (funext fun a => Fin.ext (by match a with | ⟨0, _⟩ => rfl | ⟨1, _⟩ => rfl)))

/-- The reference's first result: the first 1536 columns. -/
theorem ref_hy (r : Fin 20480) (j : Fin 1536) : val_main_v52 (F := Ideal) x0 x1 x2 x3 (ix2 r j) = proj x0 x1 x2 x3 r ⟨j, by omega⟩ := by
  rw [← ref_proj]
  unfold val_main_v52 val_main_v34
  generalize val_main_v33 (F := Ideal) x0 x1 x2 x3 = u
  pointwise

/-- The reference's last result: the values, columns 2176 to 2303. -/
theorem ref_v (r : Fin 20480) (j : Fin 128) : val_main_v37 (F := Ideal) x0 x1 x2 x3 (ix2 r j) = proj x0 x1 x2 x3 r ⟨2176 + j, by omega⟩ := by
  rw [← ref_proj]
  unfold val_main_v37
  generalize val_main_v33 (F := Ideal) x0 x1 x2 x3 = u
  pointwise

/-- The reference's second result: the same values, rounded. -/
theorem ref_vb (r : Fin 20480) (j : Fin 128) : val_main_v53 (F := Ideal) x0 x1 x2 x3 (ix2 r j) = proj x0 x1 x2 x3 r ⟨2176 + j, by omega⟩ :=
  ref_v x0 x1 x2 x3 r j

/-- The reference's third result: the keys, columns 2048 to 2175, normalised per head, times the gain. -/
theorem ref_k (r : Fin 20480) (j : Fin 128) : val_main_v54 (F := Ideal) x0 x1 x2 x3 x5 (ix2 r j)
      = perHead (fun l => proj x0 x1 x2 x3 r ⟨2048 + l, by omega⟩) j * x5 (ix1 ⟨(j : ℕ) % 64, by omega⟩) := by
  simp only [← ref_proj]
  unfold val_main_v54 val_main_v51 val_main_v48 val_main_v47 val_main_v46 val_main_v45 val_main_v43 val_main_v41 val_main_v40 val_main_v39 val_main_v38 val_main_v36
  generalize val_main_v33 (F := Ideal) x0 x1 x2 x3 = u
  pointwise [val_main_v50, val_main_v49, val_main_v44, val_main_v42, val_main_cst_3, val_main_cst_4, val_main_cst_5, perHead]
  simp only [Nat.mul_comm _ 64]

end Cert.EvenInValue
-- ==== Proof.EvenInArray.lean ====
/-
  What the even layer's input kernel leaves in the four result arrays that are returned.
-/
module

public import proofs.«01_k».proof.Proof.EvenInBlock
public import proofs.«01_k».proof.Proof.EvenInRef
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.EvenInValue

open Cert.EvenInIdeal Cert.EvenInIdeal.Gen Cert.Rows

variable (m : (ℓ : Loc nD τ sig) → Buf (Elt Ideal) ℓ)

/-- Where each window's block lies, in the point's number. -/
theorem idx : ∀ t : Fin cfg0.N, win0_0.index t = ![t.val, 0] ∧ win0_1.index t = ![0, 0]
    ∧ win0_2.index t = ![(if t.val < 8 then 0 else 1 + (t.val - 8) / 4), 0, 0] ∧ win0_3.index t = ![0, 0] ∧ win0_4.index t = ![0, 0]
    ∧ win0_11.index t = ![t.val, 0] ∧ win0_14.index t = ![t.val, 0] ∧ win0_15.index t = ![t.val, 0] ∧ win0_16.index t = ![t.val, 0] :=
  (by decide +kernel : ∀ t : Fin grid0.N, _)

theorem points (t : Fin cfg0.N) : t.val < 40 := t.isLt

/-- The joined weights, outside the columns of the queries. -/
theorem join_apply (x : FVec Ideal S1024x2304 .f32) (q : FVec Ideal S1024x1024 .f32) (d : Fin 1024) (j : Fin 2816) (h : (j : ℕ) < 1536 ∨ 2560 ≤ (j : ℕ)) :
    truncf .bf16 (concatenate S1024x2816 1 [⟨S1024x1536, extractStridedSlice S1024x1536 ![0, 0] x slices_S1024x2304_S1024x1536_0_0⟩, ⟨S1024x1024, q⟩,
        ⟨S1024x128, extractStridedSlice S1024x128 ![0, 2048] x slices_S1024x2304_S1024x128_0_2048⟩, ⟨S1024x128, extractStridedSlice S1024x128 ![0, 2176] x slices_S1024x2304_S1024x128_0_2176⟩]
        concatenates_S1024x1536_S1024x1024_S1024x128_S1024x128_S1024x2816_d1) bitsLt_bf16_f32 (ix2 d j)
      = x (ix2 d ⟨if (j : ℕ) < 1536 then j else (j : ℕ) - 512, by split <;> omega⟩) := by
  pointwise
  by_cases h0 : (j : ℕ) < 1536
  · rw [dif_pos h0]
    simp only [if_pos h0]
  · rw [dif_neg h0, dif_neg (by omega)]
    simp only [if_neg h0]
    by_cases h1 : (j : ℕ) - 1536 - 1024 < 128
    · rw [dif_pos h1]
      exact congrArg x (congrArg (ix2 d) (Fin.ext (by show 2048 + ((j : ℕ) - 1536 - 1024) = (j : ℕ) - 512; omega)))
    · rw [dif_neg h1]
      exact congrArg x (congrArg (ix2 d) (Fin.ext (by show 2176 + ((j : ℕ) - 1536 - 1024 - 128) = (j : ℕ) - 512; omega)))

/-- The gain of 64 lanes, twice in a row. -/
theorem twice_apply (g : FVec Ideal S64 .f32) (j : Fin 128) :
    shapeCast S1x128 (concatenate S128 0 [⟨S64, g⟩, ⟨S64, g⟩] concatenates_S64_S64_S128_d0) shapeCasts_S128_S1x128 (ix2 0 j) = g (ix1 ⟨(j : ℕ) % 64, by omega⟩) := by
  pointwise
  by_cases h : (j : ℕ) < 64
  · rw [dif_pos h]
    exact congrArg g (congrArg ix1 (Fin.ext (by show (j : ℕ) = (j : ℕ) % 64; omega)))
  · rw [dif_neg h]
    exact congrArg g (congrArg ix1 (Fin.ext (by show (j : ℕ) - 64 = (j : ℕ) % 64; omega)))

/-- The host's operations before the rotary tables are finished leave the arguments alone. -/
theorem early (c : Dev nD) : ∃ W : Valuation τ sig (Elt Ideal),
    (∀ b : Ref sig .tc, V m c b = StableHlo.after (List.flatten [hostOps0_30, hostOps0_31, hostOps0_32, hostOps0_33]) W b)
      ∧ W main_arg1 = m ((c : Thread nD τ).loc main_arg1) ∧ W main_arg3 = m ((c : Thread nD τ).loc main_arg3) ∧ W main_arg5 = m ((c : Thread nD τ).loc main_arg5) := by
  refine ⟨StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29]) (fun b => m (c, b)), fun b => ?_, ?_, ?_, ?_⟩
  · rw [← StableHlo.after_append, ← List.flatten_append]
    rfl
  all_goals
    refine StableHlo.after_of_forall_not_mem _ _ (List.forall_iff_forall_mem.mp ?_)
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)

/-- Before the last stretch of host operations: the arguments as launched, and the columns of the weights cut out. -/
theorem late (c : Dev nD) : ∃ W : Valuation τ sig (Elt Ideal),
    (∀ b : Ref sig .tc, V m c b = StableHlo.after (hostOps0_33.drop 6) W b)
      ∧ W main_arg1 = m ((c : Thread nD τ).loc main_arg1) ∧ W main_arg5 = m ((c : Thread nD τ).loc main_arg5)
      ∧ W main_v82 = extractStridedSlice S1024x1536 ![0, 0] (show FVec Ideal S1024x2304 .f32 from m ((c : Thread nD τ).loc main_arg3)) slices_S1024x2304_S1024x1536_0_0
      ∧ W main_v84 = extractStridedSlice S1024x128 ![0, 2048] (show FVec Ideal S1024x2304 .f32 from m ((c : Thread nD τ).loc main_arg3)) slices_S1024x2304_S1024x128_0_2048
      ∧ W main_v85 = extractStridedSlice S1024x128 ![0, 2176] (show FVec Ideal S1024x2304 .f32 from m ((c : Thread nD τ).loc main_arg3)) slices_S1024x2304_S1024x128_0_2176 := by
  obtain ⟨W, hW, h1, h3, h5⟩ := early m c
  have hk : ∀ b : Ref sig .tc, (hostOps0_31 ++ hostOps0_32 ++ hostOps0_33.take 6 : List (HloOp τ sig (Elt Ideal))).Forall (fun op => Proc.devRef (τ := τ) .tc b ∉ op.writes) →
      StableHlo.after (hostOps0_31 ++ hostOps0_32 ++ hostOps0_33.take 6) (StableHlo.after hostOps0_30 W) b = StableHlo.after hostOps0_30 W b := fun b hb =>
    StableHlo.after_of_forall_not_mem _ _ (List.forall_iff_forall_mem.mp hb)
  refine ⟨StableHlo.after (hostOps0_31 ++ hostOps0_32 ++ hostOps0_33.take 6) (StableHlo.after hostOps0_30 W), fun b => (hW b).trans ?_, ?_, ?_, ?_, ?_, ?_⟩
  · rw [← StableHlo.after_append, ← StableHlo.after_append]
    rfl
  all_goals
    rw [hk _ (by
      simp only [hostOps0_31, hostOps0_32, hostOps0_33, List.take_succ_cons, List.take_zero, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))]
    simp only [hostOps0_30, ← h1, ← h3, ← h5]
    entry_read
    try rfl

/-- The weights as the call takes them, outside the columns of the queries. -/
theorem entry_w (c : Dev nD) (d : Fin 1024) (j : Fin 2816) (h : (j : ℕ) < 1536 ∨ 2560 ≤ (j : ℕ)) :
    (show FVec Ideal S1024x2816 .bf16 from V m c main_v96) (ix2 d j)
      = (show FVec Ideal S1024x2304 .f32 from m ((c : Thread nD τ).loc main_arg3)) (ix2 d ⟨if (j : ℕ) < 1536 then j else (j : ℕ) - 512, by split <;> omega⟩) := by
  obtain ⟨W, hW, h1, h5, h82, h84, h85⟩ := late m c
  rw [hW]
  simp only [hostOps0_33, List.drop_succ_cons, List.drop_zero]
  entry_read
  show truncf .bf16 (concatenate S1024x2816 1 [⟨S1024x1536, (show FVec Ideal S1024x1536 .f32 from W main_v82)⟩, ⟨S1024x1024, (show FVec Ideal S1024x1024 .f32 from W main_v94)⟩,
    ⟨S1024x128, (show FVec Ideal S1024x128 .f32 from W main_v84)⟩, ⟨S1024x128, (show FVec Ideal S1024x128 .f32 from W main_v85)⟩]
    concatenates_S1024x1536_S1024x1024_S1024x128_S1024x128_S1024x2816_d1) bitsLt_bf16_f32 (ix2 d j) = _
  rw [h82, h84, h85]
  exact join_apply _ _ d j h

/-- The gain of the keys as the call takes it. -/
theorem entry_g (c : Dev nD) (j : Fin 128) :
    (show FVec Ideal S1x128 .f32 from V m c main_v98) (ix2 0 j)
      = (show FVec Ideal S64 .f32 from m ((c : Thread nD τ).loc main_arg5)) (ix1 ⟨(j : ℕ) % 64, by omega⟩) := by
  obtain ⟨W, hW, h1, h5, h82, h84, h85⟩ := late m c
  rw [hW, ← h5]
  simp only [hostOps0_33, List.drop_succ_cons, List.drop_zero]
  entry_read
  exact twice_apply _ j

/-- The gain of the rows as the call takes it. -/
theorem entry_n (c : Dev nD) (j : Fin 1024) :
    (show FVec Ideal S1x1024 .f32 from V m c main_v99) (ix2 0 j)
      = (show FVec Ideal S1024 .f32 from m ((c : Thread nD τ).loc main_arg1)) (ix1 j) := by
  obtain ⟨W, hW, h1, h5, h82, h84, h85⟩ := late m c
  rw [hW, ← h1]
  simp only [hostOps0_33, List.drop_succ_cons, List.drop_zero]
  entry_read
  pointwise

/-- The rows of a point's block. -/
theorem blk_x (c : Dev nD) (t : Fin cfg0.N) (r : Fin 512) (k : Fin 1024) :
    (show FVec Ideal S512x1024 .f32 from iblk m c 0 t) (ix2 r k)
      = (show FVec Ideal S20480x1024 .f32 from m ((c : Thread nD τ).loc main_arg0)) (ix2 ⟨t.val * 512 + r, by have := points t; omega⟩ k) := by
  blk_point [iblk, V, idx t]

/-- The gain. -/
theorem blk_n (c : Dev nD) (t : Fin cfg0.N) (k : Fin 1024) :
    (show FVec Ideal S1x1024 .f32 from iblk m c 1 t) (ix2 0 k) = (show FVec Ideal S1024 .f32 from m ((c : Thread nD τ).loc main_arg1)) (ix1 k) := by
  refine Eq.trans ?_ (entry_n m c k)
  generalize hv : (show FVec Ideal S1x1024 .f32 from V m c main_v99) = v
  blk_point [iblk, hv, idx t]

/-- The projection's weights. -/
theorem blk_w (c : Dev nD) (t : Fin cfg0.N) (d : Fin 1024) (j : Fin 2816) :
    (show FVec Ideal S1024x2816 .bf16 from iblk m c 3 t) (ix2 d j) = (show FVec Ideal S1024x2816 .bf16 from V m c main_v96) (ix2 d j) := by
  generalize hv : (show FVec Ideal S1024x2816 .bf16 from V m c main_v96) = v
  blk_point [iblk, hv, idx t]

/-- The gain of the keys. -/
theorem blk_g (c : Dev nD) (t : Fin cfg0.N) (k : Fin 128) :
    (show FVec Ideal S1x128 .f32 from iblk m c 4 t) (ix2 0 k) = (show FVec Ideal S64 .f32 from m ((c : Thread nD τ).loc main_arg5)) (ix1 ⟨(k : ℕ) % 64, by omega⟩) := by
  refine Eq.trans ?_ (entry_g m c k)
  generalize hv : (show FVec Ideal S1x128 .f32 from V m c main_v98) = v
  blk_point [iblk, hv, idx t]

/-- A point's modulation rows are those of its tokens. -/
theorem blk_m (c : Dev nD) (t : Fin cfg0.N) (r : Fin 512) (a : Fin 6) (k : Fin 1024) :
    (show FVec Ideal S1x6x1024 .f32 from iblk m c 2 t) (ix3 0 a k)
      = tok (fun b k => (show FVec Ideal S16x6x1024 .f32 from m ((c : Thread nD τ).loc main_arg2)) (ix3 b a k)) ⟨t.val * 512 + r, by have := points t; omega⟩ k := by
  have ht := points t
  unfold tok
  by_cases h : t.val < 8
  · rw [dif_pos (by show t.val * 512 + (r : ℕ) < 4096; omega)]
    have i2 : win0_2.index t = ![0, 0, 0] := by rw [(idx t).2.2.1, if_pos h]
    blk_point [iblk, V, i2]
  · rw [dif_neg (by show ¬ t.val * 512 + (r : ℕ) < 4096; omega)]
    have i2 : win0_2.index t = ![1 + (t.val - 8) / 4, 0, 0] := by rw [(idx t).2.2.1, if_neg h]
    have e : 1 + (t.val * 512 + (r : ℕ) - 4096) / 2048 = 1 + (t.val - 8) / 4 := by omega
    simp only [e]
    blk_point [iblk, V, i2]

/-- The point's projected rows are the reference's, column by column outside the queries. -/
theorem rows (c : Dev nD) (t : Fin cfg0.N) (r : Fin 512) (j : Fin 2816) (h : (j : ℕ) < 1536 ∨ 2560 ≤ (j : ℕ)) :
    k0_pay3 (F := Ideal) (iblk m c 0 t) (iblk m c 1 t) (View.ld (iblk m c 2 t) r0_2) (View.ld (iblk m c 2 t) r0_3) (iblk m c 3 t) (ix2 r j)
      = proj (m ((c : Thread nD τ).loc main_arg0)) (m ((c : Thread nD τ).loc main_arg1)) (m ((c : Thread nD τ).loc main_arg2)) (m ((c : Thread nD τ).loc main_arg3)) ⟨t.val * 512 + r, by have := points t; omega⟩
          ⟨if (j : ℕ) < 1536 then j else (j : ℕ) - 512, by split <;> omega⟩ := by
  refine (proj_apply _ _ _ _ _ r j).trans ?_
  unfold proj hid
  refine Finset.sum_congr rfl fun d _ => ?_
  have e1 : ∀ k : Fin 1024, View.ld (iblk m c 2 t) r0_2 (ix3 0 0 k) = (show FVec Ideal S1x6x1024 .f32 from iblk m c 2 t) (ix3 0 1 k) := fun k => by
    generalize iblk m c 2 t = z
    pointwise
  have e0 : ∀ k : Fin 1024, View.ld (iblk m c 2 t) r0_3 (ix3 0 0 k) = (show FVec Ideal S1x6x1024 .f32 from iblk m c 2 t) (ix3 0 0 k) := fun k => by
    generalize iblk m c 2 t = z
    pointwise
  refine congrArg₂ (· * ·) ?_ ((blk_w m c t d j).trans (entry_w m c d j h))
  simp only [e0, e1]
  refine congrFun (congr (congr (congr (congrArg normed ?_) ?_) ?_) ?_) d
  · exact funext fun k => blk_x m c t r k
  · exact funext fun k => blk_n m c t k
  · exact funext fun k => blk_m m c t r 1 k
  · exact funext fun k => blk_m m c t r 0 k

/-- The first result: the projection's first 1536 columns. -/
theorem final_hy (c : Dev nD) : (dats m 0 c).arrAt 11 (cfgs 0).N = Cert.EvenInRefIdeal.Read.val_main_v52 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 11 _ (by decide +kernel) fun t hf y => ?_
  blk_simp
  have ht := points t
  have hy0 : (y 0 : ℕ) < 512 := (y 0).isLt
  have hy1 : (y 1 : ℕ) < 1536 := (y 1).isLt
  have e0 : (((win0_11.blk t).view.emb y) 0 : ℕ) = t.val * 512 + (y 0 : ℕ) := by blk_simp [idx t]
  have e1 : (((win0_11.blk t).view.emb y) 1 : ℕ) = (y 1 : ℕ) := by blk_simp [idx t]
  have hy : y = ix2 (⟨(y 0 : ℕ), hy0⟩ : Fin 512) (⟨(y 1 : ℕ), hy1⟩ : Fin 1536) := funext fun a => by match a with | ⟨0, _⟩ => rfl | ⟨1, _⟩ => rfl
  have hE : (win0_11.blk t).view.emb y = ix2 (⟨t.val * 512 + (y 0 : ℕ), by omega⟩ : Fin 20480) (⟨(y 1 : ℕ), hy1⟩ : Fin 1536) :=
    funext fun a => Fin.ext (by match a with | ⟨0, _⟩ => exact e0 | ⟨1, _⟩ => exact e1)
  rw [after0_11]
  have hs : ∀ j, out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) j = k0_pay4 (F := Ideal) (iblk m c 0 t) (iblk m c 1 t) (View.ld (iblk m c 2 t) r0_2) (View.ld (iblk m c 2 t) r0_3) (iblk m c 3 t) j := by
    intro j
    unfold_out out0_11
    frame_out
    rfl
  refine (hs y).trans ?_
  refine Eq.trans ?_ ((congrArg (Cert.EvenInRefIdeal.Read.val_main_v52 (F := Ideal) (m ((c : Thread nD τ).loc main_arg0)) (m ((c : Thread nD τ).loc main_arg1)) (m ((c : Thread nD τ).loc main_arg2)) (m ((c : Thread nD τ).loc main_arg3))) hE).trans (ref_hy (m ((c : Thread nD τ).loc main_arg0)) (m ((c : Thread nD τ).loc main_arg1)) (m ((c : Thread nD τ).loc main_arg2)) (m ((c : Thread nD τ).loc main_arg3)) ⟨t.val * 512 + (y 0 : ℕ), by omega⟩ ⟨(y 1 : ℕ), hy1⟩)).symm
  refine (congrArg _ hy).trans ?_
  refine (hy_apply _ _ _ _ _ ⟨(y 0 : ℕ), hy0⟩ ⟨(y 1 : ℕ), hy1⟩).trans ((rows m c t ⟨(y 0 : ℕ), hy0⟩ ⟨(y 1 : ℕ), by omega⟩ (Or.inl hy1)).trans ?_)
  refine congrArg _ (Fin.ext ?_)
  exact if_pos hy1

/-- The rounded values. -/
theorem final_vb (c : Dev nD) : (dats m 0 c).arrAt 14 (cfgs 0).N = Cert.EvenInRefIdeal.Read.val_main_v53 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 14 _ (by decide +kernel) fun t hf y => ?_
  blk_simp
  have ht := points t
  have hy0 : (y 0 : ℕ) < 512 := (y 0).isLt
  have hy1 : (y 1 : ℕ) < 128 := (y 1).isLt
  have e0 : (((win0_14.blk t).view.emb y) 0 : ℕ) = t.val * 512 + (y 0 : ℕ) := by blk_simp [idx t]
  have e1 : (((win0_14.blk t).view.emb y) 1 : ℕ) = (y 1 : ℕ) := by blk_simp [idx t]
  have hy : y = ix2 (⟨(y 0 : ℕ), hy0⟩ : Fin 512) (⟨(y 1 : ℕ), hy1⟩ : Fin 128) := funext fun a => by match a with | ⟨0, _⟩ => rfl | ⟨1, _⟩ => rfl
  have hE : (win0_14.blk t).view.emb y = ix2 (⟨t.val * 512 + (y 0 : ℕ), by omega⟩ : Fin 20480) (⟨(y 1 : ℕ), hy1⟩ : Fin 128) :=
    funext fun a => Fin.ext (by match a with | ⟨0, _⟩ => exact e0 | ⟨1, _⟩ => exact e1)
  rw [after0_14]
  have hs : ∀ j, out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) j = k0_pay2 (F := Ideal) (k0_pay3 (F := Ideal) (iblk m c 0 t) (iblk m c 1 t) (View.ld (iblk m c 2 t) r0_2) (View.ld (iblk m c 2 t) r0_3) (iblk m c 3 t)) j := by
    intro j
    unfold_out out0_14
    frame_out
    rfl
  refine (hs y).trans ?_
  refine Eq.trans ?_ ((congrArg (Cert.EvenInRefIdeal.Read.val_main_v53 (F := Ideal) (m ((c : Thread nD τ).loc main_arg0)) (m ((c : Thread nD τ).loc main_arg1)) (m ((c : Thread nD τ).loc main_arg2)) (m ((c : Thread nD τ).loc main_arg3))) hE).trans (ref_vb (m ((c : Thread nD τ).loc main_arg0)) (m ((c : Thread nD τ).loc main_arg1)) (m ((c : Thread nD τ).loc main_arg2)) (m ((c : Thread nD τ).loc main_arg3)) ⟨t.val * 512 + (y 0 : ℕ), by omega⟩ ⟨(y 1 : ℕ), hy1⟩)).symm
  refine (congrArg _ hy).trans ?_
  refine (vb_apply _ ⟨(y 0 : ℕ), hy0⟩ ⟨(y 1 : ℕ), hy1⟩).trans ((rows m c t ⟨(y 0 : ℕ), hy0⟩ ⟨2688 + (y 1 : ℕ), by omega⟩ (Or.inr (by show 2560 ≤ 2688 + (y 1 : ℕ); omega))).trans ?_)
  refine congrArg _ (Fin.ext ?_)
  refine (if_neg (by show ¬ 2688 + (y 1 : ℕ) < 1536; omega)).trans ?_
  show 2688 + (y 1 : ℕ) - 512 = 2176 + (y 1 : ℕ)
  omega

/-- The values. -/
theorem final_v (c : Dev nD) : (dats m 0 c).arrAt 16 (cfgs 0).N = Cert.EvenInRefIdeal.Read.val_main_v37 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 16 _ (by decide +kernel) fun t hf y => ?_
  blk_simp
  have ht := points t
  have hy0 : (y 0 : ℕ) < 512 := (y 0).isLt
  have hy1 : (y 1 : ℕ) < 128 := (y 1).isLt
  have e0 : (((win0_16.blk t).view.emb y) 0 : ℕ) = t.val * 512 + (y 0 : ℕ) := by blk_simp [idx t]
  have e1 : (((win0_16.blk t).view.emb y) 1 : ℕ) = (y 1 : ℕ) := by blk_simp [idx t]
  have hy : y = ix2 (⟨(y 0 : ℕ), hy0⟩ : Fin 512) (⟨(y 1 : ℕ), hy1⟩ : Fin 128) := funext fun a => by match a with | ⟨0, _⟩ => rfl | ⟨1, _⟩ => rfl
  have hE : (win0_16.blk t).view.emb y = ix2 (⟨t.val * 512 + (y 0 : ℕ), by omega⟩ : Fin 20480) (⟨(y 1 : ℕ), hy1⟩ : Fin 128) :=
    funext fun a => Fin.ext (by match a with | ⟨0, _⟩ => exact e0 | ⟨1, _⟩ => exact e1)
  rw [after0_16]
  have hs : ∀ j, out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) j = k0_pay1 (F := Ideal) (k0_pay3 (F := Ideal) (iblk m c 0 t) (iblk m c 1 t) (View.ld (iblk m c 2 t) r0_2) (View.ld (iblk m c 2 t) r0_3) (iblk m c 3 t)) j := by
    intro j
    unfold_out out0_16
    frame_out
    rfl
  refine (hs y).trans ?_
  refine Eq.trans ?_ ((congrArg (Cert.EvenInRefIdeal.Read.val_main_v37 (F := Ideal) (m ((c : Thread nD τ).loc main_arg0)) (m ((c : Thread nD τ).loc main_arg1)) (m ((c : Thread nD τ).loc main_arg2)) (m ((c : Thread nD τ).loc main_arg3))) hE).trans (ref_v (m ((c : Thread nD τ).loc main_arg0)) (m ((c : Thread nD τ).loc main_arg1)) (m ((c : Thread nD τ).loc main_arg2)) (m ((c : Thread nD τ).loc main_arg3)) ⟨t.val * 512 + (y 0 : ℕ), by omega⟩ ⟨(y 1 : ℕ), hy1⟩)).symm
  refine (congrArg _ hy).trans ?_
  refine (v_apply _ ⟨(y 0 : ℕ), hy0⟩ ⟨(y 1 : ℕ), hy1⟩).trans ((rows m c t ⟨(y 0 : ℕ), hy0⟩ ⟨2688 + (y 1 : ℕ), by omega⟩ (Or.inr (by show 2560 ≤ 2688 + (y 1 : ℕ); omega))).trans ?_)
  refine congrArg _ (Fin.ext ?_)
  refine (if_neg (by show ¬ 2688 + (y 1 : ℕ) < 1536; omega)).trans ?_
  show 2688 + (y 1 : ℕ) - 512 = 2176 + (y 1 : ℕ)
  omega

/-- The keys, normalised per head. -/
theorem final_k (c : Dev nD) : (dats m 0 c).arrAt 15 (cfgs 0).N = Cert.EvenInRefIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_covers 15 _ (by decide +kernel) fun t hf y => ?_
  blk_simp
  have ht := points t
  have hy0 : (y 0 : ℕ) < 512 := (y 0).isLt
  have hy1 : (y 1 : ℕ) < 128 := (y 1).isLt
  have e0 : (((win0_15.blk t).view.emb y) 0 : ℕ) = t.val * 512 + (y 0 : ℕ) := by blk_simp [idx t]
  have e1 : (((win0_15.blk t).view.emb y) 1 : ℕ) = (y 1 : ℕ) := by blk_simp [idx t]
  have hy : y = ix2 (⟨(y 0 : ℕ), hy0⟩ : Fin 512) (⟨(y 1 : ℕ), hy1⟩ : Fin 128) := funext fun a => by match a with | ⟨0, _⟩ => rfl | ⟨1, _⟩ => rfl
  have hE : (win0_15.blk t).view.emb y = ix2 (⟨t.val * 512 + (y 0 : ℕ), by omega⟩ : Fin 20480) (⟨(y 1 : ℕ), hy1⟩ : Fin 128) :=
    funext fun a => Fin.ext (by match a with | ⟨0, _⟩ => exact e0 | ⟨1, _⟩ => exact e1)
  rw [after0_15]
  have hs : ∀ j, out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) j = k0_pay25 (F := Ideal) (k0_pay20 (k0_pay3 (F := Ideal) (iblk m c 0 t) (iblk m c 1 t) (View.ld (iblk m c 2 t) r0_2) (View.ld (iblk m c 2 t) r0_3) (iblk m c 3 t))) k0_pay21 (k0_pay22 (k0_pay3 (F := Ideal) (iblk m c 0 t) (iblk m c 1 t) (View.ld (iblk m c 2 t) r0_2) (View.ld (iblk m c 2 t) r0_3) (iblk m c 3 t))) (k0_pay23 (k0_pay3 (F := Ideal) (iblk m c 0 t) (iblk m c 1 t) (View.ld (iblk m c 2 t) r0_2) (View.ld (iblk m c 2 t) r0_3) (iblk m c 3 t))) (iblk m c 4 t) j := by
    intro j
    unfold_out out0_15
    frame_out
    rfl
  refine (hs y).trans ?_
  refine Eq.trans ?_ ((congrArg (Cert.EvenInRefIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg5))) hE).trans (ref_k (m ((c : Thread nD τ).loc main_arg0)) (m ((c : Thread nD τ).loc main_arg1)) (m ((c : Thread nD τ).loc main_arg2)) (m ((c : Thread nD τ).loc main_arg3)) (m ((c : Thread nD τ).loc main_arg5)) ⟨t.val * 512 + (y 0 : ℕ), by omega⟩ ⟨(y 1 : ℕ), hy1⟩)).symm
  refine (congrArg _ hy).trans ?_
  refine (k_apply _ _ ⟨(y 0 : ℕ), hy0⟩ ⟨(y 1 : ℕ), hy1⟩).trans ?_
  refine congrArg₂ (· * ·) ?_ (blk_g m c t ⟨(y 1 : ℕ), hy1⟩)
  refine congrArg (fun f => perHead f ⟨(y 1 : ℕ), hy1⟩) (funext fun l => ?_)
  refine (rows m c t ⟨(y 0 : ℕ), hy0⟩ ⟨2560 + (l : ℕ), by omega⟩ (Or.inr (by show 2560 ≤ 2560 + (l : ℕ); omega))).trans ?_
  refine congrArg _ (Fin.ext ?_)
  refine (if_neg (by show ¬ 2560 + (l : ℕ) < 1536; omega)).trans ?_
  show 2560 + (l : ℕ) - 512 = 2048 + (l : ℕ)
  omega

/-- After the run the four returned arrays hold the reference's values, and the arguments are unchanged. -/
theorem ends (ρ : Dev nD → PrngReg) : θ_run (defs (F := Ideal)) (onTc (τ := τ) (main (F := Ideal))) ⟨m, fun _ => 0, ρ⟩ (fun r => ∀ c : Dev nD,
      r.2.mem ((c.tc : Thread nD τ).loc main_v100_0) = Cert.EvenInRefIdeal.Read.val_main_v52 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v100_3) = Cert.EvenInRefIdeal.Read.val_main_v53 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v100_4) = Cert.EvenInRefIdeal.Read.val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
      ∧ r.2.mem ((c.tc : Thread nD τ).loc main_v100_5) = Cert.EvenInRefIdeal.Read.val_main_v37 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 11).trans (final_hy m c), ((h c).1 14).trans (final_vb m c),
      ((h c).1 15).trans (final_k m c), ((h c).1 16).trans (final_v m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_main m ρ)

end Cert.EvenInValue
-- ==== Proof.OddInRows.lean ====
/-
  The row formula that the odd layer's input kernel and its reference share: a token's latent, normalised.
-/
module

public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.OddInValue

/-- The 128 lanes of a latent, divided by the root of their mean square plus the small constant, times the
    gain: the element at `j`. -/
def latent (f g : Fin 128 → EReal) (j : Fin 128) : EReal :=
  f j * Ideal.rsqrt (Ideal.div (∑ x : Fin 128, f x * f x) (Ideal.ofBits .f32 0x43000000#32) + Ideal.ofBits .f32 0x358637BD#32) * g j

end Cert.OddInValue
-- ==== Proof.OddInBlock.lean ====
/-
  What one point of the odd layer's input kernel computes, element by element: the projection, the normalised
  latents, the values of the heads and the shared rotary key.
-/
module

public import proofs.«01_k».proof.Proof.Gen.OddInIdeal.Frame
public import proofs.«01_k».proof.Proof.Rows
public import proofs.«01_k».proof.Proof.OddInRows
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.OddInValue

open Cert.OddInIdeal Cert.OddInIdeal.Gen Cert.Rows

/-- The projection of a point's rows. -/
theorem proj_apply (x : FVec Ideal S512x1024 .f32) (g : FVec Ideal S1x1024 .f32) (sc sh : FVec Ideal S1x1x1024 .f32)
    (w : FVec Ideal S1024x640 .bf16) (r : Fin 512) (j : Fin 640) :
    k0_pay2 (F := Ideal) x g sc sh w (ix2 r j)
      = ∑ d : Fin 1024, normed (fun k => x (ix2 r k)) (fun k => g (ix2 0 k)) (fun k => sc (ix3 0 0 k)) (fun k => sh (ix3 0 0 k)) d * w (ix2 d j) := by
  pointwise [k0_pay2, normed]

/-- The latents, normalised. -/
theorem ckv_apply (u : FVec Ideal S512x640 .f32) (g : FVec Ideal S1x128 .f32) (r : Fin 512) (j : Fin 128) :
    k0_pay5 (F := Ideal) u g (ix2 r j) = latent (fun l => u (ix2 r ⟨256 + l, by omega⟩)) (fun l => g (ix2 0 l)) j := by
  pointwise [k0_pay5, latent]

/-- The shared rotary key's slot. -/
theorem kpe_apply (u : FVec Ideal S512x640 .f32) (r : Fin 512) (j : Fin 128) :
    k0_pay6 (F := Ideal) u (ix2 r j) = u (ix2 r ⟨384 + j, by omega⟩) := by
  pointwise [k0_pay6]

/-- The values of the heads: the latents times their weights. -/
theorem v_apply (u : FVec Ideal S512x640 .f32) (g : FVec Ideal S1x128 .f32) (w : FVec Ideal S128x1024 .bf16) (r : Fin 512) (j : Fin 1024) :
    k0_pay10 (F := Ideal) u g w (ix2 r j)
      = ∑ l : Fin 128, latent (fun l => u (ix2 r ⟨256 + l, by omega⟩)) (fun l => g (ix2 0 l)) l * w (ix2 l j) := by
  simp only [← ckv_apply]
  unfold k0_pay10 k0_pay8
  generalize k0_pay5 (F := Ideal) u g = z
  pointwise

end Cert.OddInValue
-- ==== Proof.OddInRef.lean ====
/-
  What the odd layer's reference computes, element by element.
-/
module

public import proofs.«01_k».proof.Proof.Gen.OddInRefIdeal.Read
public import proofs.«01_k».proof.Proof.Rows
public import proofs.«01_k».proof.Proof.OddInRows
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.OddInValue

open Cert.OddInRefIdeal Cert.OddInRefIdeal.Gen Cert.OddInRefIdeal.Read Cert.Rows

variable (x0 : FVec Ideal S20480x1024 .f32) (x1 : FVec Ideal S1024 .f32) (x2 : FVec Ideal S16x6x1024 .f32) (x3 : FVec Ideal S1024x416 .f32)
  (x5 : FVec Ideal S128 .f32) (x7 : FVec Ideal S128x2048 .f32)

/-- The number zero as a float. -/
theorem sitofp_zero : (FloatOps.sitofp .f32 0#32 : Ideal .f32) = (0 : EReal) := by
  show ((((0#32 : BitVec 32).toInt : ℝ)) : EReal) = 0
  simp

/-- A token's normalised and modulated row. -/
def hid (r : Fin 20480) (d : Fin 1024) : EReal :=
  normed (fun k => x0 (ix2 r k)) (fun k => x1 (ix1 k)) (tok (fun b k => x2 (ix3 b 1 k)) r) (tok (fun b k => x2 (ix3 b 0 k)) r) d

/-- The projection of that row. -/
def proj (r : Fin 20480) (j : Fin 416) : EReal := ∑ d : Fin 1024, hid x0 x1 x2 r d * x3 (ix2 d j)

/-- The token's latent, normalised. -/
def lat (r : Fin 20480) (j : Fin 128) : EReal := latent (fun l => proj x0 x1 x2 x3 r ⟨256 + l, by omega⟩) (fun l => x5 (ix1 l)) j

/-- The reference's normalised rows. -/
theorem ref_hid (r : Fin 20480) (d : Fin 1024) : val_main_v32 (F := Ideal) x0 x1 x2 (ix2 r d) = hid x0 x1 x2 r d := by
  pointwise [val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, hid, normed, tok]

/-- The reference's projection. -/
theorem ref_proj (r : Fin 20480) (j : Fin 416) : val_main_v33 (F := Ideal) x0 x1 x2 x3 (ix2 r j) = proj x0 x1 x2 x3 r j := by
  rw [val_main_v33_apply]
  unfold proj
  refine Finset.sum_congr rfl fun d _ => ?_
  rw [← ref_hid]
  exact congr (congrArg _ (congrArg _ (funext fun a => Fin.ext (by match a with | ⟨0, _⟩ => rfl | ⟨1, _⟩ => rfl))))
    (congrArg _ (funext fun a => Fin.ext (by match a with | ⟨0, _⟩ => rfl | ⟨1, _⟩ => rfl)))

/-- The reference's second result: the latents. -/
theorem ref_ckv (r : Fin 20480) (j : Fin 128) : val_main_v49 (F := Ideal) x0 x1 x2 x3 x5 (ix2 r j) = lat x0 x1 x2 x3 x5 r j := by
  unfold lat
  simp only [← ref_proj]
  unfold val_main_v49 val_main_v46 val_main_v45 val_main_v44 val_main_v43 val_main_v41 val_main_v39 val_main_v38 val_main_v37 val_main_v35
  generalize val_main_v33 (F := Ideal) x0 x1 x2 x3 = u
  pointwise [val_main_v48, val_main_v47, val_main_v42, val_main_v40, val_main_cst_3, val_main_cst_4, val_main_cst_5, latent]

/-- The reference's first result: the values of the heads. -/
theorem ref_v (r : Fin 20480) (j : Fin 1024) : val_main_v55 (F := Ideal) x0 x1 x2 x3 x5 x7 (ix2 r j)
      = ∑ l : Fin 128, lat x0 x1 x2 x3 x5 r l * x7 (ix2 l ⟨(j : ℕ) / 64 * 128 + (64 + (j : ℕ) % 64), by omega⟩) := by
  simp only [← ref_ckv]
  unfold val_main_v55 val_main_v54 val_main_v53 val_main_v51 val_main_v50
  generalize val_main_v49 (F := Ideal) x0 x1 x2 x3 x5 = u
  pointwise

/-- The reference's third result: the shared rotary key, in lanes 64 to 95 of its slot, zero elsewhere. -/
theorem ref_kpe (r : Fin 20480) (j : Fin 128) : val_main_v56 (F := Ideal) x0 x1 x2 x3 (ix2 r j)
      = if h : 64 ≤ (j : ℕ) ∧ (j : ℕ) < 96 then proj x0 x1 x2 x3 r ⟨320 + j, by omega⟩ else 0 := by
  simp only [← ref_proj]
  unfold val_main_v56 val_main_v36
  generalize val_main_v33 (F := Ideal) x0 x1 x2 x3 = u
  pointwise [val_main_call0_v0, val_main_c]
  by_cases h : 64 ≤ (j : ℕ) ∧ (j : ℕ) < 96
  · rw [dif_pos (show 64 ≤ (j : ℕ) ∧ (j : ℕ) - 64 < 32 by omega), dif_pos h]
    exact congrArg u (congrArg (ix2 r) (Fin.ext (by show 384 + ((j : ℕ) - 64) = 320 + (j : ℕ); omega)))
  · rw [dif_neg (show ¬ (64 ≤ (j : ℕ) ∧ (j : ℕ) - 64 < 32) by omega), dif_neg h]
    exact sitofp_zero

end Cert.OddInValue
-- ==== Proof.OddInArray.lean ====
/-
  What the odd layer's input kernel leaves in the three result arrays that are returned.
-/
module

public import proofs.«01_k».proof.Proof.OddInBlock
public import proofs.«01_k».proof.Proof.OddInRef
public import Idealize.ShloMosaic.Lib.Claim

@[expose] public section

set_option maxRecDepth 16384
set_option maxHeartbeats 4000000

noncomputable section

open Idealize.ShloMosaic Idealize.ShloMosaic.TcCoe Idealize.SL.Sem
open Idealize.ShloMosaic.Pipeline (Dat)

namespace Cert.OddInValue

open Cert.OddInIdeal Cert.OddInIdeal.Gen Cert.Rows

variable (m : (ℓ : Loc nD τ sig) → Buf (Elt Ideal) ℓ)

/-- Where each window's block lies, in the point's number. -/
theorem idx : ∀ t : Fin cfg0.N, win0_0.index t = ![t.val, 0] ∧ win0_1.index t = ![0, 0]
    ∧ win0_2.index t = ![(if t.val < 8 then 0 else 1 + (t.val - 8) / 4), 0, 0] ∧ win0_3.index t = ![0, 0] ∧ win0_5.index t = ![0, 0]
    ∧ win0_9.index t = ![0, 0] ∧ win0_16.index t = ![t.val, 0] ∧ win0_17.index t = ![t.val, 0] ∧ win0_18.index t = ![t.val, 0] :=
  (by decide +kernel : ∀ t : Fin grid0.N, _)

theorem points (t : Fin cfg0.N) : t.val < 40 := t.isLt

/-- The column of the weights of the projection that the kernel's column `j` holds, if any does. -/
def col (d : Fin 1024) (x : FVec Ideal S1024x416 .f32) (j : Fin 640) : EReal :=
  if h : (j : ℕ) < 384 then x (ix2 d ⟨j, by omega⟩) else if h : 448 ≤ (j : ℕ) ∧ (j : ℕ) < 480 then x (ix2 d ⟨(j : ℕ) - 64, by omega⟩) else 0

/-- The joined weights, before the last 128 columns. -/
theorem join_apply (x : FVec Ideal S1024x416 .f32) (q : FVec Ideal S1024x128 .f32) (d : Fin 1024) (j : Fin 640) (h : (j : ℕ) < 512) :
    truncf .bf16 (concatenate S1024x640 1 [⟨S1024x256, extractStridedSlice S1024x256 ![0, 0] x slices_S1024x416_S1024x256_0_0⟩,
        ⟨S1024x128, extractStridedSlice S1024x128 ![0, 256] x slices_S1024x416_S1024x128_0_256⟩,
        ⟨S1024x128, pad S1024x128 ![0, 64] ![0, 32] ![0, 0] (extractStridedSlice S1024x32 ![0, 384] x slices_S1024x416_S1024x32_0_384) (sitofp .f32 (constantI S_ 32 0#32) : FVec Ideal S_ .f32) pads_S1024x32_S1024x128_000_64320 h_S_⟩,
        ⟨S1024x128, q⟩] concatenates_S1024x256_S1024x128_S1024x128_S1024x128_S1024x640_d1) bitsLt_bf16_f32 (ix2 d j) = col d x j := by
  pointwise [col]
  by_cases h1 : (j : ℕ) < 256
  · rw [dif_pos h1, dif_pos (by omega)]
  rw [dif_neg h1]
  by_cases h2 : (j : ℕ) < 384
  · rw [dif_pos (show (j : ℕ) - 256 < 128 by omega), dif_pos h2]
    exact congrArg x (congrArg (ix2 d) (Fin.ext (by show 256 + ((j : ℕ) - 256) = j; omega)))
  rw [dif_neg (show ¬ (j : ℕ) - 256 < 128 by omega), dif_neg h2, dif_pos (show (j : ℕ) - 256 - 128 < 128 by omega)]
  by_cases h3 : 448 ≤ (j : ℕ) ∧ (j : ℕ) < 480
  · rw [dif_pos (show 64 ≤ (j : ℕ) - 256 - 128 ∧ (j : ℕ) - 256 - 128 - 64 < 32 by omega), dif_pos h3]
    exact congrArg x (congrArg (ix2 d) (Fin.ext (by show 384 + ((j : ℕ) - 256 - 128 - 64) = (j : ℕ) - 64; omega)))
  · rw [dif_neg (show ¬ (64 ≤ (j : ℕ) - 256 - 128 ∧ (j : ℕ) - 256 - 128 - 64 < 32) by omega), dif_neg h3]
    exact sitofp_zero

/-- The weights of the values, cut out of the joined weights of keys and values. -/
theorem values_apply (x : FVec Ideal S128x2048 .f32) (l : Fin 128) (j : Fin 1024) :
    truncf .bf16 (shapeCast S128x1024 (extractStridedSlice S128x16x64 ![0, 0, 64] (shapeCast S128x16x128 x shapeCasts_S128x2048_S128x16x128)
      slices_S128x16x128_S128x16x64_0_0_64) shapeCasts_S128x16x64_S128x1024) bitsLt_bf16_f32 (ix2 l j)
      = x (ix2 l ⟨(j : ℕ) / 64 * 128 + (64 + (j : ℕ) % 64), by omega⟩) := by
  pointwise

/-- The host's operations in stretches: the arguments as launched, and the columns of the weights cut out. -/
theorem stretches (c : Dev nD) : ∃ W : Valuation τ sig (Elt Ideal),
    (∀ b : Ref sig .tc, V m c b = StableHlo.after (List.flatten [hostOps0_41, hostOps0_42, hostOps0_43, hostOps0_44, hostOps0_45, hostOps0_46, hostOps0_47, hostOps0_48, hostOps0_49, hostOps0_50, hostOps0_51, hostOps0_52] : List (HloOp τ sig (Elt Ideal))) (StableHlo.after (List.flatten [hostOps0_33, hostOps0_34, hostOps0_35, hostOps0_36, hostOps0_37, hostOps0_38, hostOps0_39, hostOps0_40] : List (HloOp τ sig (Elt Ideal))) (StableHlo.after hostOps0_32 W)) b)
      ∧ W main_arg1 = m ((c : Thread nD τ).loc main_arg1) ∧ W main_arg5 = m ((c : Thread nD τ).loc main_arg5) ∧ W main_arg7 = m ((c : Thread nD τ).loc main_arg7)
      ∧ W main_v58 = extractStridedSlice S1024x256 ![0, 0] (show FVec Ideal S1024x416 .f32 from m ((c : Thread nD τ).loc main_arg3)) slices_S1024x416_S1024x256_0_0
      ∧ W main_v59 = extractStridedSlice S1024x128 ![0, 256] (show FVec Ideal S1024x416 .f32 from m ((c : Thread nD τ).loc main_arg3)) slices_S1024x416_S1024x128_0_256
      ∧ W main_v61 = pad S1024x128 ![0, 64] ![0, 32] ![0, 0] (extractStridedSlice S1024x32 ![0, 384] (show FVec Ideal S1024x416 .f32 from m ((c : Thread nD τ).loc main_arg3)) slices_S1024x416_S1024x32_0_384) (sitofp .f32 (constantI S_ 32 0#32) : FVec Ideal S_ .f32) pads_S1024x32_S1024x128_000_64320 h_S_ := by
  obtain ⟨W0, hW, h1, h3, h5, h7⟩ : ∃ W : Valuation τ sig (Elt Ideal), (∀ b : Ref sig .tc, V m c b = StableHlo.after (List.flatten [hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52] : List (HloOp τ sig (Elt Ideal))) W b)
      ∧ W main_arg1 = m ((c : Thread nD τ).loc main_arg1) ∧ W main_arg3 = m ((c : Thread nD τ).loc main_arg3)
      ∧ W main_arg5 = m ((c : Thread nD τ).loc main_arg5) ∧ W main_arg7 = m ((c : Thread nD τ).loc main_arg7) := by
    refine ⟨StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21] : List (HloOp τ sig (Elt Ideal))) (fun b => m (c, b)), fun b => ?_, ?_, ?_, ?_, ?_⟩
    · rw [← StableHlo.after_append, ← List.flatten_append]
      rfl
    all_goals exact (by
      refine StableHlo.after_of_forall_not_mem _ _ (List.forall_iff_forall_mem.mp ?_)
      simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))
  refine ⟨StableHlo.after (List.flatten [hostOps0_24, hostOps0_25, hostOps0_26, hostOps0_27, hostOps0_28, hostOps0_29, hostOps0_30, hostOps0_31] : List (HloOp τ sig (Elt Ideal))) (StableHlo.after (List.flatten [hostOps0_22, hostOps0_23] : List (HloOp τ sig (Elt Ideal))) W0), fun b => (hW b).trans ?_, ?_, ?_, ?_, ?_, ?_, ?_⟩
  · rw [← StableHlo.after_append, ← StableHlo.after_append, ← StableHlo.after_append, ← StableHlo.after_append]
    rfl
  all_goals
    refine Eq.trans (by
      refine StableHlo.after_of_forall_not_mem _ _ (List.forall_iff_forall_mem.mp ?_)
      simp only [hostOps0_24, hostOps0_25, hostOps0_26, hostOps0_27, hostOps0_28, hostOps0_29, hostOps0_30, hostOps0_31, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide)) ?_
    simp only [hostOps0_22, hostOps0_23, List.flatten_cons, List.flatten_nil, List.append_nil, List.cons_append, List.nil_append, ← h1, ← h3, ← h5, ← h7]
    entry_read
    try rfl

/-- The weights as the call takes them, before the last 128 columns. -/
theorem entry_w (c : Dev nD) (d : Fin 1024) (j : Fin 640) (h : (j : ℕ) < 512) :
    (show FVec Ideal S1024x640 .bf16 from V m c main_v82) (ix2 d j) = col d (show FVec Ideal S1024x416 .f32 from m ((c : Thread nD τ).loc main_arg3)) j := by
  obtain ⟨W, hW, h1, h5, h7, h58, h59, h61⟩ := stretches m c
  rw [hW]
  refine (congrFun (Eq.trans (by
      refine StableHlo.after_of_forall_not_mem _ _ (List.forall_iff_forall_mem.mp ?_)
      simp only [hostOps0_41, hostOps0_42, hostOps0_43, hostOps0_44, hostOps0_45, hostOps0_46, hostOps0_47, hostOps0_48, hostOps0_49, hostOps0_50, hostOps0_51, hostOps0_52, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide)) (by
      refine StableHlo.after_of_forall_not_mem _ _ (List.forall_iff_forall_mem.mp ?_)
      simp only [hostOps0_33, hostOps0_34, hostOps0_35, hostOps0_36, hostOps0_37, hostOps0_38, hostOps0_39, hostOps0_40, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))) (ix2 d j)).trans ?_
  simp only [hostOps0_32]
  entry_read
  show truncf .bf16 (concatenate S1024x640 1 [⟨S1024x256, (show FVec Ideal S1024x256 .f32 from W main_v58)⟩, ⟨S1024x128, (show FVec Ideal S1024x128 .f32 from W main_v59)⟩,
    ⟨S1024x128, (show FVec Ideal S1024x128 .f32 from W main_v61)⟩, ⟨S1024x128, (show FVec Ideal S1024x128 .f32 from W main_v80)⟩]
    concatenates_S1024x256_S1024x128_S1024x128_S1024x128_S1024x640_d1) bitsLt_bf16_f32 (ix2 d j) = _
  rw [h58, h59, h61]
  exact join_apply _ _ d j h

/-- The weights of the values as the call takes them. -/
theorem entry_v (c : Dev nD) (l : Fin 128) (j : Fin 1024) :
    (show FVec Ideal S128x1024 .bf16 from V m c main_v98) (ix2 l j)
      = (show FVec Ideal S128x2048 .f32 from m ((c : Thread nD τ).loc main_arg7)) (ix2 l ⟨(j : ℕ) / 64 * 128 + (64 + (j : ℕ) % 64), by omega⟩) := by
  obtain ⟨W, hW, h1, h5, h7, h58, h59, h61⟩ := stretches m c
  rw [hW]
  refine (congrFun (by
      refine StableHlo.after_of_forall_not_mem _ _ (List.forall_iff_forall_mem.mp ?_)
      simp only [hostOps0_41, hostOps0_42, hostOps0_43, hostOps0_44, hostOps0_45, hostOps0_46, hostOps0_47, hostOps0_48, hostOps0_49, hostOps0_50, hostOps0_51, hostOps0_52, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide)) (ix2 l j)).trans ?_
  have h : StableHlo.after hostOps0_32 W main_arg7 = m ((c : Thread nD τ).loc main_arg7) := by
    refine Eq.trans ?_ h7
    simp only [hostOps0_32]
    entry_read
    rfl
  generalize StableHlo.after hostOps0_32 W = W' at h
  rw [← h]
  simp only [hostOps0_33, hostOps0_34, hostOps0_35, hostOps0_36, hostOps0_37, hostOps0_38, hostOps0_39, hostOps0_40, List.flatten_cons, List.flatten_nil, List.append_nil, List.cons_append, List.nil_append]
  entry_read
  exact values_apply _ l j

/-- The two gains as the call takes them. -/
theorem entry_gains (c : Dev nD) : (∀ j : Fin 128, (show FVec Ideal S1x128 .f32 from V m c main_v126) (ix2 0 j) = (show FVec Ideal S128 .f32 from m ((c : Thread nD τ).loc main_arg5)) (ix1 j))
    ∧ ∀ j : Fin 1024, (show FVec Ideal S1x1024 .f32 from V m c main_v127) (ix2 0 j) = (show FVec Ideal S1024 .f32 from m ((c : Thread nD τ).loc main_arg1)) (ix1 j) := by
  obtain ⟨W, hW, h1, h5, h7, h58, h59, h61⟩ := stretches m c
  have k : ∀ b : Ref sig .tc, V m c b = StableHlo.after hostOps0_52 (StableHlo.after (List.flatten [hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51] : List (HloOp τ sig (Elt Ideal))) W) b := fun b => (hW b).trans (by
    rw [← StableHlo.after_append, ← StableHlo.after_append, ← StableHlo.after_append]
    rfl)
  have k1 : StableHlo.after (List.flatten [hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51] : List (HloOp τ sig (Elt Ideal))) W main_arg1 = m ((c : Thread nD τ).loc main_arg1) := Eq.trans (by
      refine StableHlo.after_of_forall_not_mem _ _ (List.forall_iff_forall_mem.mp ?_)
      simp only [hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide)) h1
  have k5 : StableHlo.after (List.flatten [hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51] : List (HloOp τ sig (Elt Ideal))) W main_arg5 = m ((c : Thread nD τ).loc main_arg5) := Eq.trans (by
      refine StableHlo.after_of_forall_not_mem _ _ (List.forall_iff_forall_mem.mp ?_)
      simp only [hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide)) h5
  generalize StableHlo.after (List.flatten [hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51] : List (HloOp τ sig (Elt Ideal))) W = W' at k k1 k5
  refine ⟨fun j => ?_, fun j => ?_⟩
  all_goals
    rw [k]
    simp only [hostOps0_52, ← k1, ← k5]
    entry_read
    pointwise

/-- The rows of a point's block. -/
theorem blk_x (c : Dev nD) (t : Fin cfg0.N) (r : Fin 512) (k : Fin 1024) :
    (show FVec Ideal S512x1024 .f32 from iblk m c 0 t) (ix2 r k)
      = (show FVec Ideal S20480x1024 .f32 from m ((c : Thread nD τ).loc main_arg0)) (ix2 ⟨t.val * 512 + r, by have := points t; omega⟩ k) := by
  blk_point [iblk, V, idx t]

/-- The gain of the rows. -/
theorem blk_n (c : Dev nD) (t : Fin cfg0.N) (k : Fin 1024) :
    (show FVec Ideal S1x1024 .f32 from iblk m c 1 t) (ix2 0 k) = (show FVec Ideal S1x1024 .f32 from V m c main_v127) (ix2 0 k) := by
  generalize hv : (show FVec Ideal S1x1024 .f32 from V m c main_v127) = v
  blk_point [iblk, hv, idx t]

/-- The projection's weights. -/
theorem blk_w (c : Dev nD) (t : Fin cfg0.N) (d : Fin 1024) (j : Fin 640) :
    (show FVec Ideal S1024x640 .bf16 from iblk m c 3 t) (ix2 d j) = (show FVec Ideal S1024x640 .bf16 from V m c main_v82) (ix2 d j) := by
  generalize hv : (show FVec Ideal S1024x640 .bf16 from V m c main_v82) = v
  blk_point [iblk, hv, idx t]

/-- The gain of the latents. -/
theorem blk_l (c : Dev nD) (t : Fin cfg0.N) (k : Fin 128) :
    (show FVec Ideal S1x128 .f32 from iblk m c 5 t) (ix2 0 k) = (show FVec Ideal S1x128 .f32 from V m c main_v126) (ix2 0 k) := by
  generalize hv : (show FVec Ideal S1x128 .f32 from V m c main_v126) = v
  blk_point [iblk, hv, idx t]

/-- The weights of the values. -/
theorem blk_v (c : Dev nD) (t : Fin cfg0.N) (l : Fin 128) (j : Fin 1024) :
    (show FVec Ideal S128x1024 .bf16 from iblk m c 9 t) (ix2 l j) = (show FVec Ideal S128x1024 .bf16 from V m c main_v98) (ix2 l j) := by
  generalize hv : (show FVec Ideal S128x1024 .bf16 from V m c main_v98) = v
  blk_point [iblk, hv, idx t]

/-- A point's modulation rows are those of its tokens. -/
theorem blk_m (c : Dev nD) (t : Fin cfg0.N) (r : Fin 512) (a : Fin 6) (k : Fin 1024) :
    (show FVec Ideal S1x6x1024 .f32 from iblk m c 2 t) (ix3 0 a k)
      = tok (fun b k => (show FVec Ideal S16x6x1024 .f32 from m ((c : Thread nD τ).loc main_arg2)) (ix3 b a k)) ⟨t.val * 512 + r, by have := points t; omega⟩ k := by
  have ht := points t
  unfold tok
  by_cases h : t.val < 8
  · rw [dif_pos (by show t.val * 512 + (r : ℕ) < 4096; omega)]
    have i2 : win0_2.index t = ![0, 0, 0] := by rw [(idx t).2.2.1, if_pos h]
    blk_point [iblk, V, i2]
  · rw [dif_neg (by show ¬ t.val * 512 + (r : ℕ) < 4096; omega)]
    have i2 : win0_2.index t = ![1 + (t.val - 8) / 4, 0, 0] := by rw [(idx t).2.2.1, if_neg h]
    have e : 1 + (t.val * 512 + (r : ℕ) - 4096) / 2048 = 1 + (t.val - 8) / 4 := by omega
    simp only [e]
    blk_point [iblk, V, i2]

/-- The point's projected rows are the reference's rows times the columns of the weights. -/
theorem rows (c : Dev nD) (t : Fin cfg0.N) (r : Fin 512) (j : Fin 640) (h : (j : ℕ) < 512) :
    k0_pay2 (F := Ideal) (iblk m c 0 t) (iblk m c 1 t) (View.ld (iblk m c 2 t) r0_2) (View.ld (iblk m c 2 t) r0_3) (iblk m c 3 t) (ix2 r j)
      = ∑ d : Fin 1024, hid (m ((c : Thread nD τ).loc main_arg0)) (m ((c : Thread nD τ).loc main_arg1)) (m ((c : Thread nD τ).loc main_arg2)) ⟨t.val * 512 + r, by have := points t; omega⟩ d * col d (m ((c : Thread nD τ).loc main_arg3)) j := by
  refine (proj_apply _ _ _ _ _ r j).trans ?_
  unfold hid
  refine Finset.sum_congr rfl fun d _ => ?_
  have e1 : ∀ k : Fin 1024, View.ld (iblk m c 2 t) r0_2 (ix3 0 0 k) = (show FVec Ideal S1x6x1024 .f32 from iblk m c 2 t) (ix3 0 1 k) := fun k => by
    generalize iblk m c 2 t = z
    pointwise
  have e0 : ∀ k : Fin 1024, View.ld (iblk m c 2 t) r0_3 (ix3 0 0 k) = (show FVec Ideal S1x6x1024 .f32 from iblk m c 2 t) (ix3 0 0 k) := fun k => by
    generalize iblk m c 2 t = z
    pointwise
  refine congrArg₂ (· * ·) ?_ ((blk_w m c t d j).trans (entry_w m c d j h))
  simp only [e0, e1]
  refine congrFun (congr (congr (congr (congrArg normed ?_) ?_) ?_) ?_) d
  · exact funext fun k => blk_x m c t r k
  · exact funext fun k => (blk_n m c t k).trans ((entry_gains m c).2 k)
  · exact funext fun k => blk_m m c t r 1 k
  · exact funext fun k => blk_m m c t r 0 k

/-- The latents before their normalisation. -/
theorem rows_latent (c : Dev nD) (t : Fin cfg0.N) (r : Fin 512) (l : Fin 128) :
    k0_pay2 (F := Ideal) (iblk m c 0 t) (iblk m c 1 t) (View.ld (iblk m c 2 t) r0_2) (View.ld (iblk m c 2 t) r0_3) (iblk m c 3 t) (ix2 r ⟨256 + l, by omega⟩)
      = proj (m ((c : Thread nD τ).loc main_arg0)) (m ((c : Thread nD τ).loc main_arg1)) (m ((c : Thread nD τ).loc main_arg2)) (m ((c : Thread nD τ).loc main_arg3)) ⟨t.val * 512 + r, by have := points t; omega⟩ ⟨256 + l, by omega⟩ := by
  refine (rows m c t r _ (by show 256 + (l : ℕ) < 512; omega)).trans ?_
  unfold proj
  refine Finset.sum_congr rfl fun d _ => congrArg _ ?_
  exact dif_pos (by show 256 + (l : ℕ) < 384; omega)

/-- The latents, normalised. -/
theorem rows_lat (c : Dev nD) (t : Fin cfg0.N) (r : Fin 512) (j : Fin 128) :
    latent (fun l => k0_pay2 (F := Ideal) (iblk m c 0 t) (iblk m c 1 t) (View.ld (iblk m c 2 t) r0_2) (View.ld (iblk m c 2 t) r0_3) (iblk m c 3 t) (ix2 r ⟨256 + l, by omega⟩)) (fun l => (show FVec Ideal S1x128 .f32 from iblk m c 5 t) (ix2 0 l)) j
      = lat (m ((c : Thread nD τ).loc main_arg0)) (m ((c : Thread nD τ).loc main_arg1)) (m ((c : Thread nD τ).loc main_arg2)) (m ((c : Thread nD τ).loc main_arg3)) (m ((c : Thread nD τ).loc main_arg5)) ⟨t.val * 512 + r, by have := points t; omega⟩ j := by
  unfold lat
  refine congrFun (congr (congrArg latent ?_) ?_) j
  · exact funext fun l => rows_latent m c t r l
  · exact funext fun l => (blk_l m c t l).trans ((entry_gains m c).1 l)

/-- The rotary key's slot. -/
theorem rows_kpe (c : Dev nD) (t : Fin cfg0.N) (r : Fin 512) (j : Fin 128) :
    k0_pay2 (F := Ideal) (iblk m c 0 t) (iblk m c 1 t) (View.ld (iblk m c 2 t) r0_2) (View.ld (iblk m c 2 t) r0_3) (iblk m c 3 t) (ix2 r ⟨384 + j, by omega⟩)
      = if h : 64 ≤ (j : ℕ) ∧ (j : ℕ) < 96 then proj (m ((c : Thread nD τ).loc main_arg0)) (m ((c : Thread nD τ).loc main_arg1)) (m ((c : Thread nD τ).loc main_arg2)) (m ((c : Thread nD τ).loc main_arg3)) ⟨t.val * 512 + r, by have := points t; omega⟩ ⟨320 + j, by omega⟩ else 0 := by
  refine (rows m c t r _ (by show 384 + (j : ℕ) < 512; omega)).trans ?_
  by_cases h : 64 ≤ (j : ℕ) ∧ (j : ℕ) < 96
  · rw [dif_pos h]
    unfold proj
    refine Finset.sum_congr rfl fun d _ => congrArg _ ?_
    unfold col
    rw [dif_neg (by show ¬ 384 + (j : ℕ) < 384; omega), dif_pos (by show 448 ≤ 384 + (j : ℕ) ∧ 384 + (j : ℕ) < 480; omega)]
    exact congrArg _ (congrArg (ix2 d) (Fin.ext (by show 384 + (j : ℕ) - 64 = 320 + (j : ℕ); omega)))
  · rw [dif_neg h]
    refine Finset.sum_eq_zero fun d _ => ?_
    unfold col
    rw [dif_neg (by show ¬ 384 + (j : ℕ) < 384; omega), dif_neg (by show ¬ (448 ≤ 384 + (j : ℕ) ∧ 384 + (j : ℕ) < 480); omega), mul_zero]

/-- The values. -/
theorem final_v (c : Dev nD) : (dats m 0 c).arrAt 16 (cfgs 0).N = Cert.OddInRefIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg7)) := by
  refine (dats m 0 c).arrAt_eq_of_covers 16 _ (by decide +kernel) fun t hf y => ?_
  blk_simp
  have ht := points t
  have hy0 : (y 0 : ℕ) < 512 := (y 0).isLt
  have hy1 : (y 1 : ℕ) < 1024 := (y 1).isLt
  have e0 : (((win0_16.blk t).view.emb y) 0 : ℕ) = t.val * 512 + (y 0 : ℕ) := by blk_simp [idx t]
  have e1 : (((win0_16.blk t).view.emb y) 1 : ℕ) = (y 1 : ℕ) := by blk_simp [idx t]
  have hy : y = ix2 (⟨(y 0 : ℕ), hy0⟩ : Fin 512) (⟨(y 1 : ℕ), hy1⟩ : Fin 1024) := funext fun a => by match a with | ⟨0, _⟩ => rfl | ⟨1, _⟩ => rfl
  have hE : (win0_16.blk t).view.emb y = ix2 (⟨t.val * 512 + (y 0 : ℕ), by omega⟩ : Fin 20480) (⟨(y 1 : ℕ), hy1⟩ : Fin 1024) :=
    funext fun a => Fin.ext (by match a with | ⟨0, _⟩ => exact e0 | ⟨1, _⟩ => exact e1)
  rw [after0_16]
  have hs : ∀ j, out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) j = k0_pay10 (F := Ideal) (k0_pay2 (F := Ideal) (iblk m c 0 t) (iblk m c 1 t) (View.ld (iblk m c 2 t) r0_2) (View.ld (iblk m c 2 t) r0_3) (iblk m c 3 t)) (iblk m c 5 t) (iblk m c 9 t) j := by
    intro j
    unfold_out out0_16
    frame_out
    rfl
  refine (hs y).trans ?_
  refine Eq.trans ?_ ((congrArg (Cert.OddInRefIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg7))) hE).trans (ref_v (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg7)) ⟨t.val * 512 + (y 0 : ℕ), by omega⟩ ⟨(y 1 : ℕ), hy1⟩)).symm
  refine (congrArg _ hy).trans ?_
  refine (v_apply _ _ _ ⟨(y 0 : ℕ), hy0⟩ ⟨(y 1 : ℕ), hy1⟩).trans ?_
  refine Finset.sum_congr rfl fun l _ => ?_
  exact congrArg₂ (· * ·) (rows_lat m c t ⟨(y 0 : ℕ), hy0⟩ l) ((blk_v m c t l ⟨(y 1 : ℕ), hy1⟩).trans (entry_v m c l ⟨(y 1 : ℕ), hy1⟩))

/-- The latents. -/
theorem final_ckv (c : Dev nD) : (dats m 0 c).arrAt 17 (cfgs 0).N = Cert.OddInRefIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_covers 17 _ (by decide +kernel) fun t hf y => ?_
  blk_simp
  have ht := points t
  have hy0 : (y 0 : ℕ) < 512 := (y 0).isLt
  have hy1 : (y 1 : ℕ) < 128 := (y 1).isLt
  have e0 : (((win0_17.blk t).view.emb y) 0 : ℕ) = t.val * 512 + (y 0 : ℕ) := by blk_simp [idx t]
  have e1 : (((win0_17.blk t).view.emb y) 1 : ℕ) = (y 1 : ℕ) := by blk_simp [idx t]
  have hy : y = ix2 (⟨(y 0 : ℕ), hy0⟩ : Fin 512) (⟨(y 1 : ℕ), hy1⟩ : Fin 128) := funext fun a => by match a with | ⟨0, _⟩ => rfl | ⟨1, _⟩ => rfl
  have hE : (win0_17.blk t).view.emb y = ix2 (⟨t.val * 512 + (y 0 : ℕ), by omega⟩ : Fin 20480) (⟨(y 1 : ℕ), hy1⟩ : Fin 128) :=
    funext fun a => Fin.ext (by match a with | ⟨0, _⟩ => exact e0 | ⟨1, _⟩ => exact e1)
  rw [after0_17]
  have hs : ∀ j, out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) j = k0_pay5 (F := Ideal) (k0_pay2 (F := Ideal) (iblk m c 0 t) (iblk m c 1 t) (View.ld (iblk m c 2 t) r0_2) (View.ld (iblk m c 2 t) r0_3) (iblk m c 3 t)) (iblk m c 5 t) j := by
    intro j
    unfold_out out0_17
    frame_out
    rfl
  refine (hs y).trans ?_
  refine Eq.trans ?_ ((congrArg (Cert.OddInRefIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg5))) hE).trans (ref_ckv (m ((c : Thread nD τ).loc main_arg0)) (m ((c : Thread nD τ).loc main_arg1)) (m ((c : Thread nD τ).loc main_arg2)) (m ((c : Thread nD τ).loc main_arg3)) (m ((c : Thread nD τ).loc main_arg5)) ⟨t.val * 512 + (y 0 : ℕ), by omega⟩ ⟨(y 1 : ℕ), hy1⟩)).symm
  refine (congrArg _ hy).trans ?_
  exact (ckv_apply _ _ ⟨(y 0 : ℕ), hy0⟩ ⟨(y 1 : ℕ), hy1⟩).trans (rows_lat m c t ⟨(y 0 : ℕ), hy0⟩ ⟨(y 1 : ℕ), hy1⟩)

/-- The rotary key, in its slot. -/
theorem final_kpe (c : Dev nD) : (dats m 0 c).arrAt 18 (cfgs 0).N = Cert.OddInRefIdeal.Read.val_main_v56 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 18 _ (by decide +kernel) fun t hf y => ?_
  blk_simp
  have ht := points t
  have hy0 : (y 0 : ℕ) < 512 := (y 0).isLt
  have hy1 : (y 1 : ℕ) < 128 := (y 1).isLt
  have e0 : (((win0_18.blk t).view.emb y) 0 : ℕ) = t.val * 512 + (y 0 : ℕ) := by blk_simp [idx t]
  have e1 : (((win0_18.blk t).view.emb y) 1 : ℕ) = (y 1 : ℕ) := by blk_simp [idx t]
  have hy : y = ix2 (⟨(y 0 : ℕ), hy0⟩ : Fin 512) (⟨(y 1 : ℕ), hy1⟩ : Fin 128) := funext fun a => by match a with | ⟨0, _⟩ => rfl | ⟨1, _⟩ => rfl
  have hE : (win0_18.blk t).view.emb y = ix2 (⟨t.val * 512 + (y 0 : ℕ), by omega⟩ : Fin 20480) (⟨(y 1 : ℕ), hy1⟩ : Fin 128) :=
    funext fun a => Fin.ext (by match a with | ⟨0, _⟩ => exact e0 | ⟨1, _⟩ => exact e1)
  rw [after0_18]
  have hs : ∀ j, out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) j = k0_pay6 (F := Ideal) (k0_pay2 (F := Ideal) (iblk m c 0 t) (iblk m c 1 t) (View.ld (iblk m c 2 t) r0_2) (View.ld (iblk m c 2 t) r0_3) (iblk m c 3 t)) j := by
    intro j
    unfold_out out0_18
    frame_out
    rfl
  refine (hs y).trans ?_
  refine Eq.trans ?_ ((congrArg (Cert.OddInRefIdeal.Read.val_main_v56 (F := Ideal) (m ((c : Thread nD τ).loc main_arg0)) (m ((c : Thread nD τ).loc main_arg1)) (m ((c : Thread nD τ).loc main_arg2)) (m ((c : Thread nD τ).loc main_arg3))) hE).trans (ref_kpe (m ((c : Thread nD τ).loc main_arg0)) (m ((c : Thread nD τ).loc main_arg1)) (m ((c : Thread nD τ).loc main_arg2)) (m ((c : Thread nD τ).loc main_arg3)) ⟨t.val * 512 + (y 0 : ℕ), by omega⟩ ⟨(y 1 : ℕ), hy1⟩)).symm
  refine (congrArg _ hy).trans ?_
  exact (kpe_apply _ ⟨(y 0 : ℕ), hy0⟩ ⟨(y 1 : ℕ), hy1⟩).trans (rows_kpe m c t ⟨(y 0 : ℕ), hy0⟩ ⟨(y 1 : ℕ), hy1⟩)

/-- After the run the three returned arrays hold the reference's values, and the arguments are unchanged. -/
theorem ends (ρ : Dev nD → PrngReg) : θ_run (defs (F := Ideal)) (onTc (τ := τ) (main (F := Ideal))) ⟨m, fun _ => 0, ρ⟩ (fun r => ∀ c : Dev nD,
      r.2.mem ((c.tc : Thread nD τ).loc main_v128_2) = Cert.OddInRefIdeal.Read.val_main_v55 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg7))
      ∧ r.2.mem ((c.tc : Thread nD τ).loc main_v128_3) = Cert.OddInRefIdeal.Read.val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
      ∧ r.2.mem ((c.tc : Thread nD τ).loc main_v128_4) = Cert.OddInRefIdeal.Read.val_main_v56 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 16).trans (final_v m c), ((h c).1 17).trans (final_ckv m c), ((h c).1 18).trans (final_kpe m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) (run_main m ρ)

end Cert.OddInValue
-- ==== Proof.OddOutRef.lean ====
/-
  The odd layer's output projection as the reference computes it, element by element.
-/
module

public import proofs.«01_k».proof.Proof.Rows
public import proofs.«01_k».proof.Proof.Gen.OddOutRefIdeal.Read
public import Idealize.ShloMosaic.Lib.Claim

@[expose] public section

set_option maxRecDepth 16384
set_option maxHeartbeats 1000000

noncomputable section

open Idealize.ShloMosaic Idealize.ShloMosaic.TcCoe Idealize.SL.Sem
open Idealize.ShloMosaic.Pipeline (Dat)

namespace Cert.OddOutValue

open Cert.OddOutRefIdeal Cert.OddOutRefIdeal.Gen Cert.OddOutRefIdeal.Read Cert.Rows

/-- The attention row of a token: the first 4096 rows lie in the prompt's array, the others in the sample's. -/
def row (x0 : FVec Ideal S4096x1024 .f32) (x1 : FVec Ideal S16384x1024 .f32) (r : Fin 20480) (l : Fin 1024) : EReal :=
  if h : (r : ℕ) < 4096 then x0 (ix2 ⟨r, h⟩ l) else x1 (ix2 ⟨(r : ℕ) - 4096, by omega⟩ l)

/-- The residual plus the gate times the projected row. -/
theorem ref_out (x0 : FVec Ideal S4096x1024 .f32) (x1 : FVec Ideal S16384x1024 .f32) (x2 : FVec Ideal S1024x1024 .f32)
    (x3 : FVec Ideal S20480x1024 .f32) (x4 : FVec Ideal S16x6x1024 .f32) (r : Fin 20480) (j : Fin 1024) :
    val_main_v11 (F := Ideal) x0 x1 x2 x3 x4 (ix2 r j)
      = x3 (ix2 r j) + tok (fun b k => x4 (ix3 b 2 k)) r j * ∑ l : Fin 1024, row x0 x1 r l * x2 (ix2 l j) := by
  have e : ∀ l : Fin 1024, val_main_v0 (F := Ideal) x0 x1 (ix2 r l) = row x0 x1 r l := fun l => by
    pointwise [val_main_v0, row]
  simp only [← e]
  unfold val_main_v11 val_main_v10 val_main_v9
  generalize val_main_v0 (F := Ideal) x0 x1 = o
  pointwise [val_main_v8, val_main_v7, val_main_v6, val_main_v5, val_main_v4, val_main_v3, val_main_v2, val_main_v1, tok]

end Cert.OddOutValue
-- ==== Proof.OddOutArray.lean ====
/-
  What the odd layer's output kernel leaves in its result array.
-/
module

public import proofs.«01_k».proof.Proof.OddOutRef
public import proofs.«01_k».proof.Proof.Gen.OddOutIdeal.Frame
public import Idealize.ShloMosaic.Lib.Claim

@[expose] public section

set_option maxRecDepth 16384
set_option maxHeartbeats 1000000

noncomputable section

open Idealize.ShloMosaic Idealize.ShloMosaic.TcCoe Idealize.SL.Sem
open Idealize.ShloMosaic.Pipeline (Dat)

namespace Cert.OddOutValue

open Cert.OddOutIdeal Cert.OddOutIdeal.Gen Cert.Rows

/-- What one point stores: the residual plus the gate times the product of the rows with the weights. -/
theorem pay1_apply (p : FVec Ideal S512x1024 .bf16) (w : FVec Ideal S1024x1024 .bf16) (x : FVec Ideal S512x1024 .f32) (g : FVec Ideal S1x1x1024 .f32)
    (r : Fin 512) (j : Fin 1024) :
    k0_pay1 (F := Ideal) p w x g (ix2 r j) = x (ix2 r j) + g (ix3 0 0 j) * ∑ l : Fin 1024, p (ix2 r l) * w (ix2 l j) := by
  pointwise [k0_pay1]

theorem pay2_apply (p : FVec Ideal S512x1024 .bf16) (w : FVec Ideal S1024x1024 .bf16) (x : FVec Ideal S512x1024 .f32) (g : FVec Ideal S1x1x1024 .f32)
    (r : Fin 512) (j : Fin 1024) :
    k0_pay2 (F := Ideal) p w x g (ix2 r j) = x (ix2 r j) + g (ix3 0 0 j) * ∑ l : Fin 1024, p (ix2 r l) * w (ix2 l j) := by
  pointwise [k0_pay2]

variable (m : (ℓ : Loc nD τ sig) → Buf (Elt Ideal) ℓ)

/-- Where each window's block lies, in the point's number. -/
theorem idx : ∀ t : Fin cfg0.N, win0_0.index t = ![min t.val 7, 0] ∧ win0_1.index t = ![t.val - 8, 0]
    ∧ win0_2.index t = ![0, 0] ∧ win0_3.index t = ![t.val, 0]
    ∧ win0_4.index t = ![(if t.val < 8 then 0 else 1 + (t.val - 8) / 4), 0, 0] ∧ win0_5.index t = ![t.val, 0] :=
  (by decide +kernel : ∀ t : Fin grid0.N, _)

theorem points (t : Fin cfg0.N) : t.val < 40 := t.isLt

/-- What one point stores is the reference's value of its rows. -/
theorem point (c : Dev nD) (t : Fin cfg0.N) (r : Fin 512) (j : Fin 1024) :
    outsAt0 m c t.val t.isLt (ix2 r j)
      = Cert.OddOutRefIdeal.Read.val_main_v11 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (ix2 (⟨t.val * 512 + r, by have := points t; omega⟩ : Fin 20480) j) := by
  have ht := points t
  refine Eq.trans ?_ (ref_out _ _ _ _ _ _ _).symm
  by_cases h : t.val < 8
  · have hs : outsAt0 m c t.val t.isLt = k0_pay1 (F := Ideal) (iblk m c 0 t) (iblk m c 2 t) (iblk m c 3 t)
        (View.ld (iblk m c 4 t) (Rect.unit (s := S1x6x1024) ![0, 2, 0] S1x1x1024.size inb_S1x6x1024_S1x1x1024_0_2_0)) := by
      rw [outsAt0_A m c t h (by omega)]; frame_out; rfl
    rw [hs]
    refine (pay1_apply _ _ _ _ r j).trans ?_
    have i4 : win0_4.index t = ![0, 0, 0] := by rw [(idx t).2.2.2.2.1, if_pos h]
    have i0 : win0_0.index t = ![t.val, 0] := by rw [(idx t).1, min_eq_left (by omega)]
    refine congrArg₂ (· + ·) ?_ (congrArg₂ (· * ·) ?_ (Finset.sum_congr rfl fun l _ => congrArg₂ (· * ·) ?_ ?_))
    · blk_point [iblk, V, idx t]
    · unfold tok
      rw [dif_pos (by show t.val * 512 + (r : ℕ) < 4096; omega)]
      blk_point [iblk, V, i4]
    · unfold row
      rw [dif_pos (by show t.val * 512 + (r : ℕ) < 4096; omega)]
      blk_point [iblk, V, i0]
    · blk_point [iblk, V, idx t]
  · have hs : outsAt0 m c t.val t.isLt = k0_pay2 (F := Ideal) (iblk m c 1 t) (iblk m c 2 t) (iblk m c 3 t)
        (View.ld (iblk m c 4 t) (Rect.unit (s := S1x6x1024) ![0, 2, 0] S1x1x1024.size inb_S1x6x1024_S1x1x1024_0_2_0)) := by
      rw [outsAt0_B m c t h (by omega)]; frame_out; rfl
    rw [hs]
    refine (pay2_apply _ _ _ _ r j).trans ?_
    have i4 : win0_4.index t = ![1 + (t.val - 8) / 4, 0, 0] := by rw [(idx t).2.2.2.2.1, if_neg h]
    refine congrArg₂ (· + ·) ?_ (congrArg₂ (· * ·) ?_ (Finset.sum_congr rfl fun l _ => congrArg₂ (· * ·) ?_ ?_))
    · blk_point [iblk, V, idx t]
    · unfold tok
      rw [dif_neg (by show ¬ t.val * 512 + (r : ℕ) < 4096; omega)]
      have e : (⟨1 + (t.val - 8) / 4, by omega⟩ : Fin 16) = ⟨1 + (t.val * 512 + (r : ℕ) - 4096) / 2048, by omega⟩ :=
        Fin.ext (by show 1 + (t.val - 8) / 4 = 1 + (t.val * 512 + (r : ℕ) - 4096) / 2048; omega)
      refine Eq.trans ?_ (congrArg (fun b : Fin 16 => (show FVec Ideal S16x6x1024 .f32 from m ((c : Thread nD τ).loc main_arg4)) (ix3 b 2 j)) e)
      blk_point [iblk, V, i4]
    · unfold row
      rw [dif_neg (by show ¬ t.val * 512 + (r : ℕ) < 4096; omega)]
      have e : t.val * 512 + (r : ℕ) - 4096 = (t.val - 8) * 512 + (r : ℕ) := by omega
      simp only [e]
      blk_point [iblk, V, idx t]
    · blk_point [iblk, V, idx t]

/-- The result array after the run is the reference's value at every element. -/
theorem final (c : Dev nD) : (dats m 0 c).arrAt 5 (cfgs 0).N
    = Cert.OddOutRefIdeal.Read.val_main_v11 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  have ht := points t
  have hy0 : (y 0 : ℕ) < 512 := (y 0).isLt
  have hy1 : (y 1 : ℕ) < 1024 := (y 1).isLt
  have e0 : (((win0_5.blk t).view.emb y) 0 : ℕ) = t.val * 512 + (y 0 : ℕ) := by blk_simp [idx t]
  have e1 : (((win0_5.blk t).view.emb y) 1 : ℕ) = (y 1 : ℕ) := by blk_simp [idx t]
  have hy : y = ix2 (⟨(y 0 : ℕ), hy0⟩ : Fin 512) (⟨(y 1 : ℕ), hy1⟩ : Fin 1024) := funext fun a => by match a with | ⟨0, _⟩ => rfl | ⟨1, _⟩ => rfl
  have hE : (win0_5.blk t).view.emb y = ix2 (⟨t.val * 512 + (y 0 : ℕ), by omega⟩ : Fin 20480) (⟨(y 1 : ℕ), hy1⟩ : Fin 1024) :=
    funext fun a => Fin.ext (by match a with | ⟨0, _⟩ => exact e0 | ⟨1, _⟩ => exact e1)
  rw [after0_5]
  refine (congrArg _ hy).trans ?_
  refine (point m c t ⟨(y 0 : ℕ), hy0⟩ ⟨(y 1 : ℕ), hy1⟩).trans ?_
  exact (congrArg (Cert.OddOutRefIdeal.Read.val_main_v11 (F := Ideal) (m ((c : Thread nD τ).loc main_arg0)) (m ((c : Thread nD τ).loc main_arg1)) (m ((c : Thread nD τ).loc main_arg2))
        (m ((c : Thread nD τ).loc main_arg3)) (m ((c : Thread nD τ).loc main_arg4))) hE).symm

end Cert.OddOutValue
-- ==== Proof.EvenOutRef.lean ====
/-
  The even layer's output projection as the reference computes it, element by element.
-/
module

public import proofs.«01_k».proof.Proof.Rows
public import proofs.«01_k».proof.Proof.Gen.EvenOutRefIdeal.Read
public import Idealize.ShloMosaic.Lib.Claim

@[expose] public section

set_option maxRecDepth 16384
set_option maxHeartbeats 1000000

noncomputable section

open Idealize.ShloMosaic Idealize.ShloMosaic.TcCoe Idealize.SL.Sem
open Idealize.ShloMosaic.Pipeline (Dat)

namespace Cert.EvenOutValue

open Cert.EvenOutRefIdeal Cert.EvenOutRefIdeal.Gen Cert.EvenOutRefIdeal.Read Cert.Rows

/-- The convolution's row of a token: the first 4096 rows lie in the prompt's array, the others in the sample's. -/
def hyRow (x0 : FVec Ideal S4096x512 .f32) (x2 : FVec Ideal S16384x512 .f32) (r : Fin 20480) (l : Fin 512) : EReal :=
  if h : (r : ℕ) < 4096 then x0 (ix2 ⟨r, h⟩ l) else x2 (ix2 ⟨(r : ℕ) - 4096, by omega⟩ l)

/-- The attention's row of a token, head after head. -/
def atRow (x1 : FVec Ideal S4096x8x64 .f32) (x3 : FVec Ideal S16384x8x64 .f32) (r : Fin 20480) (l : Fin 512) : EReal :=
  if h : (r : ℕ) < 4096 then x1 (ix3 ⟨r, h⟩ ⟨(l : ℕ) / 64, by omega⟩ ⟨(l : ℕ) % 64, by omega⟩)
    else x3 (ix3 ⟨(r : ℕ) - 4096, by omega⟩ ⟨(l : ℕ) / 64, by omega⟩ ⟨(l : ℕ) % 64, by omega⟩)

/-- The residual plus the gate times the two projected rows. -/
theorem ref_out (x0 : FVec Ideal S4096x512 .f32) (x1 : FVec Ideal S4096x8x64 .f32) (x2 : FVec Ideal S16384x512 .f32) (x3 : FVec Ideal S16384x8x64 .f32) (x4 : FVec Ideal S1024x1024 .f32)
    (x5 : FVec Ideal S20480x1024 .f32) (x6 : FVec Ideal S16x6x1024 .f32) (r : Fin 20480) (j : Fin 1024) :
    val_main_v14 (F := Ideal) x0 x1 x2 x3 x4 x5 x6 (ix2 r j)
      = x5 (ix2 r j) + tok (fun b k => x6 (ix3 b 2 k)) r j
          * (∑ l : Fin 512, hyRow x0 x2 r l * x4 (ix2 ⟨l, by omega⟩ j) + ∑ l : Fin 512, atRow x1 x3 r l * x4 (ix2 ⟨512 + l, by omega⟩ j)) := by
  have e0 : ∀ l : Fin 512, val_main_v3 (F := Ideal) x0 x1 x2 x3 (ix2 r ⟨l, by omega⟩) = hyRow x0 x2 r l := fun l => by
    pointwise [val_main_v3, val_main_v2, hyRow]
  have e1 : ∀ l : Fin 512, val_main_v3 (F := Ideal) x0 x1 x2 x3 (ix2 r ⟨512 + l, by omega⟩) = atRow x1 x3 r l := fun l => by
    pointwise [val_main_v3, val_main_v1, val_main_v0, atRow]
  simp only [← e0, ← e1]
  unfold val_main_v14 val_main_v13 val_main_v4
  generalize val_main_v3 (F := Ideal) x0 x1 x2 x3 = o
  refine Eq.trans (b := x5 (ix2 r j) + tok (fun b k => x6 (ix3 b 2 k)) r j * ∑ l : Fin (512 + 512), o (ix2 r ⟨l, by omega⟩) * x4 (ix2 ⟨l, by omega⟩ j)) ?_ ?_
  · pointwise [val_main_v12, val_main_v11, val_main_v10, val_main_v9, val_main_v8, val_main_v7, val_main_v6, val_main_v5, tok]
  · rw [Fin.sum_univ_add]
    rfl

end Cert.EvenOutValue
-- ==== Proof.EvenOutArray.lean ====
/-
  What the even layer's output kernel leaves in its result array.
-/
module

public import proofs.«01_k».proof.Proof.EvenOutRef
public import proofs.«01_k».proof.Proof.Gen.EvenOutIdeal.Frame
public import Idealize.ShloMosaic.Lib.Claim

@[expose] public section

set_option maxRecDepth 16384
set_option maxHeartbeats 1000000

noncomputable section

open Idealize.ShloMosaic Idealize.ShloMosaic.TcCoe Idealize.SL.Sem
open Idealize.ShloMosaic.Pipeline (Dat)

namespace Cert.EvenOutValue

open Cert.EvenOutIdeal Cert.EvenOutIdeal.Gen Cert.Rows

/-- What one point stores: the residual plus the gate times the two products. -/
theorem pay1_apply (p : FVec Ideal S512x512 .bf16) (w : FVec Ideal S512x1024 .bf16) (q : FVec Ideal S512x1024 .bf16) (u : FVec Ideal S1024x1024 .bf16) (x : FVec Ideal S512x1024 .f32) (g : FVec Ideal S1x1x1024 .f32)
    (r : Fin 512) (j : Fin 1024) :
    k0_pay1 (F := Ideal) p w q u x g (ix2 r j) = x (ix2 r j) + g (ix3 0 0 j) * (∑ l : Fin 512, p (ix2 r l) * w (ix2 l j) + ∑ l : Fin 1024, q (ix2 r l) * u (ix2 l j)) := by
  pointwise [k0_pay1]

theorem pay2_apply (p : FVec Ideal S512x512 .bf16) (w : FVec Ideal S512x1024 .bf16) (q : FVec Ideal S512x1024 .bf16) (u : FVec Ideal S1024x1024 .bf16) (x : FVec Ideal S512x1024 .f32) (g : FVec Ideal S1x1x1024 .f32)
    (r : Fin 512) (j : Fin 1024) :
    k0_pay2 (F := Ideal) p w q u x g (ix2 r j) = x (ix2 r j) + g (ix3 0 0 j) * (∑ l : Fin 512, p (ix2 r l) * w (ix2 l j) + ∑ l : Fin 1024, q (ix2 r l) * u (ix2 l j)) := by
  pointwise [k0_pay2]

/-- The attention's lane that a lane of the slots holds. -/
def slot (q : Fin 1024) : Fin 512 := ⟨(q : ℕ) / 128 * 64 + (q : ℕ) % 64, by omega⟩

/-- One in the half of a slot that belongs to the head's keys, zero in the other. -/
def selq (q : Fin 1024) : EReal := if (q : ℕ) / 128 / 4 = (q : ℕ) % 128 / 64 then 1 else 0

/-- A sum over the slots, masked on both sides, is the sum over the heads' lanes. -/
theorem slot_sum (f g : Fin 512 → EReal) : ∑ q : Fin 1024, f (slot q) * selq q * (g (slot q) * selq q) = ∑ l : Fin 512, f l * g l := by
  symm
  refine Finset.sum_of_injOn (fun l : Fin 512 => (⟨(l : ℕ) / 64 * 128 + (l : ℕ) / 256 * 64 + (l : ℕ) % 64, by omega⟩ : Fin 1024)) ?_ (fun _ _ => Finset.mem_coe.mpr (Finset.mem_univ _)) ?_ ?_
  · intro x _ y _ h
    have h' : (x : ℕ) / 64 * 128 + (x : ℕ) / 256 * 64 + (x : ℕ) % 64 = (y : ℕ) / 64 * 128 + (y : ℕ) / 256 * 64 + (y : ℕ) % 64 := congrArg Fin.val h
    exact Fin.ext (by omega)
  · intro q _ hq
    have hz : selq q = 0 := by
      refine if_neg fun h => hq ⟨slot q, Finset.mem_coe.mpr (Finset.mem_univ _), Fin.ext ?_⟩
      show ((q : ℕ) / 128 * 64 + (q : ℕ) % 64) / 64 * 128 + ((q : ℕ) / 128 * 64 + (q : ℕ) % 64) / 256 * 64 + ((q : ℕ) / 128 * 64 + (q : ℕ) % 64) % 64 = q
      omega
    rw [hz, mul_zero, zero_mul]
  · intro l _
    have h1 : selq ⟨(l : ℕ) / 64 * 128 + (l : ℕ) / 256 * 64 + (l : ℕ) % 64, by omega⟩ = 1 :=
      if_pos ((by decide +kernel : ∀ l : Fin 512, ((l : ℕ) / 64 * 128 + (l : ℕ) / 256 * 64 + (l : ℕ) % 64) / 128 / 4 = ((l : ℕ) / 64 * 128 + (l : ℕ) / 256 * 64 + (l : ℕ) % 64) % 128 / 64) l)
    have h2 : slot ⟨(l : ℕ) / 64 * 128 + (l : ℕ) / 256 * 64 + (l : ℕ) % 64, by omega⟩ = l :=
      Fin.ext (by show ((l : ℕ) / 64 * 128 + (l : ℕ) / 256 * 64 + (l : ℕ) % 64) / 128 * 64 + ((l : ℕ) / 64 * 128 + (l : ℕ) / 256 * 64 + (l : ℕ) % 64) % 64 = l; omega)
    show f l * g l = f (slot _) * selq _ * (g (slot _) * selq _)
    rw [h1, h2, mul_one, mul_one]

variable (m : (ℓ : Loc nD τ sig) → Buf (Elt Ideal) ℓ)

/-- Where each window's block lies, in the point's number. -/
theorem idx : ∀ t : Fin cfg0.N, win0_0.index t = ![min t.val 7, 0] ∧ win0_1.index t = ![min t.val 7, 0] ∧ win0_2.index t = ![t.val - 8, 0] ∧ win0_3.index t = ![t.val - 8, 0]
    ∧ win0_4.index t = ![0, 0] ∧ win0_5.index t = ![0, 0] ∧ win0_6.index t = ![t.val, 0]
    ∧ win0_7.index t = ![(if t.val < 8 then 0 else 1 + (t.val - 8) / 4), 0, 0] ∧ win0_8.index t = ![t.val, 0] :=
  (by decide +kernel : ∀ t : Fin grid0.N, _)

theorem points (t : Fin cfg0.N) : t.val < 40 := t.isLt

/-- The host's operations before the last stretch leave the arguments alone. -/
theorem cut (c : Dev nD) : ∃ W : Valuation τ sig (Elt Ideal),
    (∀ b : Ref sig .tc, V m c b = StableHlo.after hostOps0_3 W b)
      ∧ W main_arg1 = m ((c : Thread nD τ).loc main_arg1) ∧ W main_arg3 = m ((c : Thread nD τ).loc main_arg3) ∧ W main_arg4 = m ((c : Thread nD τ).loc main_arg4)
      ∧ V m c main_v2 = W main_v2 := by
  have hW : ∀ b : Ref sig .tc, V m c b = StableHlo.after hostOps0_3 (StableHlo.after (List.flatten [hostOps0, hostOps0_1, hostOps0_2]) (fun b => m (c, b))) b := fun b => by
    rw [← StableHlo.after_append]
    rfl
  refine ⟨StableHlo.after (List.flatten [hostOps0, hostOps0_1, hostOps0_2]) (fun b => m (c, b)), hW, ?_, ?_, ?_, (hW _).trans ?_⟩
  all_goals
    refine StableHlo.after_of_forall_not_mem _ _ (List.forall_iff_forall_mem.mp ?_)
    simp only [hostOps0, hostOps0_1, hostOps0_2, hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)

/-- The mask: head `h` reads the keys of head `h / 4`. -/
theorem sel_apply (c : Dev nD) (q : Fin 1024) : (show FVec Ideal S8x2 .f32 from V m c main_v2) (ix2 ⟨(q : ℕ) / 128, by omega⟩ ⟨(q : ℕ) % 128 / 64, by omega⟩) = selq q := by
  have h : ∀ (a : Fin 8) (b : Fin 2), (show FVec Ideal S8x2 .f32 from V m c main_v2) (ix2 a b) = if (a : ℕ) / 4 = b then 1 else 0 := by
    intro a b
    simp only [V, hostOps0, hostOps0_1, hostOps0_2, hostOps0_3, List.flatten_cons, List.flatten_nil, List.append_nil, List.cons_append, List.nil_append]
    entry_read
    refine Eq.trans (b := FloatOps.uitofp (F := Ideal) .f32 (if (a : ℕ) / 4 = b then 1#1 else 0#1)) (congrArg (FloatOps.uitofp (F := Ideal) .f32) ?_) ?_
    · revert a b
      decide +kernel
    · split <;> simp [FloatOps.uitofp]
  exact h _ _

/-- The attention rows in their slots. -/
theorem entry_o (c : Dev nD) (r : Fin 4096) (q : Fin 1024) : (show FVec Ideal S4096x1024 .bf16 from V m c main_v18) (ix2 r q)
    = (show FVec Ideal S4096x8x64 .f32 from (m ((c : Thread nD τ).loc main_arg1))) (ix3 r ⟨(slot q : ℕ) / 64, by have := (slot q).isLt; omega⟩ ⟨(slot q : ℕ) % 64, by omega⟩) * selq q := by
  rw [← sel_apply m c]
  obtain ⟨W, hW, h1, h3, h4, hs⟩ := cut m c
  rw [hs, hW, ← h1]
  simp only [hostOps0_3]
  entry_read
  pointwise [slot]
  have e1 : (⟨(q : ℕ) / 64 % 2, by omega⟩ : Fin 2) = ⟨(q : ℕ) % 128 / 64, by omega⟩ := Fin.ext (by show (q : ℕ) / 64 % 2 = (q : ℕ) % 128 / 64; omega)
  have e2 : (⟨((q : ℕ) / 128 * 64 + (q : ℕ) % 64) / 64, by omega⟩ : Fin 8) = ⟨(q : ℕ) / 128, by omega⟩ := Fin.ext (by show ((q : ℕ) / 128 * 64 + (q : ℕ) % 64) / 64 = (q : ℕ) / 128; omega)
  have e3 : (⟨((q : ℕ) / 128 * 64 + (q : ℕ) % 64) % 64, by omega⟩ : Fin 64) = ⟨(q : ℕ) % 64, by omega⟩ := Fin.ext (by show ((q : ℕ) / 128 * 64 + (q : ℕ) % 64) % 64 = (q : ℕ) % 64; omega)
  rw [e1, e2, e3]

/-- The attention rows in their slots. -/
theorem entry_o' (c : Dev nD) (r : Fin 16384) (q : Fin 1024) : (show FVec Ideal S16384x1024 .bf16 from V m c main_v26) (ix2 r q)
    = (show FVec Ideal S16384x8x64 .f32 from (m ((c : Thread nD τ).loc main_arg3))) (ix3 r ⟨(slot q : ℕ) / 64, by have := (slot q).isLt; omega⟩ ⟨(slot q : ℕ) % 64, by omega⟩) * selq q := by
  rw [← sel_apply m c]
  obtain ⟨W, hW, h1, h3, h4, hs⟩ := cut m c
  rw [hs, hW, ← h3]
  simp only [hostOps0_3]
  entry_read
  pointwise [slot]
  have e1 : (⟨(q : ℕ) / 64 % 2, by omega⟩ : Fin 2) = ⟨(q : ℕ) % 128 / 64, by omega⟩ := Fin.ext (by show (q : ℕ) / 64 % 2 = (q : ℕ) % 128 / 64; omega)
  have e2 : (⟨((q : ℕ) / 128 * 64 + (q : ℕ) % 64) / 64, by omega⟩ : Fin 8) = ⟨(q : ℕ) / 128, by omega⟩ := Fin.ext (by show ((q : ℕ) / 128 * 64 + (q : ℕ) % 64) / 64 = (q : ℕ) / 128; omega)
  have e3 : (⟨((q : ℕ) / 128 * 64 + (q : ℕ) % 64) % 64, by omega⟩ : Fin 64) = ⟨(q : ℕ) % 64, by omega⟩ := Fin.ext (by show ((q : ℕ) / 128 * 64 + (q : ℕ) % 64) % 64 = (q : ℕ) % 64; omega)
  rw [e1, e2, e3]

set_option maxHeartbeats 4000000 in
/-- The attention's weights in their slots. -/
theorem entry_aw (c : Dev nD) (q : Fin 1024) (j : Fin 1024) : (show FVec Ideal S1024x1024 .bf16 from V m c main_v28) (ix2 q j)
    = (show FVec Ideal S1024x1024 .f32 from (m ((c : Thread nD τ).loc main_arg4))) (ix2 ⟨512 + slot q, by have := (slot q).isLt; omega⟩ j) * selq q := by
  rw [← sel_apply m c]
  obtain ⟨W, hW, h1, h3, h4, hs⟩ := cut m c
  rw [hs, hW, ← h4]
  simp only [hostOps0_3]
  entry_read
  pointwise [slot]
  have e1 : (⟨(q : ℕ) / 64 % 2, by omega⟩ : Fin 2) = ⟨(q : ℕ) % 128 / 64, by omega⟩ := Fin.ext (by show (q : ℕ) / 64 % 2 = (q : ℕ) % 128 / 64; omega)
  rw [e1]

/-- The convolution's weights. -/
theorem entry_hw (c : Dev nD) (l : Fin 512) (j : Fin 1024) : (show FVec Ideal S512x1024 .bf16 from V m c main_v27) (ix2 l j)
    = (show FVec Ideal S1024x1024 .f32 from (m ((c : Thread nD τ).loc main_arg4))) (ix2 ⟨l, by omega⟩ j) := by
  obtain ⟨W, hW, h1, h3, h4, hs⟩ := cut m c
  rw [hW, ← h4]
  simp only [hostOps0_3]
  entry_read
  pointwise

/-- The convolution's rows. -/
theorem entry_y (c : Dev nD) (r : Fin 4096) (l : Fin 512) : (show FVec Ideal S4096x512 .bf16 from V m c main_v11) (ix2 r l)
    = (show FVec Ideal S4096x512 .f32 from (m ((c : Thread nD τ).loc main_arg0))) (ix2 r l) := by
  simp only [V, hostOps0, hostOps0_1, hostOps0_2, hostOps0_3, List.flatten_cons, List.flatten_nil, List.append_nil, List.cons_append, List.nil_append]
  entry_read
  rfl

theorem entry_y' (c : Dev nD) (r : Fin 16384) (l : Fin 512) : (show FVec Ideal S16384x512 .bf16 from V m c main_v19) (ix2 r l)
    = (show FVec Ideal S16384x512 .f32 from (m ((c : Thread nD τ).loc main_arg2))) (ix2 r l) := by
  simp only [V, hostOps0, hostOps0_1, hostOps0_2, hostOps0_3, List.flatten_cons, List.flatten_nil, List.append_nil, List.cons_append, List.nil_append]
  entry_read
  rfl

/-- What one point stores is the reference's value of its rows. -/
theorem point (c : Dev nD) (t : Fin cfg0.N) (r : Fin 512) (j : Fin 1024) :
    outsAt0 m c t.val t.isLt (ix2 r j)
      = Cert.EvenOutRefIdeal.Read.val_main_v14 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (⟨t.val * 512 + r, by have := points t; omega⟩ : Fin 20480) j) := by
  have ht := points t
  refine Eq.trans ?_ (ref_out _ _ _ _ _ _ _ _ _).symm
  by_cases h : t.val < 8
  · have hs : outsAt0 m c t.val t.isLt = k0_pay1 (F := Ideal) (iblk m c 0 t) (iblk m c 4 t) (iblk m c 1 t) (iblk m c 5 t) (iblk m c 6 t)
        (View.ld (iblk m c 7 t) (Rect.unit (s := S1x6x1024) ![0, 2, 0] S1x1x1024.size inb_S1x6x1024_S1x1x1024_0_2_0)) := by
      rw [outsAt0_A m c t h (by omega)]; frame_out; rfl
    rw [hs]
    refine (pay1_apply _ _ _ _ _ _ r j).trans ?_
    have i7 : win0_7.index t = ![0, 0, 0] := by rw [(idx t).2.2.2.2.2.2.2.1, if_pos h]
    have i0 : win0_0.index t = ![t.val, 0] := by rw [(idx t).1, min_eq_left (by omega)]
    have i1 : win0_1.index t = ![t.val, 0] := by rw [(idx t).2.1, min_eq_left (by omega)]
    refine congrArg₂ (· + ·) ?_ (congrArg₂ (· * ·) ?_ (congrArg₂ (· + ·) (Finset.sum_congr rfl fun l _ => congrArg₂ (· * ·) ?_ ?_) ?_))
    · blk_point [iblk, V, idx t]
    · unfold tok
      rw [dif_pos (by show t.val * 512 + (r : ℕ) < 4096; omega)]
      blk_point [iblk, V, i7]
    · unfold hyRow
      rw [dif_pos (by show t.val * 512 + (r : ℕ) < 4096; omega)]
      refine Eq.trans ?_ (entry_y m c ⟨t.val * 512 + (r : ℕ), by omega⟩ l)
      generalize hv : (show FVec Ideal S4096x512 .bf16 from V m c main_v11) = v
      blk_point [iblk, hv, i0]
    · refine Eq.trans ?_ (entry_hw m c l j)
      generalize hv : (show FVec Ideal S512x1024 .bf16 from V m c main_v27) = v
      blk_point [iblk, hv, idx t]
    · refine Eq.trans (Finset.sum_congr rfl fun q _ => congrArg₂ (· * ·) (?_ : _ = _ * selq q) (?_ : _ = _ * selq q)) (slot_sum (fun l => atRow (m ((c : Thread nD τ).loc main_arg1)) (m ((c : Thread nD τ).loc main_arg3)) ⟨t.val * 512 + r, by omega⟩ l) (fun l => (show FVec Ideal S1024x1024 .f32 from (m ((c : Thread nD τ).loc main_arg4))) (ix2 ⟨512 + l, by omega⟩ j)))
      · unfold atRow
        rw [dif_pos (by show t.val * 512 + (r : ℕ) < 4096; omega)]
        refine Eq.trans ?_ (entry_o m c ⟨t.val * 512 + (r : ℕ), by omega⟩ q)
        generalize hv : (show FVec Ideal S4096x1024 .bf16 from V m c main_v18) = v
        blk_point [iblk, hv, i1]
      · refine Eq.trans ?_ (entry_aw m c q j)
        generalize hv : (show FVec Ideal S1024x1024 .bf16 from V m c main_v28) = v
        blk_point [iblk, hv, idx t]
  · have hs : outsAt0 m c t.val t.isLt = k0_pay2 (F := Ideal) (iblk m c 2 t) (iblk m c 4 t) (iblk m c 3 t) (iblk m c 5 t) (iblk m c 6 t)
        (View.ld (iblk m c 7 t) (Rect.unit (s := S1x6x1024) ![0, 2, 0] S1x1x1024.size inb_S1x6x1024_S1x1x1024_0_2_0)) := by
      rw [outsAt0_B m c t h (by omega)]; frame_out; rfl
    rw [hs]
    refine (pay2_apply _ _ _ _ _ _ r j).trans ?_
    have i7 : win0_7.index t = ![1 + (t.val - 8) / 4, 0, 0] := by rw [(idx t).2.2.2.2.2.2.2.1, if_neg h]
    refine congrArg₂ (· + ·) ?_ (congrArg₂ (· * ·) ?_ (congrArg₂ (· + ·) (Finset.sum_congr rfl fun l _ => congrArg₂ (· * ·) ?_ ?_) ?_))
    · blk_point [iblk, V, idx t]
    · unfold tok
      rw [dif_neg (by show ¬ t.val * 512 + (r : ℕ) < 4096; omega)]
      have e : (⟨1 + (t.val - 8) / 4, by omega⟩ : Fin 16) = ⟨1 + (t.val * 512 + (r : ℕ) - 4096) / 2048, by omega⟩ :=
        Fin.ext (by show 1 + (t.val - 8) / 4 = 1 + (t.val * 512 + (r : ℕ) - 4096) / 2048; omega)
      refine Eq.trans ?_ (congrArg (fun b : Fin 16 => (show FVec Ideal S16x6x1024 .f32 from m ((c : Thread nD τ).loc main_arg6)) (ix3 b 2 j)) e)
      blk_point [iblk, V, i7]
    · unfold hyRow
      rw [dif_neg (by show ¬ t.val * 512 + (r : ℕ) < 4096; omega)]
      have e : (⟨(t.val - 8) * 512 + (r : ℕ), by omega⟩ : Fin 16384) = ⟨t.val * 512 + (r : ℕ) - 4096, by omega⟩ :=
        Fin.ext (by show (t.val - 8) * 512 + (r : ℕ) = t.val * 512 + (r : ℕ) - 4096; omega)
      refine Eq.trans ?_ (congrArg (fun b : Fin 16384 => (show FVec Ideal S16384x512 .f32 from m ((c : Thread nD τ).loc main_arg2)) (ix2 b l)) e)
      refine Eq.trans ?_ (entry_y' m c ⟨(t.val - 8) * 512 + (r : ℕ), by omega⟩ l)
      generalize hv : (show FVec Ideal S16384x512 .bf16 from V m c main_v19) = v
      blk_point [iblk, hv, idx t]
    · refine Eq.trans ?_ (entry_hw m c l j)
      generalize hv : (show FVec Ideal S512x1024 .bf16 from V m c main_v27) = v
      blk_point [iblk, hv, idx t]
    · refine Eq.trans (Finset.sum_congr rfl fun q _ => congrArg₂ (· * ·) (?_ : _ = _ * selq q) (?_ : _ = _ * selq q)) (slot_sum (fun l => atRow (m ((c : Thread nD τ).loc main_arg1)) (m ((c : Thread nD τ).loc main_arg3)) ⟨t.val * 512 + r, by omega⟩ l) (fun l => (show FVec Ideal S1024x1024 .f32 from (m ((c : Thread nD τ).loc main_arg4))) (ix2 ⟨512 + l, by omega⟩ j)))
      · unfold atRow
        rw [dif_neg (by show ¬ t.val * 512 + (r : ℕ) < 4096; omega)]
        have e : (⟨(t.val - 8) * 512 + (r : ℕ), by omega⟩ : Fin 16384) = ⟨t.val * 512 + (r : ℕ) - 4096, by omega⟩ :=
          Fin.ext (by show (t.val - 8) * 512 + (r : ℕ) = t.val * 512 + (r : ℕ) - 4096; omega)
        rw [← e]
        refine Eq.trans ?_ (entry_o' m c ⟨(t.val - 8) * 512 + (r : ℕ), by omega⟩ q)
        generalize hv : (show FVec Ideal S16384x1024 .bf16 from V m c main_v26) = v
        blk_point [iblk, hv, idx t]
      · refine Eq.trans ?_ (entry_aw m c q j)
        generalize hv : (show FVec Ideal S1024x1024 .bf16 from V m c main_v28) = v
        blk_point [iblk, hv, idx t]

/-- The result array after the run is the reference's value at every element. -/
theorem final (c : Dev nD) : (dats m 0 c).arrAt 8 (cfgs 0).N
    = Cert.EvenOutRefIdeal.Read.val_main_v14 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  have ht := points t
  have hy0 : (y 0 : ℕ) < 512 := (y 0).isLt
  have hy1 : (y 1 : ℕ) < 1024 := (y 1).isLt
  have e0 : (((win0_8.blk t).view.emb y) 0 : ℕ) = t.val * 512 + (y 0 : ℕ) := by blk_simp [idx t]
  have e1 : (((win0_8.blk t).view.emb y) 1 : ℕ) = (y 1 : ℕ) := by blk_simp [idx t]
  have hy : y = ix2 (⟨(y 0 : ℕ), hy0⟩ : Fin 512) (⟨(y 1 : ℕ), hy1⟩ : Fin 1024) := funext fun a => by match a with | ⟨0, _⟩ => rfl | ⟨1, _⟩ => rfl
  have hE : (win0_8.blk t).view.emb y = ix2 (⟨t.val * 512 + (y 0 : ℕ), by omega⟩ : Fin 20480) (⟨(y 1 : ℕ), hy1⟩ : Fin 1024) :=
    funext fun a => Fin.ext (by match a with | ⟨0, _⟩ => exact e0 | ⟨1, _⟩ => exact e1)
  rw [after0_8]
  refine (congrArg _ hy).trans ?_
  refine (point m c t ⟨(y 0 : ℕ), hy0⟩ ⟨(y 1 : ℕ), hy1⟩).trans ?_
  exact (congrArg (Cert.EvenOutRefIdeal.Read.val_main_v14 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) hE).symm

end Cert.EvenOutValue
-- ==== Proof.EvenOutEnds.lean ====
/-
  What the run of the even layer's output kernel ends with.
-/
module

public import proofs.«01_k».proof.Proof.EvenOutArray
public import Idealize.ShloMosaic.Lib.Claim

@[expose] public section

set_option maxRecDepth 16384
set_option maxHeartbeats 1000000

noncomputable section

open Idealize.ShloMosaic Idealize.ShloMosaic.TcCoe Idealize.SL.Sem
open Idealize.ShloMosaic.Pipeline (Dat)

namespace Cert.EvenOutValue

open Cert.EvenOutIdeal Cert.EvenOutIdeal.Gen Cert.Rows

variable (m : (ℓ : Loc nD τ sig) → Buf (Elt Ideal) ℓ)

/-- After the run the result array holds the reference's value, and the arguments are unchanged. -/
theorem ends (ρ : Dev nD → PrngReg) : θ_run (defs (F := Ideal)) (onTc (τ := τ) (main (F := Ideal))) ⟨m, fun _ => 0, ρ⟩ (fun r => ∀ c : Dev nD,
      r.2.mem ((c.tc : Thread nD τ).loc main_v29) = Cert.EvenOutRefIdeal.Read.val_main_v14 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 8).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 6).trans (((dats m 0 c).arrAt_in 6 rfl _).trans ((A_eq m c 6).trans (V_main_arg5 m c))),
      ((h c).1 7).trans (((dats m 0 c).arrAt_in 7 rfl _).trans ((A_eq m c 7).trans (V_main_arg6 m c)))⟩) (run_main m ρ)

end Cert.EvenOutValue
-- ==== Proof.GqaBlock.lean ====
/-
  What one grid point of the grouped-query attention kernel computes, element by element.
-/
module

public import proofs.«01_k».proof.Proof.Gen.GqaIdeal.Value
public import proofs.«01_k».proof.Proof.Softmax
public import Idealize.ShloMosaic.Lib.Pipeline.ValueKit

@[expose] public section

set_option maxRecDepth 16384

noncomputable section

open Idealize.ShloMosaic Idealize.ShloMosaic.TcCoe Idealize.SL.Sem

namespace Cert.GqaValue

open Cert.GqaIdeal Cert.GqaIdeal.Gen

/-- Whether a lane is one of the first 64. -/
theorem low_lane : ∀ l : Fin 128, IntOp.cmpi CmpIPredicate.slt (BitVec.ofNat 32 (l : ℕ)) 64#32 = if (l : ℕ) < 64 then 1#1 else 0#1 := by
  decide +kernel

/-- The scale of the scores. -/
abbrev scale : EReal := (Named.named κ "gqa_scale" 0x3E38AA3B#32 : Ideal .f32)

/-- The score of a scaled query row against a row of a chunk of keys, over the 128 lanes of a slot. -/
def score {n : Nat} (Q : FVec Ideal S1024x128 .bf16) (K : Fin n → Fin 128 → EReal) (r : Fin 1024) (i : Fin n) : EReal :=
  ∑ x : Fin 128, Q (ix2 r x) * K i x

/-- What a query row accumulates over the cached and the new keys, for the values of one lane, over the same for ones. -/
def ratio (Q : FVec Ideal S1024x128 .bf16) (kc vc : FVec Ideal S1x512x128 .f32) (k v : FVec Ideal S2048x128 .bf16) (r : Fin 1024) (l : Fin 128) : EReal :=
  Ideal.div (Softmax.attend (score Q (fun i x => kc (ix3 0 i x)) r) (score Q (fun i x => k (ix2 i x)) r) (fun i => vc (ix3 0 i l)) (fun i => v (ix2 i l)))
    (Softmax.attend (score Q (fun i x => kc (ix3 0 i x)) r) (score Q (fun i x => k (ix2 i x)) r) (fun _ => 1) (fun _ => 1))

theorem score_a (q0 q1 q2 q3 : FVec Ideal S256x128 .f32) (kc : FVec Ideal S1x512x128 .f32) (r : Fin 1024) (i : Fin 512) :
    k0_pay8 (F := Ideal) q0 q1 q2 q3 kc (ix2 r i) = score (k0_pay6 (F := Ideal) q0 q1 q2 q3) (fun i x => kc (ix3 0 i x)) r i := by
  unfold k0_pay8
  generalize k0_pay6 (F := Ideal) q0 q1 q2 q3 = Q
  pointwise
  rfl

/-- The first group's half of the result: its quotients in the lanes below 64, zeros above. -/
theorem half_a (q0 q1 q2 q3 : FVec Ideal S256x128 .f32) (kc vc : FVec Ideal S1x512x128 .f32) (k v : FVec Ideal S2048x128 .bf16) (r : Fin 1024) (l : Fin 128) :
    k0_pay10 (F := Ideal) (k0_pay6 q0 q1 q2 q3) k0_pay7 (k0_pay8 q0 q1 q2 q3 kc) (k0_pay9 vc) (Scalar.ofBits .bf16 0x3F80#16) k v (ix2 r l)
      = if (l : ℕ) < 64 then ratio (k0_pay6 (F := Ideal) q0 q1 q2 q3) kc vc k v r l else 0 := by
  unfold ratio Softmax.attend
  rw [← funext (score_a q0 q1 q2 q3 kc r), ← Softmax.minus_inf]
  generalize k0_pay8 (F := Ideal) q0 q1 q2 q3 kc = s
  generalize k0_pay6 (F := Ideal) q0 q1 q2 q3 = Q
  pointwise [k0_pay10, k0_pay7, k0_pay9]
  rw [low_lane, show IntOp.cmpi CmpIPredicate.slt (BitVec.ofNat 32 (((l : ℕ) + 128 - 64) % 128)) 64#32 = if ((l : ℕ) + 128 - 64) % 128 < 64 then 1#1 else 0#1 from
    low_lane ⟨((l : ℕ) + 128 - 64) % 128, by omega⟩]
  by_cases h : (l : ℕ) < 64
  · have h' : ¬ ((l : ℕ) + 128 - 64) % 128 < 64 := by omega
    simp only [h, h', if_true, if_false]
    simp [Scalar.select, IntOp.xori]
    rfl
  · simp [h, Scalar.select, IntOp.xori]

/-- The second group's half of the result: its quotients in the lanes from 64, zeros below. -/
theorem half_b (Q : FVec Ideal S1024x128 .bf16) (kc vc : FVec Ideal S1x512x128 .f32) (k v : FVec Ideal S2048x128 .bf16) (r : Fin 1024) (l : Fin 128) :
    k0_pay1 (F := Ideal) k0_pay16 (k0_pay17 Q k0_pay16 kc vc k v) (Scalar.ofBits .f32 0x00000000#32) (ix2 r l)
      = if (l : ℕ) < 64 then 0 else ratio Q kc vc k v r l := by
  unfold ratio Softmax.attend
  rw [← Softmax.minus_inf]
  pointwise [k0_pay1, k0_pay17, k0_pay16]
  rw [low_lane, show IntOp.cmpi CmpIPredicate.slt (BitVec.ofNat 32 (((l : ℕ) + 128 - 64) % 128)) 64#32 = if ((l : ℕ) + 128 - 64) % 128 < 64 then 1#1 else 0#1 from
    low_lane ⟨((l : ℕ) + 128 - 64) % 128, by omega⟩]
  by_cases h : (l : ℕ) < 64
  · simp [h, Scalar.select, IntOp.xori]
  · have h' : ((l : ℕ) + 128 - 64) % 128 < 64 := by omega
    simp only [h, h', if_true, if_false]
    simp [Scalar.select, IntOp.xori]
    rfl

/-- The first group's stacked queries, read from the block's first four slots. -/
theorem stack_a (z : FVec Ideal S256x1024 .f32) (r : Fin 1024) (x : Fin 128) :
    k0_pay6 (F := Ideal) (View.ld z r0_0) (View.ld z r0_1) (View.ld z r0_2) (View.ld z r0_3) (ix2 r x)
      = z (ix2 ⟨(r : ℕ) % 256, by omega⟩ ⟨0 + ((r : ℕ) / 256 * 128 + x), by omega⟩) * scale := by
  have e : ∀ (a a' : Fin 256) (b b' : Fin 1024), (a : ℕ) = a' → (b : ℕ) = b' → z (ix2 a b) * scale = z (ix2 a' b') * scale := by
    intro a a' b b' h h'
    obtain rfl := Fin.ext h
    obtain rfl := Fin.ext h'
    rfl
  pointwise [k0_pay6]
  split
  · exact e _ _ _ _ (by show (r : ℕ) = (r : ℕ) % 256; omega) (by show (x : ℕ) = (r : ℕ) / 256 * 128 + x; omega)
  split
  · exact e _ _ _ _ (by show (r : ℕ) - 256 = (r : ℕ) % 256; omega) (by show 128 + (x : ℕ) = (r : ℕ) / 256 * 128 + x; omega)
  split
  · exact e _ _ _ _ (by show (r : ℕ) - 256 - 256 = (r : ℕ) % 256; omega) (by show 256 + (x : ℕ) = (r : ℕ) / 256 * 128 + x; omega)
  · exact e _ _ _ _ (by show (r : ℕ) - 256 - 256 - 256 = (r : ℕ) % 256; omega) (by show 384 + (x : ℕ) = (r : ℕ) / 256 * 128 + x; omega)

/-- The second group's stacked queries, read from the block's last four slots. -/
theorem stack_b (z : FVec Ideal S256x1024 .f32) (r : Fin 1024) (x : Fin 128) :
    k0_pay15 (F := Ideal) (View.ld z r0_6) (View.ld z r0_7) (View.ld z r0_8) (View.ld z r0_9) (ix2 r x)
      = z (ix2 ⟨(r : ℕ) % 256, by omega⟩ ⟨512 + ((r : ℕ) / 256 * 128 + x), by omega⟩) * scale := by
  have e : ∀ (a a' : Fin 256) (b b' : Fin 1024), (a : ℕ) = a' → (b : ℕ) = b' → z (ix2 a b) * scale = z (ix2 a' b') * scale := by
    intro a a' b b' h h'
    obtain rfl := Fin.ext h
    obtain rfl := Fin.ext h'
    rfl
  pointwise [k0_pay15]
  split
  · exact e _ _ _ _ (by show (r : ℕ) = (r : ℕ) % 256; omega) (by show 512 + (x : ℕ) = 512 + ((r : ℕ) / 256 * 128 + x); omega)
  split
  · exact e _ _ _ _ (by show (r : ℕ) - 256 = (r : ℕ) % 256; omega) (by show 640 + (x : ℕ) = 512 + ((r : ℕ) / 256 * 128 + x); omega)
  split
  · exact e _ _ _ _ (by show (r : ℕ) - 256 - 256 = (r : ℕ) % 256; omega) (by show 768 + (x : ℕ) = 512 + ((r : ℕ) / 256 * 128 + x); omega)
  · exact e _ _ _ _ (by show (r : ℕ) - 256 - 256 - 256 = (r : ℕ) % 256; omega) (by show 896 + (x : ℕ) = 512 + ((r : ℕ) / 256 * 128 + x); omega)

/-- A slot's rows of the stacked result. -/
theorem rows_a0 (Q : FVec Ideal S1024x128 .bf16) (m : IVec S1x128 1) (s : FVec Ideal S1024x512 .f32) (w : FVec Ideal S512x128 .bf16) (o : Ideal .bf16) (k v : FVec Ideal S2048x128 .bf16) (r : Fin 256) (l : Fin 128) :
    k0_pay11 (F := Ideal) Q m s w o k v (ix2 r l) = k0_pay10 (F := Ideal) Q m s w o k v (ix2 ⟨0 + (r : ℕ), by omega⟩ l) := by
  unfold k0_pay11
  generalize k0_pay10 (F := Ideal) Q m s w o k v = T
  pointwise

theorem rows_a1 (Q : FVec Ideal S1024x128 .bf16) (m : IVec S1x128 1) (s : FVec Ideal S1024x512 .f32) (w : FVec Ideal S512x128 .bf16) (o : Ideal .bf16) (k v : FVec Ideal S2048x128 .bf16) (r : Fin 256) (l : Fin 128) :
    k0_pay12 (F := Ideal) Q m s w o k v (ix2 r l) = k0_pay10 (F := Ideal) Q m s w o k v (ix2 ⟨256 + (r : ℕ), by omega⟩ l) := by
  unfold k0_pay12
  generalize k0_pay10 (F := Ideal) Q m s w o k v = T
  pointwise

theorem rows_a2 (T : FVec Ideal S1024x128 .f32) (r : Fin 256) (l : Fin 128) : k0_pay13 (F := Ideal) T (ix2 r l) = T (ix2 ⟨512 + (r : ℕ), by omega⟩ l) := by
  pointwise [k0_pay13]

theorem rows_a3 (T : FVec Ideal S1024x128 .f32) (r : Fin 256) (l : Fin 128) : k0_pay14 (F := Ideal) T (ix2 r l) = T (ix2 ⟨768 + (r : ℕ), by omega⟩ l) := by
  pointwise [k0_pay14]

theorem rows_b0 (m : IVec S1x128 1) (T : FVec Ideal S1024x128 .f32) (o : Ideal .f32) (r : Fin 256) (l : Fin 128) :
    k0_pay2 (F := Ideal) m T o (ix2 r l) = k0_pay1 (F := Ideal) m T o (ix2 ⟨0 + (r : ℕ), by omega⟩ l) := by
  unfold k0_pay2
  generalize k0_pay1 (F := Ideal) m T o = U
  pointwise

theorem rows_b1 (m : IVec S1x128 1) (T : FVec Ideal S1024x128 .f32) (o : Ideal .f32) (r : Fin 256) (l : Fin 128) :
    k0_pay3 (F := Ideal) m T o (ix2 r l) = k0_pay1 (F := Ideal) m T o (ix2 ⟨256 + (r : ℕ), by omega⟩ l) := by
  unfold k0_pay3
  generalize k0_pay1 (F := Ideal) m T o = U
  pointwise

theorem rows_b2 (m : IVec S1x128 1) (T : FVec Ideal S1024x128 .f32) (o : Ideal .f32) (r : Fin 256) (l : Fin 128) :
    k0_pay4 (F := Ideal) m T o (ix2 r l) = k0_pay1 (F := Ideal) m T o (ix2 ⟨512 + (r : ℕ), by omega⟩ l) := by
  unfold k0_pay4
  generalize k0_pay1 (F := Ideal) m T o = U
  pointwise

theorem rows_b3 (m : IVec S1x128 1) (T : FVec Ideal S1024x128 .f32) (o : Ideal .f32) (r : Fin 256) (l : Fin 128) :
    k0_pay5 (F := Ideal) m T o (ix2 r l) = k0_pay1 (F := Ideal) m T o (ix2 ⟨768 + (r : ℕ), by omega⟩ l) := by
  unfold k0_pay5
  generalize k0_pay1 (F := Ideal) m T o = U
  pointwise

end Cert.GqaValue
-- ==== Proof.GqaTiles.lean ====
/-
  How one grid point of the grouped-query attention kernel assembles its block from the groups' results.
-/
module

public import proofs.«01_k».proof.Proof.GqaBlock
public import proofs.«01_k».proof.Proof.Softmax
public import Idealize.ShloMosaic.Lib.Pipeline.ValueKit

@[expose] public section

set_option maxRecDepth 16384

noncomputable section

open Idealize.ShloMosaic Idealize.ShloMosaic.TcCoe Idealize.SL.Sem

namespace Cert.GqaValue

open Cert.GqaIdeal Cert.GqaIdeal.Gen

/-- A slot of the block, from its payload. -/
theorem piece_eq (G : FVec Ideal S256x1024 .bf16) (y : S256x1024.Idx) (x : S256x128.Idx) (P : FVec Ideal S256x128 .bf16) (off : Nat) (ho : off ≤ 896)
    (hP : ∀ (r : Fin 256) (l : Fin 128), P (ix2 r l) = G (ix2 r ⟨off + (l : ℕ), by omega⟩)) (h0 : (y 0 : ℕ) = (x 0 : ℕ)) (h1 : (y 1 : ℕ) = off + (x 1 : ℕ)) :
    P x = G y := by
  have x0 : (x 0 : ℕ) < 256 := (x 0).isLt
  have x1 : (x 1 : ℕ) < 128 := (x 1).isLt
  have hx : x = ix2 (⟨(x 0 : ℕ), x0⟩ : Fin 256) (⟨(x 1 : ℕ), x1⟩ : Fin 128) := funext fun a => by match a with | ⟨0, _⟩ => rfl | ⟨1, _⟩ => rfl
  have hy : ix2 (⟨(x 0 : ℕ), x0⟩ : Fin 256) (⟨off + (x 1 : ℕ), by omega⟩ : Fin 1024) = y := funext fun a => Fin.ext (by
    match a with
    | ⟨0, _⟩ => exact h0.symm
    | ⟨1, _⟩ => exact h1.symm)
  exact (congrArg P hx).trans ((hP ⟨(x 0 : ℕ), x0⟩ ⟨(x 1 : ℕ), x1⟩).trans (congrArg G hy))

/-- The block: each column's slot is a stack of rows of its group's result. -/
theorem tiles (x0 : FVec Ideal S256x1024 .f32) (x1 x2 : FVec Ideal S1x512x128 .f32) (x3 x4 : FVec Ideal S2048x128 .bf16) (y : S256x1024.Idx) (G : FVec Ideal S256x1024 .bf16)
    (ha : ∀ (j : Fin 4) (r : Fin 256) (l : Fin 128), k0_pay22 (F := Ideal) x0 x1 x2 x3 x4 (ix2 ⟨256 * j + (r : ℕ), by omega⟩ l) = G (ix2 r ⟨128 * j + (l : ℕ), by omega⟩))
    (hb : ∀ (j : Fin 4) (r : Fin 256) (l : Fin 128), k0_pay1 (F := Ideal) (k0_pay23 (F := Ideal) x0 x1 x2 x3 x4) (k0_pay24 (F := Ideal) x0 x1 x2 x3 x4) (Scalar.ofBits .f32 0x00000000#32) (ix2 ⟨256 * j + (r : ℕ), by omega⟩ l)
      = G (ix2 r ⟨512 + 128 * j + (l : ℕ), by omega⟩)) :
    out0_5 (F := Ideal) x0 x1 x2 x3 x4 y = G y := by
  canon_tiles x h
  case piece0 => exact piece_eq G y x _ 896 (by omega) (fun r l => (rows_b3 _ _ _ r l).trans (hb 3 r l)) h0 h1
  case piece1 => exact piece_eq G y x _ 768 (by omega) (fun r l => (rows_b2 _ _ _ r l).trans (hb 2 r l)) h0 h1
  case piece2 => exact piece_eq G y x _ 640 (by omega) (fun r l => (rows_b1 _ _ _ r l).trans (hb 1 r l)) h0 h1
  case piece3 => exact piece_eq G y x _ 512 (by omega) (fun r l => (rows_b0 _ _ _ r l).trans (hb 0 r l)) h0 h1
  case piece4 => exact piece_eq G y x _ 384 (by omega) (fun r l => (rows_a3 _ r l).trans (ha 3 r l)) h0 h1
  case piece5 => exact piece_eq G y x _ 256 (by omega) (fun r l => (rows_a2 _ r l).trans (ha 2 r l)) h0 h1
  case piece6 => exact piece_eq G y x _ 128 (by omega) (fun r l => (rows_a1 _ _ _ _ _ _ _ r l).trans (ha 1 r l)) h0 h1
  case piece7 => exact piece_eq G y x _ 0 (by omega) (fun r l => (rows_a0 _ _ _ _ _ _ _ r l).trans (ha 0 r l)) h0 (h1.trans (Nat.zero_add _).symm)

/-- The caches' blocks are loaded whole. -/
theorem load_c (z : Vec Ideal S1x512x128 .f32) (i : Fin 512) (x : Fin 128) : (show Vec Ideal S1x512x128 .f32 from View.ld z r0_4) (ix3 0 i x) = z (ix3 0 i x) := by
  pointwise

/-- The new keys' and values' blocks likewise. -/
theorem load_n (z : Vec Ideal S2048x128 .bf16) (i : Fin 2048) (x : Fin 128) : (show Vec Ideal S2048x128 .bf16 from View.ld z r0_5) (ix2 i x) = z (ix2 i x) := by
  pointwise

end Cert.GqaValue
-- ==== Proof.GqaRef.lean ====
/-
  What the grouped-query attention's reference computes, element by element.
-/
module

public import proofs.«01_k».proof.Proof.Gen.GqaRefIdeal.Read
public import proofs.«01_k».proof.Proof.Softmax
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.GqaValue

open Cert.GqaRefIdeal Cert.GqaRefIdeal.Gen Cert.GqaRefIdeal.Read

/-- The joined keys or values of a query head: the cached ones, then the new ones, of the head's group. -/
theorem joined_apply (k : FVec Ideal S8x2048x2x64 .f32) (kc : FVec Ideal S8x512x2x64 .f32) (b : Fin 8) (j : Fin 2560) (h : Fin 8) (x : Fin 64) :
    val_main_v2 (F := Ideal) k kc (ix4 b j h x) = if c : (j : ℕ) < 512 then kc (ix4 b ⟨j, c⟩ ⟨(h : ℕ) / 4, by omega⟩ x)
      else k (ix4 b ⟨(j : ℕ) - 512, by omega⟩ ⟨(h : ℕ) / 4, by omega⟩ x) := by
  rw [val_main_v2_apply, val_main_v1_apply]
  have e : idx_main_v1 (idx_main_v2 (ix4 b j h x)) = ix4 b j ⟨(h : ℕ) / 4, by omega⟩ x := funext fun a => Fin.ext (by
    match a with
    | ⟨0, _⟩ => show ((((b : ℕ) * 2560 + (j : ℕ)) * 8 + (h : ℕ)) * 64 + (x : ℕ)) / 1310720 = (b : ℕ); omega
    | ⟨1, _⟩ => show ((((b : ℕ) * 2560 + (j : ℕ)) * 8 + (h : ℕ)) * 64 + (x : ℕ)) / 512 % 2560 = (j : ℕ); omega
    | ⟨2, _⟩ => show ((((b : ℕ) * 2560 + (j : ℕ)) * 8 + (h : ℕ)) * 64 + (x : ℕ)) / 256 % 2 = (h : ℕ) / 4; omega
    | ⟨3, _⟩ => show ((((b : ℕ) * 2560 + (j : ℕ)) * 8 + (h : ℕ)) * 64 + (x : ℕ)) % 64 = (x : ℕ); omega)
  rw [e]
  pointwise [val_main_v0]

theorem joined_val (v : FVec Ideal S8x2048x2x64 .f32) (vc : FVec Ideal S8x512x2x64 .f32) (b : Fin 8) (j : Fin 2560) (h : Fin 8) (x : Fin 64) :
    val_main_v5 (F := Ideal) v vc (ix4 b j h x) = if c : (j : ℕ) < 512 then vc (ix4 b ⟨j, c⟩ ⟨(h : ℕ) / 4, by omega⟩ x)
      else v (ix4 b ⟨(j : ℕ) - 512, by omega⟩ ⟨(h : ℕ) / 4, by omega⟩ x) :=
  joined_apply v vc b j h x

/-- A score of the reference: the inner product of a query and a key over the root of their length. -/
theorem ref_score (q : FVec Ideal S8x2048x8x64 .f32) (k : FVec Ideal S8x2048x2x64 .f32) (kc : FVec Ideal S8x512x2x64 .f32) (b h : Fin 8) (r : Fin 2048) (j : Fin 2560) :
    val_main_v9 (F := Ideal) q k kc (ix4 b h r j) = Ideal.div
      (∑ x : Fin 64, q (ix4 b r h x) * if c : (j : ℕ) < 512 then kc (ix4 b ⟨j, c⟩ ⟨(h : ℕ) / 4, by omega⟩ x) else k (ix4 b ⟨(j : ℕ) - 512, by omega⟩ ⟨(h : ℕ) / 4, by omega⟩ x))
      (Ideal.sqrt (Ideal.ofBits .f32 0x42800000#32)) := by
  rw [← Finset.sum_congr rfl fun x _ => congrArg (q (ix4 b r h x) * ·) (joined_apply k kc b j h x)]
  unfold val_main_v9 val_main_v6
  generalize val_main_v2 (F := Ideal) k kc = g
  pointwise [val_main_v8, val_main_v7, val_main_cst]

/-- The largest score of a query. -/
theorem ref_max (q : FVec Ideal S8x2048x8x64 .f32) (k : FVec Ideal S8x2048x2x64 .f32) (kc : FVec Ideal S8x512x2x64 .f32) (b h : Fin 8) (r : Fin 2048) :
    val_main_v10 (F := Ideal) q k kc (ix3 b h r) = Finset.univ.fold max (Ideal.ofBits .f32 0xFF800000#32) fun x => val_main_v9 (F := Ideal) q k kc (ix4 b h r x) := by
  unfold val_main_v10
  exact Cert.Softmax.reduce_max _ _ _ _ b h r

/-- The constant under the root is 64. -/
theorem sixty_four : Ideal.ofBits .f32 0x42800000#32 = ((64 : ℝ) : EReal) := by
  simp [Ideal.ofBits, Ideal.ieee]
  norm_num
  rw [← EReal.coe_mul]
  norm_num

/-- Heads laid in slots of 128 lanes: the first group's in the lower 64, the second group's in the upper 64, zeros beside them. -/
theorem slots_apply (z : FVec Ideal S8x2048x8x64 .f32) (r : Fin 16384) (y : Fin 1024) :
    shapeCast S16384x1024 (concatenate S8x2048x8x128 2
        [⟨S8x2048x4x128, pad S8x2048x4x128 ![0, 0, 0, 0] ![0, 0, 0, 64] ![0, 0, 0, 0] (extractStridedSlice S8x2048x4x64 ![0, 0, 0, 0] z slices_S8x2048x8x64_S8x2048x4x64_0_0_0_0)
          (sitofp (F := Ideal) .f32 (constantI S_ 32 0#32)) pads_S8x2048x4x64_S8x2048x4x128_000_000_000_0640 h_S_⟩,
        ⟨S8x2048x4x128, pad S8x2048x4x128 ![0, 0, 0, 64] ![0, 0, 0, 0] ![0, 0, 0, 0] (extractStridedSlice S8x2048x4x64 ![0, 0, 4, 0] z slices_S8x2048x8x64_S8x2048x4x64_0_0_4_0)
          (sitofp (F := Ideal) .f32 (constantI S_ 32 0#32)) pads_S8x2048x4x64_S8x2048x4x128_000_000_000_6400 h_S_⟩]
        concatenates_S8x2048x4x128_S8x2048x4x128_S8x2048x8x128_d2) shapeCasts_S8x2048x8x128_S16384x1024 (ix2 r y)
      = if (y : ℕ) % 128 / 64 = (y : ℕ) / 512 then z (ix4 ⟨(r : ℕ) / 2048, by omega⟩ ⟨(r : ℕ) % 2048, by omega⟩ ⟨(y : ℕ) / 128, by omega⟩ ⟨(y : ℕ) % 64, by omega⟩) else 0 := by
  pointwise
  by_cases h : (y : ℕ) / 128 < 4
  · refine (dif_pos h).trans ?_
    by_cases h' : (y : ℕ) % 128 < 64
    · have c : (y : ℕ) % 128 / 64 = (y : ℕ) / 512 := by omega
      refine (dif_pos ⟨by omega, by omega, h, h'⟩).trans (Eq.trans ?_ (if_pos c).symm)
      exact congrArg z (congrArg (ix4 _ _ _) (Fin.ext (by show (y : ℕ) % 128 = (y : ℕ) % 64; omega)))
    · have c : ¬ (y : ℕ) % 128 / 64 = (y : ℕ) / 512 := by omega
      refine (dif_neg (fun c => h' c.2.2.2)).trans (Eq.trans ?_ (if_neg c).symm)
      show (((0#32 : BitVec 32).toInt : ℝ) : EReal) = 0
      simp
  · refine (dif_neg h).trans ?_
    by_cases h' : (y : ℕ) % 128 < 64
    · have c : ¬ (y : ℕ) % 128 / 64 = (y : ℕ) / 512 := by omega
      refine (dif_neg (fun c => absurd c.2.2.2.1 (by omega))).trans (Eq.trans ?_ (if_neg c).symm)
      show (((0#32 : BitVec 32).toInt : ℝ) : EReal) = 0
      simp
    · have c : (y : ℕ) % 128 / 64 = (y : ℕ) / 512 := by omega
      refine (dif_pos ⟨by omega, by omega, by omega, by omega, by omega⟩).trans (Eq.trans ?_ (if_pos c).symm)
      exact congrArg z (congrArg₂ (ix4 _ _) (Fin.ext (by show 4 + ((y : ℕ) / 128 - 4) = (y : ℕ) / 128; omega))
        (Fin.ext (by show (y : ℕ) % 128 - 64 = (y : ℕ) % 64; omega)))

section Real

variable (q : S8x2048x8x64.Idx → ℝ) (k : S8x2048x2x64.Idx → ℝ) (kc : S8x512x2x64.Idx → ℝ) (v : FVec Ideal S8x2048x2x64 .f32) (vc : FVec Ideal S8x512x2x64 .f32)

/-- The score of a query against a cached key of its head's group. -/
def cached (b h : Fin 8) (r : Fin 2048) (i : Fin 512) : ℝ :=
  (∑ x : Fin 64, q (ix4 b r h x) * kc (ix4 b i ⟨(h : ℕ) / 4, by omega⟩ x)) / Real.sqrt 64

/-- The score of a query against a new key of its head's group. -/
def fresh (b h : Fin 8) (r : Fin 2048) (i : Fin 2048) : ℝ :=
  (∑ x : Fin 64, q (ix4 b r h x) * k (ix4 b i ⟨(h : ℕ) / 4, by omega⟩ x)) / Real.sqrt 64

/-- The values, weighted by the softmax of the scores. -/
def mixed (b h : Fin 8) (r : Fin 2048) (d : Fin 64) : EReal :=
  (∑ i, (Softmax.weight (cached q kc b h r) (fresh q k b h r) (cached q kc b h r i) : EReal) * vc (ix4 b i ⟨(h : ℕ) / 4, by omega⟩ d))
    + ∑ i, (Softmax.weight (cached q kc b h r) (fresh q k b h r) (fresh q k b h r i) : EReal) * v (ix4 b i ⟨(h : ℕ) / 4, by omega⟩ d)

/-- The joined scores: against the cached keys, then the new ones. -/
def scores (b h : Fin 8) (r : Fin 2048) (j : Fin 2560) : ℝ :=
  if c : (j : ℕ) < 512 then cached q kc b h r ⟨j, c⟩ else fresh q k b h r ⟨(j : ℕ) - 512, by omega⟩

theorem scores_eq (b : Fin 8) (h : Fin 8) (r : Fin 2048) (j : Fin 2560) :
    val_main_v9 (F := Ideal) (fun i => (q i : EReal)) (fun i => (k i : EReal)) (fun i => (kc i : EReal)) (ix4 b h r j) = (scores q k kc b h r j : EReal) := by
  have h64 : (0 : ℝ) < Real.sqrt 64 := Real.sqrt_pos.mpr (by norm_num)
  rw [ref_score, sixty_four, Ideal.sqrt_coe, if_neg (by norm_num), Softmax.div_pos _ _ h64]
  unfold scores
  split
  · rw [cached, div_eq_inv_mul, EReal.coe_mul, ← Softmax.coe_sum]
    simp only [EReal.coe_mul]
  · rw [fresh, div_eq_inv_mul, EReal.coe_mul, ← Softmax.coe_sum]
    simp only [EReal.coe_mul]

theorem weight_eq (b : Fin 8) (h : Fin 8) (r : Fin 2048) (j : Fin 2560) :
    val_main_v20 (F := Ideal) (fun i => (q i : EReal)) (fun i => (k i : EReal)) (fun i => (kc i : EReal)) (ix4 b h r j)
      = (Softmax.weight (cached q kc b h r) (fresh q k b h r) (scores q k kc b h r j) : EReal) := by
  have hm : val_main_v12 (F := Ideal) (fun i => (q i : EReal)) (fun i => (k i : EReal)) (fun i => (kc i : EReal)) (ix3 b h r)
      = max ⊥ (Finset.univ.fold max ⊥ fun x => (scores q k kc b h r x : EReal)) := by
    rw [val_main_v12_apply, ref_max, Softmax.minus_inf]
    simp only [scores_eq]
    rw [← Softmax.minus_inf]
    rfl
  have he : ∀ x : Fin 2560, val_main_v16 (F := Ideal) (fun i => (q i : EReal)) (fun i => (k i : EReal)) (fun i => (kc i : EReal)) (ix4 b h r x)
      = Ideal.exp ((scores q k kc b h r x : EReal) - max ⊥ (Finset.univ.fold max ⊥ fun x => (scores q k kc b h r x : EReal))) := by
    intro x
    rw [val_main_v16_apply, val_main_v15_apply, val_main_v14_apply, val_main_v13_apply, ← hm, ← scores_eq]
    generalize val_main_v12 (F := Ideal) (fun i => (q i : EReal)) (fun i => (k i : EReal)) (fun i => (kc i : EReal)) = g
    generalize val_main_v9 (F := Ideal) (fun i => (q i : EReal)) (fun i => (k i : EReal)) (fun i => (kc i : EReal)) = s
    exact congrArg Ideal.exp (congrArg (_ - ·) (congrArg _ (funext fun a => Fin.ext (by match a with | ⟨0, _⟩ => rfl | ⟨1, _⟩ => rfl | ⟨2, _⟩ => rfl))))
  have hs : val_main_v19 (F := Ideal) (fun i => (q i : EReal)) (fun i => (k i : EReal)) (fun i => (kc i : EReal)) (ix4 b h r j)
      = ∑ x, val_main_v16 (F := Ideal) (fun i => (q i : EReal)) (fun i => (k i : EReal)) (fun i => (kc i : EReal)) (ix4 b h r x) := by
    rw [val_main_v19_apply, val_main_v18_apply, val_main_v17_apply, val_main_cst_2_apply]
    generalize hg : val_main_v16 (F := Ideal) (fun i => (q i : EReal)) (fun i => (k i : EReal)) (fun i => (kc i : EReal)) = g
    have hz : (FloatOps.ofBits .f32 0x00000000#32 : Ideal .f32) = (0 : EReal) := Ideal.ofBits_zero_f32
    rw [hz]
    refine (zero_add _).trans (Finset.sum_congr rfl fun x _ => ?_)
    exact congrArg _ (funext fun a => Fin.ext (by match a with | ⟨0, _⟩ => rfl | ⟨1, _⟩ => rfl | ⟨2, _⟩ => rfl | ⟨3, _⟩ => rfl))
  rw [val_main_v20_apply, hs]
  simp only [he]
  refine (Softmax.softmax_eq (scores q k kc b h r) j).trans ?_
  rw [Softmax.weight, Softmax.sum_joined 512 2048 rfl]
  have e0 : ∀ i : Fin 512, scores q k kc b h r ⟨i, by omega⟩ = cached q kc b h r i := fun i => by
    rw [scores, dif_pos i.isLt]
  have e1 : ∀ i : Fin 2048, scores q k kc b h r ⟨512 + i, by omega⟩ = fresh q k b h r i := fun i => by
    rw [scores, dif_neg (by simp)]
    exact congrArg _ (Fin.ext (by simp))
  simp only [e0, e1]

/-- The reference's result: each row a batch element and a query, each column a head's slot and a lane. -/
theorem ref_out (i : S16384x1024.Idx) :
    val_main_v29 (F := Ideal) (fun i => (q i : EReal)) (fun i => (k i : EReal)) v (fun i => (kc i : EReal)) vc i
      = if (i 1 : ℕ) % 128 / 64 = (i 1 : ℕ) / 512 then
          mixed q k kc v vc ⟨(i 0 : ℕ) / 2048, by have := (i 0).isLt; simp at this; omega⟩ ⟨(i 1 : ℕ) / 128, by have := (i 1).isLt; simp at this; omega⟩
            ⟨(i 0 : ℕ) % 2048, by omega⟩ ⟨(i 1 : ℕ) % 64, by omega⟩
        else 0 := by
  idx_vars i
  have hl : ∀ (b h : Fin 8) (d : Fin 64) (r : Fin 2048) (x : Fin 2560), lidx_main_v21 (ix4 b h d r) x = ix4 b x h d := fun b h d r x =>
    funext fun a => Fin.ext (by match a with | ⟨0, _⟩ => rfl | ⟨1, _⟩ => rfl | ⟨2, _⟩ => rfl | ⟨3, _⟩ => rfl)
  have hr : ∀ (b h : Fin 8) (d : Fin 64) (r : Fin 2048) (x : Fin 2560), ridx_main_v21 (ix4 b h d r) x = ix4 b h r x := fun b h d r x =>
    funext fun a => Fin.ext (by match a with | ⟨0, _⟩ => rfl | ⟨1, _⟩ => rfl | ⟨2, _⟩ => rfl | ⟨3, _⟩ => rfl)
  have hm : ∀ (b : Fin 8) (r : Fin 2048) (h : Fin 8) (d : Fin 64),
      val_main_v22 (F := Ideal) (fun i => (q i : EReal)) (fun i => (k i : EReal)) v (fun i => (kc i : EReal)) vc (ix4 b r h d) = mixed q k kc v vc b h r d := by
    intro b r h d
    rw [val_main_v22_apply, val_main_v21_apply]
    have hi : idx_main_v22 (ix4 b r h d) = ix4 b h d r :=
      funext fun a => Fin.ext (by match a with | ⟨0, _⟩ => rfl | ⟨1, _⟩ => rfl | ⟨2, _⟩ => rfl | ⟨3, _⟩ => rfl)
    rw [hi]
    show (∑ x : Fin 2560, _) = _
    simp only [hl, hr, joined_val, weight_eq]
    rw [Softmax.sum_joined 512 2048 rfl]
    refine congrArg₂ (· + ·) (Finset.sum_congr rfl fun x _ => ?_) (Finset.sum_congr rfl fun x _ => ?_)
    · rw [dif_pos x.isLt, mul_comm, scores, dif_pos x.isLt]
    · rw [dif_neg (by simp), mul_comm, scores, dif_neg (by simp)]
      simp only [Nat.add_sub_cancel_left]
  rw [val_main_v29_apply]
  unfold val_main_v28 val_main_v27 val_main_v26 val_main_v25 val_main_v24 val_main_v23
  refine Eq.trans ?_ ((slots_apply (val_main_v22 (F := Ideal) (fun i => (q i : EReal)) (fun i => (k i : EReal)) v (fun i => (kc i : EReal)) vc) i0 i1).trans ?_)
  · generalize val_main_v22 (F := Ideal) (fun i => (q i : EReal)) (fun i => (k i : EReal)) v (fun i => (kc i : EReal)) vc = z
    rfl
  · rw [hm]
    rfl

end Real

end Cert.GqaValue
-- ==== Proof.GqaArray.lean ====
/-
  What the grouped-query attention kernel's result array holds after its run.
-/
module

public import proofs.«01_k».proof.Proof.GqaTiles
public import proofs.«01_k».proof.Proof.GqaRef
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GqaValue

open Cert.GqaIdeal Cert.GqaIdeal.Gen

variable (m : (ℓ : Loc nD τ sig) → Buf (Elt Ideal) ℓ)

/-- Where each window's block lies, in the point's number. -/
theorem idx : ∀ t : Fin cfg0.N, win0_0.index t = ![t.val, 0] ∧ win0_1.index t = ![t.val / 8, 0, 0] ∧ win0_2.index t = ![t.val / 8, 0, 0]
    ∧ win0_3.index t = ![t.val / 8, 0] ∧ win0_4.index t = ![t.val / 8, 0] ∧ win0_5.index t = ![t.val, 0] :=
  (by decide +kernel : ∀ t : Fin grid0.N, _)

theorem points (t : Fin cfg0.N) : t.val < 64 := t.isLt

/-- The queries as the call takes them: a slot of 128 lanes per head, the head's 64 in its group's half. -/
theorem entry_q (c : Dev nD) (r : Fin 16384) (x : Fin 1024) :
    (show FVec Ideal S16384x1024 .f32 from V m c main_v5) (ix2 r x)
      = if (x : ℕ) % 128 / 64 = (x : ℕ) / 512 then (show FVec Ideal S8x2048x8x64 .f32 from m ((c : Thread nD τ).loc main_arg0)) (ix4 ⟨(r : ℕ) / 2048, by omega⟩ ⟨(r : ℕ) % 2048, by omega⟩ ⟨(x : ℕ) / 128, by omega⟩ ⟨(x : ℕ) % 64, by omega⟩) else 0 := by
  simp only [V, hostOps0, hostOps0_1, hostOps0_2, hostOps0_3, hostOps0_4, List.flatten_cons, List.flatten_nil, List.append_nil, List.cons_append, List.nil_append]
  entry_read
  exact slots_apply _ r x

/-- The cached keys as the call takes them: the two groups' lanes side by side. -/
theorem entry_kc (c : Dev nD) (b : Fin 8) (r : Fin 512) (x : Fin 128) :
    (show FVec Ideal S8x512x128 .f32 from V m c main_v6) (ix3 b r x)
      = (show FVec Ideal S8x512x2x64 .f32 from m ((c : Thread nD τ).loc main_arg3)) (ix4 b r ⟨(x : ℕ) / 64, by omega⟩ ⟨(x : ℕ) % 64, by omega⟩) := by
  simp only [V, hostOps0, hostOps0_1, hostOps0_2, hostOps0_3, hostOps0_4, List.flatten_cons, List.flatten_nil, List.append_nil, List.cons_append, List.nil_append]
  entry_read
  pointwise

/-- The cached values, likewise. -/
theorem entry_vc (c : Dev nD) (b : Fin 8) (r : Fin 512) (x : Fin 128) :
    (show FVec Ideal S8x512x128 .f32 from V m c main_v7) (ix3 b r x)
      = (show FVec Ideal S8x512x2x64 .f32 from m ((c : Thread nD τ).loc main_arg4)) (ix4 b r ⟨(x : ℕ) / 64, by omega⟩ ⟨(x : ℕ) % 64, by omega⟩) := by
  simp only [V, hostOps0, hostOps0_1, hostOps0_2, hostOps0_3, hostOps0_4, List.flatten_cons, List.flatten_nil, List.append_nil, List.cons_append, List.nil_append]
  entry_read
  pointwise

/-- The new keys, likewise. -/
theorem entry_k (c : Dev nD) (r : Fin 16384) (x : Fin 128) :
    (show FVec Ideal S16384x128 .bf16 from V m c main_v9) (ix2 r x)
      = (show FVec Ideal S8x2048x2x64 .f32 from m ((c : Thread nD τ).loc main_arg1)) (ix4 ⟨(r : ℕ) / 2048, by omega⟩ ⟨(r : ℕ) % 2048, by omega⟩ ⟨(x : ℕ) / 64, by omega⟩ ⟨(x : ℕ) % 64, by omega⟩) := by
  simp only [V, hostOps0, hostOps0_1, hostOps0_2, hostOps0_3, hostOps0_4, List.flatten_cons, List.flatten_nil, List.append_nil, List.cons_append, List.nil_append]
  entry_read
  pointwise

/-- The new values, likewise. -/
theorem entry_v (c : Dev nD) (r : Fin 16384) (x : Fin 128) :
    (show FVec Ideal S16384x128 .bf16 from V m c main_v11) (ix2 r x)
      = (show FVec Ideal S8x2048x2x64 .f32 from m ((c : Thread nD τ).loc main_arg2)) (ix4 ⟨(r : ℕ) / 2048, by omega⟩ ⟨(r : ℕ) % 2048, by omega⟩ ⟨(x : ℕ) / 64, by omega⟩ ⟨(x : ℕ) % 64, by omega⟩) := by
  simp only [V, hostOps0, hostOps0_1, hostOps0_2, hostOps0_3, hostOps0_4, List.flatten_cons, List.flatten_nil, List.append_nil, List.cons_append, List.nil_append]
  entry_read
  pointwise

/-- The query block of a point. -/
theorem blk_q (c : Dev nD) (t : Fin cfg0.N) (r : Fin 256) (x : Fin 1024) :
    (show FVec Ideal S256x1024 .f32 from iblk m c 0 t) (ix2 r x)
      = (show FVec Ideal S16384x1024 .f32 from V m c main_v5) (ix2 ⟨t.val * 256 + r, by have := points t; omega⟩ x) := by
  generalize hv : (show FVec Ideal S16384x1024 .f32 from V m c main_v5) = v
  blk_point [iblk, hv, idx t]

/-- The cached keys' block. -/
theorem blk_kc (c : Dev nD) (t : Fin cfg0.N) (r : Fin 512) (x : Fin 128) :
    (show FVec Ideal S1x512x128 .f32 from iblk m c 1 t) (ix3 0 r x)
      = (show FVec Ideal S8x512x128 .f32 from V m c main_v6) (ix3 ⟨t.val / 8, by have := points t; omega⟩ r x) := by
  generalize hv : (show FVec Ideal S8x512x128 .f32 from V m c main_v6) = v
  blk_point [iblk, hv, idx t]

/-- The cached values' block. -/
theorem blk_vc (c : Dev nD) (t : Fin cfg0.N) (r : Fin 512) (x : Fin 128) :
    (show FVec Ideal S1x512x128 .f32 from iblk m c 2 t) (ix3 0 r x)
      = (show FVec Ideal S8x512x128 .f32 from V m c main_v7) (ix3 ⟨t.val / 8, by have := points t; omega⟩ r x) := by
  generalize hv : (show FVec Ideal S8x512x128 .f32 from V m c main_v7) = v
  blk_point [iblk, hv, idx t]

/-- The new keys' block. -/
theorem blk_k (c : Dev nD) (t : Fin cfg0.N) (r : Fin 2048) (x : Fin 128) :
    (show FVec Ideal S2048x128 .bf16 from iblk m c 3 t) (ix2 r x)
      = (show FVec Ideal S16384x128 .bf16 from V m c main_v9) (ix2 ⟨t.val / 8 * 2048 + r, by have := points t; omega⟩ x) := by
  generalize hv : (show FVec Ideal S16384x128 .bf16 from V m c main_v9) = v
  blk_point [iblk, hv, idx t]

/-- The new values' block. -/
theorem blk_v (c : Dev nD) (t : Fin cfg0.N) (r : Fin 2048) (x : Fin 128) :
    (show FVec Ideal S2048x128 .bf16 from iblk m c 4 t) (ix2 r x)
      = (show FVec Ideal S16384x128 .bf16 from V m c main_v11) (ix2 ⟨t.val / 8 * 2048 + r, by have := points t; omega⟩ x) := by
  generalize hv : (show FVec Ideal S16384x128 .bf16 from V m c main_v11) = v
  blk_point [iblk, hv, idx t]

/-- A sum over the lanes of one half of a slot. -/
theorem half_sum (g : Fin 2) (f : Fin 64 → EReal) :
    (∑ x : Fin 128, if (x : ℕ) / 64 = g then f ⟨(x : ℕ) % 64, by omega⟩ else 0) = ∑ x : Fin 64, f x := by
  rw [Softmax.sum_joined 64 64 rfl]
  have e0 : ∀ x : Fin 64, (x : ℕ) / 64 = 0 := fun x => by omega
  have e1 : ∀ x : Fin 64, (64 + (x : ℕ)) / 64 = 1 := fun x => by omega
  have e2 : ∀ x : Fin 64, (x : ℕ) % 64 = x := fun x => by omega
  have e3 : ∀ x : Fin 64, (64 + (x : ℕ)) % 64 = x := fun x => by omega
  simp only [e0, e1, e2, e3]
  have hg : (g : ℕ) = 0 ∨ (g : ℕ) = 1 := by omega
  rcases hg with h | h <;> simp [h]

/-- A score over a slot of which one half is the head's: the inner product of the 64 lanes over the root of their number, in base two. -/
theorem score_real {n : Nat} (Q : FVec Ideal S1024x128 .bf16) (K : Fin n → Fin 128 → EReal) (g : Fin 2) (r : Fin 1024) (i : Fin n)
    (a b : Fin 64 → ℝ) (hq : ∀ x : Fin 128, Q (ix2 r x) = (if (x : ℕ) / 64 = g then (a ⟨(x : ℕ) % 64, by omega⟩ : EReal) else 0) * scale)
    (hk : ∀ x : Fin 128, (x : ℕ) / 64 = g → K i x = (b ⟨(x : ℕ) % 64, by omega⟩ : EReal)) :
    score Q K r i = (((∑ x, a x * b x) / Real.sqrt 64 / Real.log 2 : ℝ) : EReal) := by
  have hsc : scale = (((Real.sqrt 64)⁻¹ * (Real.log 2)⁻¹ : ℝ) : EReal) := rfl
  have term : ∀ x : Fin 128, Q (ix2 r x) * K i x = if (x : ℕ) / 64 = g then
      (fun y : Fin 64 => ((a y * b y * ((Real.sqrt 64)⁻¹ * (Real.log 2)⁻¹) : ℝ) : EReal)) ⟨(x : ℕ) % 64, by omega⟩ else 0 := by
    intro x
    rw [hq, hsc]
    by_cases h : (x : ℕ) / 64 = g
    · rw [if_pos h, if_pos h, hk x h, ← EReal.coe_mul, ← EReal.coe_mul]
      congr 1
      ring
    · rw [if_neg h, if_neg h, zero_mul, zero_mul]
  unfold score
  simp only [term]
  rw [half_sum g fun y : Fin 64 => ((a y * b y * ((Real.sqrt 64)⁻¹ * (Real.log 2)⁻¹) : ℝ) : EReal), Softmax.coe_sum, ← Finset.sum_mul]
  congr 1
  rw [div_eq_mul_inv, div_eq_mul_inv, mul_assoc]

section Final

variable (q : S8x2048x8x64.Idx → ℝ) (k : S8x2048x2x64.Idx → ℝ) (kc : S8x512x2x64.Idx → ℝ) (c : Dev nD)
  (hq : (show FVec Ideal S8x2048x8x64 .f32 from m ((c : Thread nD τ).loc main_arg0)) = fun i => (q i : EReal))
  (hk : (show FVec Ideal S8x2048x2x64 .f32 from m ((c : Thread nD τ).loc main_arg1)) = fun i => (k i : EReal))
  (hkc : (show FVec Ideal S8x512x2x64 .f32 from m ((c : Thread nD τ).loc main_arg3)) = fun i => (kc i : EReal))

include hq in
/-- A point's query lanes, per slot of a group. -/
theorem lanes_q (t : Fin cfg0.N) (g : Fin 2) (r : Fin 1024) (x : Fin 128) (e : Fin 1024) (he : (e : ℕ) = 512 * g + ((r : ℕ) / 256 * 128 + x)) :
    (show FVec Ideal S256x1024 .f32 from iblk m c 0 t) (ix2 ⟨(r : ℕ) % 256, by omega⟩ e)
      = if (x : ℕ) / 64 = g then (q (ix4 ⟨t.val / 8, by have := points t; omega⟩ ⟨t.val % 8 * 256 + (r : ℕ) % 256, by omega⟩ ⟨4 * (g : ℕ) + (r : ℕ) / 256, by omega⟩ ⟨(x : ℕ) % 64, by omega⟩) : EReal) else 0 := by
  have ht := points t
  have e1 : (e : ℕ) % 128 / 64 = (x : ℕ) / 64 := by omega
  have e2 : (e : ℕ) / 512 = g := by omega
  have e3 : (e : ℕ) / 128 = 4 * (g : ℕ) + (r : ℕ) / 256 := by omega
  have e4 : (e : ℕ) % 64 = (x : ℕ) % 64 := by omega
  have e5 : (t.val * 256 + (r : ℕ) % 256) / 2048 = t.val / 8 := by omega
  have e6 : (t.val * 256 + (r : ℕ) % 256) % 2048 = t.val % 8 * 256 + (r : ℕ) % 256 := by omega
  rw [blk_q, entry_q, hq]
  simp only [e1, e2, e3, e4, e5, e6]

include hk in
/-- A point's new keys. -/
theorem lanes_k (t : Fin cfg0.N) (g : Fin 2) (r : Fin 2048) (x : Fin 128) (h : (x : ℕ) / 64 = g) :
    (show FVec Ideal S2048x128 .bf16 from iblk m c 3 t) (ix2 r x)
      = (k (ix4 ⟨t.val / 8, by have := points t; omega⟩ r g ⟨(x : ℕ) % 64, by omega⟩) : EReal) := by
  have ht := points t
  have e5 : (t.val / 8 * 2048 + (r : ℕ)) / 2048 = t.val / 8 := by omega
  have e6 : (t.val / 8 * 2048 + (r : ℕ)) % 2048 = r := by omega
  rw [blk_k, entry_k, hk]
  simp only [e5, e6, h]

include hkc in
/-- A point's cached keys. -/
theorem lanes_kc (t : Fin cfg0.N) (g : Fin 2) (r : Fin 512) (x : Fin 128) (h : (x : ℕ) / 64 = g) :
    (show FVec Ideal S1x512x128 .f32 from iblk m c 1 t) (ix3 0 r x)
      = (kc (ix4 ⟨t.val / 8, by have := points t; omega⟩ r g ⟨(x : ℕ) % 64, by omega⟩) : EReal) := by
  rw [blk_kc, entry_kc, hkc]
  simp only [h]

/-- A point's new values. -/
theorem lanes_v (t : Fin cfg0.N) (g : Fin 2) (r : Fin 2048) (x : Fin 128) (h : (x : ℕ) / 64 = g) :
    (show FVec Ideal S2048x128 .bf16 from iblk m c 4 t) (ix2 r x)
      = (show FVec Ideal S8x2048x2x64 .f32 from m ((c : Thread nD τ).loc main_arg2)) (ix4 ⟨t.val / 8, by have := points t; omega⟩ r g ⟨(x : ℕ) % 64, by omega⟩) := by
  have ht := points t
  have e5 : (t.val / 8 * 2048 + (r : ℕ)) / 2048 = t.val / 8 := by omega
  have e6 : (t.val / 8 * 2048 + (r : ℕ)) % 2048 = r := by omega
  rw [blk_v, entry_v]
  simp only [e5, e6, h]

/-- A point's cached values. -/
theorem lanes_vc (t : Fin cfg0.N) (g : Fin 2) (r : Fin 512) (x : Fin 128) (h : (x : ℕ) / 64 = g) :
    (show FVec Ideal S1x512x128 .f32 from iblk m c 2 t) (ix3 0 r x)
      = (show FVec Ideal S8x512x2x64 .f32 from m ((c : Thread nD τ).loc main_arg4)) (ix4 ⟨t.val / 8, by have := points t; omega⟩ r g ⟨(x : ℕ) % 64, by omega⟩) := by
  rw [blk_vc, entry_vc]
  simp only [h]

include hq hk hkc in
/-- One head's quotient at a point, from arrays that read the point's blocks. -/
theorem head_eq (t : Fin cfg0.N) (g : Fin 2) (r : Fin 1024) (l : Fin 128) (hl : (l : ℕ) / 64 = g) (Q : FVec Ideal S1024x128 .bf16)
    (ka va : FVec Ideal S1x512x128 .f32) (kb vb : FVec Ideal S2048x128 .bf16)
    (hQ : ∀ x : Fin 128, Q (ix2 r x) = (show FVec Ideal S256x1024 .f32 from iblk m c 0 t) (ix2 ⟨(r : ℕ) % 256, by omega⟩ ⟨512 * (g : ℕ) + ((r : ℕ) / 256 * 128 + x), by omega⟩) * scale)
    (hka : ∀ i x, ka (ix3 0 i x) = (show FVec Ideal S1x512x128 .f32 from iblk m c 1 t) (ix3 0 i x))
    (hva : ∀ i x, va (ix3 0 i x) = (show FVec Ideal S1x512x128 .f32 from iblk m c 2 t) (ix3 0 i x))
    (hkb : ∀ i x, kb (ix2 i x) = (show FVec Ideal S2048x128 .bf16 from iblk m c 3 t) (ix2 i x))
    (hvb : ∀ i x, vb (ix2 i x) = (show FVec Ideal S2048x128 .bf16 from iblk m c 4 t) (ix2 i x)) :
    ratio Q ka va kb vb r l
      = mixed q k kc (m ((c : Thread nD τ).loc main_arg2)) (m ((c : Thread nD τ).loc main_arg4)) ⟨t.val / 8, by have := points t; omega⟩
          ⟨4 * (g : ℕ) + (r : ℕ) / 256, by omega⟩ ⟨t.val % 8 * 256 + (r : ℕ) % 256, by omega⟩ ⟨(l : ℕ) % 64, by omega⟩ := by
  have hg : (⟨(4 * (g : ℕ) + (r : ℕ) / 256) / 4, by omega⟩ : Fin 2) = g := Fin.ext (by show (4 * (g : ℕ) + (r : ℕ) / 256) / 4 = g; omega)
  have hQ' : ∀ x : Fin 128, Q (ix2 r x) = (if (x : ℕ) / 64 = g then (q (ix4 ⟨t.val / 8, by have := points t; omega⟩ ⟨t.val % 8 * 256 + (r : ℕ) % 256, by omega⟩
      ⟨4 * (g : ℕ) + (r : ℕ) / 256, by omega⟩ ⟨(x : ℕ) % 64, by omega⟩) : EReal) else 0) * scale := fun x =>
    (hQ x).trans (congrArg (· * scale) (lanes_q m q c hq t g r x _ rfl))
  have sa : score Q (fun i x => ka (ix3 0 i x)) r = fun i => ((cached q kc ⟨t.val / 8, by have := points t; omega⟩
          ⟨4 * (g : ℕ) + (r : ℕ) / 256, by omega⟩ ⟨t.val % 8 * 256 + (r : ℕ) % 256, by omega⟩ i / Real.log 2 : ℝ) : EReal) := funext fun i => by
    unfold cached
    simp only [hg]
    exact score_real Q _ g r i (fun y => q (ix4 ⟨t.val / 8, by have := points t; omega⟩ ⟨t.val % 8 * 256 + (r : ℕ) % 256, by omega⟩ ⟨4 * (g : ℕ) + (r : ℕ) / 256, by omega⟩ y))
      (fun y => kc (ix4 ⟨t.val / 8, by have := points t; omega⟩ i g y)) hQ' (fun x h => (hka i x).trans (lanes_kc m kc c hkc t g i x h))
  have sb : score Q (fun i x => kb (ix2 i x)) r = fun i => ((fresh q k ⟨t.val / 8, by have := points t; omega⟩
          ⟨4 * (g : ℕ) + (r : ℕ) / 256, by omega⟩ ⟨t.val % 8 * 256 + (r : ℕ) % 256, by omega⟩ i / Real.log 2 : ℝ) : EReal) := funext fun i => by
    unfold fresh
    simp only [hg]
    exact score_real Q _ g r i (fun y => q (ix4 ⟨t.val / 8, by have := points t; omega⟩ ⟨t.val % 8 * 256 + (r : ℕ) % 256, by omega⟩ ⟨4 * (g : ℕ) + (r : ℕ) / 256, by omega⟩ y))
      (fun y => k (ix4 ⟨t.val / 8, by have := points t; omega⟩ i g y)) hQ' (fun x h => (hkb i x).trans (lanes_k m k c hk t g i x h))
  unfold ratio
  rw [sa, sb, Softmax.attend_div]
  unfold mixed
  simp only [hg]
  refine congrArg₂ (· + ·) (Finset.sum_congr rfl fun i _ => congrArg (_ * ·) ?_) (Finset.sum_congr rfl fun i _ => congrArg (_ * ·) ?_)
  · exact (hva i l).trans (lanes_vc m c t g i l hl)
  · exact (hvb i l).trans (lanes_v m c t g i l hl)

/-- The softmax of the scores times the values, laid out as the result is: a row per query, a slot of 128 columns per head, its
    64 lanes in its group's half and zeros in the other. -/
def outAt (v : FVec Ideal S8x2048x2x64 .f32) (vc : FVec Ideal S8x512x2x64 .f32) : S16384x1024.Idx → EReal := fun i =>
  if (i 1 : ℕ) % 128 / 64 = (i 1 : ℕ) / 512 then
    mixed q k kc v vc ⟨(i 0 : ℕ) / 2048, by have := (i 0).isLt; simp at this; omega⟩ ⟨(i 1 : ℕ) / 128, by have := (i 1).isLt; simp at this; omega⟩
      ⟨(i 0 : ℕ) % 2048, by omega⟩ ⟨(i 1 : ℕ) % 64, by omega⟩
  else 0

/-- That layout, read at a point's row and slot. -/
theorem outAt_slot (v : FVec Ideal S8x2048x2x64 .f32) (vc : FVec Ideal S8x512x2x64 .f32) (t : Nat) (ht : t < 64) (g : Fin 2) (r : Fin 1024) (l : Fin 128)
    (R : Fin 16384) (Y : Fin 1024) (hR : (R : ℕ) = t * 256 + (r : ℕ) % 256) (hY : (Y : ℕ) = 512 * g + ((r : ℕ) / 256 * 128 + l)) :
    outAt q k kc v vc (ix2 R Y) = if (l : ℕ) / 64 = g then mixed q k kc v vc ⟨t / 8, by omega⟩
          ⟨4 * (g : ℕ) + (r : ℕ) / 256, by omega⟩ ⟨t % 8 * 256 + (r : ℕ) % 256, by omega⟩ ⟨(l : ℕ) % 64, by omega⟩ else 0 := by
  have e1 : (Y : ℕ) % 128 / 64 = (l : ℕ) / 64 := by omega
  have e2 : (Y : ℕ) / 512 = g := by omega
  have e3 : (Y : ℕ) / 128 = 4 * (g : ℕ) + (r : ℕ) / 256 := by omega
  have e4 : (Y : ℕ) % 64 = (l : ℕ) % 64 := by omega
  have e5 : (R : ℕ) / 2048 = t / 8 := by omega
  have e6 : (R : ℕ) % 2048 = t % 8 * 256 + (r : ℕ) % 256 := by omega
  show (if (Y : ℕ) % 128 / 64 = (Y : ℕ) / 512 then mixed q k kc v vc ⟨(R : ℕ) / 2048, by omega⟩ ⟨(Y : ℕ) / 128, by omega⟩ ⟨(R : ℕ) % 2048, by omega⟩ ⟨(Y : ℕ) % 64, by omega⟩ else 0) = _
  simp only [e1, e2, e3, e4, e5, e6]

include hq hk hkc in
/-- The first group's result at a point. -/
theorem group_a (t : Fin cfg0.N) (r : Fin 1024) (l : Fin 128) (R : Fin 16384) (Y : Fin 1024) (hR : (R : ℕ) = t.val * 256 + (r : ℕ) % 256) (hY : (Y : ℕ) = (r : ℕ) / 256 * 128 + l) :
    k0_pay22 (F := Ideal) (iblk m c 0 t) (iblk m c 1 t) (iblk m c 2 t) (iblk m c 3 t) (iblk m c 4 t) (ix2 r l)
      = outAt q k kc (m ((c : Thread nD τ).loc main_arg2)) (m ((c : Thread nD τ).loc main_arg4)) (ix2 R Y) := by
  refine Eq.trans ?_ (outAt_slot q k kc _ _ t.val (points t) 0 r l R Y hR (hY.trans (Nat.zero_add _).symm)).symm
  unfold k0_pay22 k0_pay18 k0_pay19 k0_pay20 k0_pay21
  refine (half_a _ _ _ _ _ _ _ _ r l).trans ?_
  by_cases h : (l : ℕ) < 64
  · have h' : (l : ℕ) / 64 = ((0 : Fin 2) : ℕ) := by show (l : ℕ) / 64 = 0; omega
    exact (if_pos h).trans ((head_eq m q k kc c hq hk hkc t 0 r l h' _ _ _ _ _ (fun x => stack_a _ r x) (fun i x => load_c _ i x) (fun i x => load_c _ i x)
      (fun i x => load_n _ i x) (fun i x => load_n _ i x)).trans (if_pos h').symm)
  · have h' : ¬ (l : ℕ) / 64 = ((0 : Fin 2) : ℕ) := by show ¬ (l : ℕ) / 64 = 0; omega
    exact (if_neg h).trans (if_neg h').symm

include hq hk hkc in
/-- The second group's result at a point. -/
theorem group_b (t : Fin cfg0.N) (r : Fin 1024) (l : Fin 128) (R : Fin 16384) (Y : Fin 1024) (hR : (R : ℕ) = t.val * 256 + (r : ℕ) % 256) (hY : (Y : ℕ) = 512 + ((r : ℕ) / 256 * 128 + l)) :
    k0_pay1 (F := Ideal) (k0_pay23 (F := Ideal) (iblk m c 0 t) (iblk m c 1 t) (iblk m c 2 t) (iblk m c 3 t) (iblk m c 4 t))
        (k0_pay24 (F := Ideal) (iblk m c 0 t) (iblk m c 1 t) (iblk m c 2 t) (iblk m c 3 t) (iblk m c 4 t)) (Scalar.ofBits .f32 0x00000000#32) (ix2 r l)
      = outAt q k kc (m ((c : Thread nD τ).loc main_arg2)) (m ((c : Thread nD τ).loc main_arg4)) (ix2 R Y) := by
  refine Eq.trans ?_ (outAt_slot q k kc _ _ t.val (points t) 1 r l R Y hR hY).symm
  unfold k0_pay24 k0_pay23
  refine (half_b _ _ _ _ _ r l).trans ?_
  by_cases h : (l : ℕ) < 64
  · have h' : ¬ (l : ℕ) / 64 = ((1 : Fin 2) : ℕ) := by show ¬ (l : ℕ) / 64 = 1; omega
    exact (if_pos h).trans (if_neg h').symm
  · have h' : (l : ℕ) / 64 = ((1 : Fin 2) : ℕ) := by show (l : ℕ) / 64 = 1; omega
    exact (if_neg h).trans ((head_eq m q k kc c hq hk hkc t 1 r l h' _ _ _ _ _ (fun x => stack_b _ r x) (fun i x => load_c _ i x) (fun i x => load_c _ i x)
      (fun i x => load_n _ i x) (fun i x => load_n _ i x)).trans (if_pos h').symm)

include hq hk hkc in
/-- The result array after the run. -/
theorem final : (dats m 0 c).arrAt 5 (cfgs 0).N
    = outAt q k kc (m ((c : Thread nD τ).loc main_arg2)) (m ((c : Thread nD τ).loc main_arg4)) := by
  refine (dats m 0 c).arrAt_eq_of_covers 5 _ (by decide +kernel) fun t hf y => ?_
  blk_simp
  have ht := points t
  have hy0 : (y 0 : ℕ) < 256 := (y 0).isLt
  have hy1 : (y 1 : ℕ) < 1024 := (y 1).isLt
  have e0 : (((win0_5.blk t).view.emb y) 0 : ℕ) = t.val * 256 + (y 0 : ℕ) := by blk_simp [idx t]
  have e1 : (((win0_5.blk t).view.emb y) 1 : ℕ) = (y 1 : ℕ) := by blk_simp [idx t]
  have hy : ix2 (⟨t.val * 256 + (y 0 : ℕ), by omega⟩ : Fin 16384) (⟨(y 1 : ℕ), hy1⟩ : Fin 1024) = (win0_5.blk t).view.emb y := funext fun a => Fin.ext (by
    match a with
    | ⟨0, _⟩ => exact e0.symm
    | ⟨1, _⟩ => exact e1.symm)
  rw [after0_5]
  refine (tiles (iblk m c 0 t) (iblk m c 1 t) (iblk m c 2 t) (iblk m c 3 t) (iblk m c 4 t) y
    (fun z : S256x1024.Idx => outAt q k kc (m ((c : Thread nD τ).loc main_arg2)) (m ((c : Thread nD τ).loc main_arg4))
      (ix2 (⟨t.val * 256 + (z 0 : ℕ), by have h : (z 0 : ℕ) < 256 := (z 0).isLt; omega⟩ : Fin 16384) (⟨(z 1 : ℕ), (z 1).isLt⟩ : Fin 1024))) (fun j r l => ?_) (fun j r l => ?_)).trans
    (congrArg (outAt q k kc (m ((c : Thread nD τ).loc main_arg2)) (m ((c : Thread nD τ).loc main_arg4))) hy)
  · exact group_a m q k kc c hq hk hkc t _ l _ _ (by show t.val * 256 + (r : ℕ) = t.val * 256 + (256 * (j : ℕ) + (r : ℕ)) % 256; omega)
      (by show 128 * (j : ℕ) + (l : ℕ) = (256 * (j : ℕ) + (r : ℕ)) / 256 * 128 + l; omega)
  · exact group_b m q k kc c hq hk hkc t _ l _ _ (by show t.val * 256 + (r : ℕ) = t.val * 256 + (256 * (j : ℕ) + (r : ℕ)) % 256; omega)
      (by show 512 + 128 * (j : ℕ) + (l : ℕ) = 512 + ((256 * (j : ℕ) + (r : ℕ)) / 256 * 128 + l); omega)

end Final

end Cert.GqaValue
-- ==== Proof.GqaPre.lean ====
/-
  What the condition of the grouped-query attention's claim says: three of its arguments hold real numbers.
-/
module

public import proofs.«01_k».proof.Pre_gqa_finite
public import proofs.«01_k».proof.Proof.MlaPre

@[expose] public section

set_option maxRecDepth 16384

noncomputable section

namespace Cert.GqaPre

open Idealize.ShloMosaic Cert.Pre_gqa_finite

/-- The shape relations of the condition. -/
theorem facts : Cert.Pre_gqa_finite.Facts := by
  constructor <;> decide

/-- Under the condition the queries, the new keys and the cached keys hold real numbers. -/
theorem finite [Facts] (q : FVec Ideal S8x2048x8x64 .f32) (k v : FVec Ideal S8x2048x2x64 .f32) (kc vc : FVec Ideal S8x512x2x64 .f32)
    (j : S_.Idx) (h : fn q k v kc vc j = 1#1) :
    (∃ r : S8x2048x8x64.Idx → ℝ, q = fun i => ((r i : ℝ) : EReal)) ∧ (∃ r : S8x2048x2x64.Idx → ℝ, k = fun i => ((r i : ℝ) : EReal))
      ∧ ∃ r : S8x512x2x64.Idx → ℝ, kc = fun i => ((r i : ℝ) : EReal) := by
  obtain ⟨h1, h2⟩ := IntOp.andi_eq_one.1 h
  obtain ⟨h3, h4⟩ := IntOp.andi_eq_one.1 h1
  exact ⟨Cert.MlaPre.real_of_all q _ _ _ j h3, Cert.MlaPre.real_of_all k _ _ _ j h4, Cert.MlaPre.real_of_all kc _ _ _ j h2⟩

end Cert.GqaPre

end
-- ==== Proof.lean ====
/-
  The certificate: every claim of `Cert.Claim`, assembled from the modules that prove the parts.
-/
module

public import proofs.«01_k».proof.Defs
public import proofs.«01_k».proof.Proof.Gen.Experts.Frame
public import proofs.«01_k».proof.Proof.Gen.ExpertsIdeal.Frame
public import proofs.«01_k».proof.Proof.ExpertsArray
public import proofs.«01_k».proof.Proof.Gen.ExpertsRefIdeal.Run
public import proofs.«01_k».proof.Proof.Gen.Mla.Frame
public import proofs.«01_k».proof.Proof.Gen.MlaIdeal.Frame
public import proofs.«01_k».proof.Proof.MlaArray
public import proofs.«01_k».proof.Proof.MlaPre
public import proofs.«01_k».proof.Proof.Gen.MlaRefIdeal.Run
public import proofs.«01_k».proof.Proof.Gen.EvenIn.Frame
public import proofs.«01_k».proof.Proof.Gen.EvenInIdeal.Frame
public import proofs.«01_k».proof.Proof.Gen.EvenInIdeal.Value
public import proofs.«01_k».proof.Proof.EvenInArray
public import proofs.«01_k».proof.Proof.Gen.EvenInRefIdeal.Run
public import proofs.«01_k».proof.Proof.Gen.EvenInRefIdeal.Read
public import proofs.«01_k».proof.Proof.Gen.OddIn.Frame
public import proofs.«01_k».proof.Proof.Gen.OddInIdeal.Frame
public import proofs.«01_k».proof.Proof.OddInArray
public import proofs.«01_k».proof.Proof.Gen.OddInRefIdeal.Run
public import proofs.«01_k».proof.Proof.Gen.OddInRefIdeal.Read
public import proofs.«01_k».proof.Proof.Gen.OddOut.Frame
public import proofs.«01_k».proof.Proof.Gen.OddOutIdeal.Frame
public import proofs.«01_k».proof.Proof.OddOutArray
public import proofs.«01_k».proof.Proof.Gen.OddOutRefIdeal.Run
public import proofs.«01_k».proof.Proof.Gen.OddOutRefIdeal.Read
public import proofs.«01_k».proof.Proof.Gen.EvenOut.Frame
public import proofs.«01_k».proof.Proof.Gen.EvenOutIdeal.Frame
public import proofs.«01_k».proof.Proof.EvenOutEnds
public import proofs.«01_k».proof.Proof.Gen.EvenOutRefIdeal.Run
public import proofs.«01_k».proof.Proof.Gen.EvenOutRefIdeal.Read
public import proofs.«01_k».proof.Proof.Gen.Gqa.Frame
public import proofs.«01_k».proof.Proof.Gen.GqaIdeal.Frame
public import proofs.«01_k».proof.Proof.Gen.GqaIdeal.Value
public import proofs.«01_k».proof.Proof.GqaArray
public import proofs.«01_k».proof.Proof.GqaPre
public import proofs.«01_k».proof.Proof.Gen.GqaRefIdeal.Run
public import proofs.«01_k».proof.Proof.Gen.GqaRefIdeal.Read
public import Idealize.ShloMosaic.Lib.Claim

@[expose] public section

set_option maxRecDepth 16384

noncomputable section

namespace Cert.Proof

open Idealize.ShloMosaic Idealize.SL.Sem

/-- The experts kernel and the plain expert sum end with equal results over the extended reals. -/
theorem experts_algebraic : Cert.algebraic_ExpertsIdeal_ExpertsRefIdeal := by
  pair_intro
  · run_from Cert.ExpertsIdeal.Gen.run_main m g
  · run_from Cert.ExpertsRefIdeal.Value.run m' g'
    rw [Cert.ExpertsValue.final m c, (hagree c).2.2.2.2.2.2]
    exact (Cert.ExpertsRefIdeal.Read.val_main_v17_eq _ _ _ _ _ _ _).trans (Cert.ExpertsValue.ref_eq _ _ _ _ _ _ _)

/-- The reference of the expert sum runs, keeps its arguments and leaves every counter at zero. -/
theorem experts_ref_frame : Cert.quiescent_ExpertsRefIdeal := fun m ρ _ =>
  (θ_run Cert.ExpertsRefIdeal.defs _ _).mono (fun r h => ⟨fun c => (h c).2,
      Idealize.ShloMosaic.sem_eq_zero_of_no_sems (by decide) r.2⟩)
    (Cert.ExpertsRefIdeal.Value.run (F := Ideal) m ρ)

/-- The plain attention of arrays whose queries and keys hold real numbers. -/
theorem mla_ref_eq (q' k' : FVec Ideal Cert.MlaRefIdeal.S8x2048x16x96 .f32) (v : FVec Ideal Cert.MlaRefIdeal.S8x2048x16x64 .f32)
    (kc' : FVec Ideal Cert.MlaRefIdeal.S8x512x16x96 .f32) (vc : FVec Ideal Cert.MlaRefIdeal.S8x512x16x64 .f32)
    (q k : Cert.MlaRefIdeal.S8x2048x16x96.Idx → ℝ) (kc : Cert.MlaRefIdeal.S8x512x16x96.Idx → ℝ)
    (hq : q' = fun i => (q i : EReal)) (hk : k' = fun i => (k i : EReal)) (hkc : kc' = fun i => (kc i : EReal)) :
    Cert.MlaRefIdeal.Read.val_main_v20 (F := Ideal) q' k' v kc' vc = Cert.MlaValue.outAt q k kc v vc := by
  subst hq hk hkc
  exact funext fun i => Cert.MlaValue.ref_out q k kc v vc i

/-- The attention kernel and the plain attention end with equal results over the extended reals, where the
    queries and both sets of keys hold real numbers. -/
theorem mla_algebraic [Cert.Pre_mla_finite.Facts] : Cert.algebraic_MlaIdeal_MlaRefIdeal_pre_mla_finite := by
  pair_intro
  · run_from Cert.MlaIdeal.Gen.run_main m g
    · exact Cert.MlaIdeal.Gen.V_main_arg0 m c
    · exact Cert.MlaIdeal.Gen.V_main_arg1 m c
    · exact Cert.MlaIdeal.Gen.V_main_arg2 m c
    · exact Cert.MlaIdeal.Gen.V_main_arg3 m c
    · exact Cert.MlaIdeal.Gen.V_main_arg4 m c
  · run_from Cert.MlaRefIdeal.Value.run m' g'
    obtain ⟨⟨q, hq⟩, ⟨k, hk⟩, kc, hkc⟩ := Cert.MlaPre.finite _ _ _ _ _ (fun a => a.elim0) (congrFun (hpre c) (fun a => a.elim0))
    rw [Cert.MlaValue.final m q k kc c hq hk hkc, (hagree c).2.1, (hagree c).2.2.1, (hagree c).2.2.2.1, (hagree c).2.2.2.2]
    exact (Cert.MlaRefIdeal.Read.val_main_v20_eq _ _ _ _ _).trans (mla_ref_eq _ _ _ _ _ q k kc hq hk hkc)

/-- The reference of the attention runs, keeps its arguments and leaves every counter at zero. -/
theorem mla_ref_frame : Cert.quiescent_MlaRefIdeal := fun m ρ _ =>
  (θ_run Cert.MlaRefIdeal.defs _ _).mono (fun r h => ⟨fun c => (h c).2,
      Idealize.ShloMosaic.sem_eq_zero_of_no_sems (by decide) r.2⟩)
    (Cert.MlaRefIdeal.Value.run (F := Ideal) m ρ)

/-- The even layer's input kernel and the plain projection end with equal results over the extended reals. -/
theorem even_in_algebraic : Cert.algebraic_EvenInIdeal_EvenInRefIdeal := by
  intro m g m' g' _ hagree
  refine ⟨_, _, _, _, Cert.EvenInValue.ends m g, (θ_run Cert.EvenInRefIdeal.defs _ _).mono (fun r h c => ?_) (Cert.EvenInRefIdeal.Value.run (F := Ideal) m' g')⟩
  obtain ⟨a0, a1, a2, a3, -, a5⟩ := hagree c
  obtain ⟨h0, h1, h2, h3, k⟩ := h c
  exact ⟨(h0.trans (Cert.EvenInRefIdeal.Read.val_main_v52_eq _ _ _ _)).trans (congr (congr (congr (congrArg (Cert.EvenInRefIdeal.Read.val_main_v52 (F := Ideal)) a0) a1) a2) a3),
    (h1.trans (Cert.EvenInRefIdeal.Read.val_main_v53_eq _ _ _ _)).trans (congr (congr (congr (congrArg (Cert.EvenInRefIdeal.Read.val_main_v53 (F := Ideal)) a0) a1) a2) a3),
    (h2.trans (Cert.EvenInRefIdeal.Read.val_main_v54_eq m' c)).trans (congr (congr (congr (congr (congrArg (Cert.EvenInRefIdeal.Read.val_main_v54 (F := Ideal)) a0) a1) a2) a3) a5),
    (h3.trans (Cert.EvenInRefIdeal.Read.val_main_v37_eq _ _ _ _)).trans (congr (congr (congr (congrArg (Cert.EvenInRefIdeal.Read.val_main_v37 (F := Ideal)) a0) a1) a2) a3), k⟩

/-- The reference of the even layer's input runs, keeps its arguments and leaves every counter at zero. -/
theorem even_in_ref_frame : Cert.quiescent_EvenInRefIdeal := fun m ρ _ =>
  (θ_run Cert.EvenInRefIdeal.defs _ _).mono (fun r h => ⟨fun c => (h c).2.2.2.2,
      Idealize.ShloMosaic.sem_eq_zero_of_no_sems (by decide) r.2⟩)
    (Cert.EvenInRefIdeal.Value.run (F := Ideal) m ρ)

/-- The odd layer's input kernel and the plain projection end with equal results over the extended reals. -/
theorem odd_in_algebraic : Cert.algebraic_OddInIdeal_OddInRefIdeal := by
  intro m g m' g' _ hagree
  refine ⟨_, _, _, Cert.OddInValue.ends m g, (θ_run Cert.OddInRefIdeal.defs _ _).mono (fun r h c => ?_) (Cert.OddInRefIdeal.Value.run (F := Ideal) m' g')⟩
  obtain ⟨a0, a1, a2, a3, -, a5, -, a7, -⟩ := hagree c
  obtain ⟨h0, h1, h2, k⟩ := h c
  have e2 : r.2.mem ((c.tc : Thread Cert.OddInRefIdeal.nD Cert.OddInRefIdeal.τ).loc Cert.OddInRefIdeal.main_v56)
      = Cert.OddInRefIdeal.Read.val_main_v56 (F := Ideal) (m' ((c.tc : Thread Cert.OddInRefIdeal.nD Cert.OddInRefIdeal.τ).loc Cert.OddInRefIdeal.main_arg0)) (m' ((c.tc : Thread Cert.OddInRefIdeal.nD Cert.OddInRefIdeal.τ).loc Cert.OddInRefIdeal.main_arg1)) (m' ((c.tc : Thread Cert.OddInRefIdeal.nD Cert.OddInRefIdeal.τ).loc Cert.OddInRefIdeal.main_arg2)) (m' ((c.tc : Thread Cert.OddInRefIdeal.nD Cert.OddInRefIdeal.τ).loc Cert.OddInRefIdeal.main_arg3)) := h2
  exact ⟨(h0.trans (Cert.OddInRefIdeal.Read.val_main_v55_eq m' c)).trans (congr (congr (congr (congr (congr (congrArg (Cert.OddInRefIdeal.Read.val_main_v55 (F := Ideal)) a0) a1) a2) a3) a5) a7),
    (h1.trans (Cert.OddInRefIdeal.Read.val_main_v49_eq m' c)).trans (congr (congr (congr (congr (congrArg (Cert.OddInRefIdeal.Read.val_main_v49 (F := Ideal)) a0) a1) a2) a3) a5),
    Eq.trans e2 (congr (congr (congr (congrArg (Cert.OddInRefIdeal.Read.val_main_v56 (F := Ideal)) a0) a1) a2) a3), k⟩

/-- The reference of the odd layer's input runs, keeps its arguments and leaves every counter at zero. -/
theorem odd_in_ref_frame : Cert.quiescent_OddInRefIdeal := fun m ρ _ =>
  (θ_run Cert.OddInRefIdeal.defs _ _).mono (fun r h => ⟨fun c => (h c).2.2.2,
      Idealize.ShloMosaic.sem_eq_zero_of_no_sems (by decide) r.2⟩)
    (Cert.OddInRefIdeal.Value.run (F := Ideal) m ρ)

/-- The odd layer's output projection with its gated residual and the plain one end with equal results over the extended reals. -/
theorem odd_out_algebraic : Cert.algebraic_OddOutIdeal_OddOutRefIdeal := by
  pair_intro
  · run_from Cert.OddOutIdeal.Gen.run_main m g
  · run_from Cert.OddOutRefIdeal.Value.run m' g'
    rw [Cert.OddOutValue.final m c]
    obtain ⟨a0, a1, a2, a3, a4⟩ := hagree c
    exact (Cert.OddOutRefIdeal.Read.val_main_v11_eq _ _ _ _ _).trans (congrArg (Cert.OddOutRefIdeal.Read.val_main_v11 (F := Ideal) _ _ _ _) a4)

/-- The reference of that projection runs, keeps its arguments and leaves every counter at zero. -/
theorem odd_out_ref_frame : Cert.quiescent_OddOutRefIdeal := fun m ρ _ =>
  (θ_run Cert.OddOutRefIdeal.defs _ _).mono (fun r h => ⟨fun c => (h c).2,
      Idealize.ShloMosaic.sem_eq_zero_of_no_sems (by decide) r.2⟩)
    (Cert.OddOutRefIdeal.Value.run (F := Ideal) m ρ)

/-- The even layer's output projection with its gated residual and the plain one end with equal results over the extended reals. -/
theorem even_out_algebraic : Cert.algebraic_EvenOutIdeal_EvenOutRefIdeal := by
  intro m g m' g' _ hagree
  refine ⟨_, Cert.EvenOutValue.ends m g, (θ_run Cert.EvenOutRefIdeal.defs _ _).mono (fun r h c => ?_) (Cert.EvenOutRefIdeal.Value.run (F := Ideal) m' g')⟩
  obtain ⟨a0, a1, a2, a3, a4, a5, a6⟩ := hagree c
  obtain ⟨h0, k⟩ := h c
  exact ⟨(h0.trans (Cert.EvenOutRefIdeal.Read.val_main_v14_eq _ _ _ _ _ _ _)).trans (congr (congr (congr (congr (congr (congr (congrArg (Cert.EvenOutRefIdeal.Read.val_main_v14 (F := Ideal)) a0) a1) a2) a3) a4) a5) a6), k⟩

/-- The reference of that projection runs, keeps its arguments and leaves every counter at zero. -/
theorem even_out_ref_frame : Cert.quiescent_EvenOutRefIdeal := fun m ρ _ =>
  (θ_run Cert.EvenOutRefIdeal.defs _ _).mono (fun r h => ⟨fun c => (h c).2,
      Idealize.ShloMosaic.sem_eq_zero_of_no_sems (by decide) r.2⟩)
    (Cert.EvenOutRefIdeal.Value.run (F := Ideal) m ρ)

/-- The plain grouped-query attention of arrays whose queries and keys hold real numbers. -/
theorem gqa_ref_eq (q' : FVec Ideal Cert.GqaRefIdeal.S8x2048x8x64 .f32) (k' v : FVec Ideal Cert.GqaRefIdeal.S8x2048x2x64 .f32)
    (kc' vc : FVec Ideal Cert.GqaRefIdeal.S8x512x2x64 .f32)
    (q : Cert.GqaRefIdeal.S8x2048x8x64.Idx → ℝ) (k : Cert.GqaRefIdeal.S8x2048x2x64.Idx → ℝ) (kc : Cert.GqaRefIdeal.S8x512x2x64.Idx → ℝ)
    (hq : q' = fun i => (q i : EReal)) (hk : k' = fun i => (k i : EReal)) (hkc : kc' = fun i => (kc i : EReal)) :
    Cert.GqaRefIdeal.Read.val_main_v29 (F := Ideal) q' k' v kc' vc = Cert.GqaValue.outAt q k kc v vc := by
  subst hq hk hkc
  exact funext fun i => Cert.GqaValue.ref_out q k kc v vc i

/-- The grouped-query attention kernel and the plain one end with equal results over the extended reals, where the
    queries and both sets of keys hold real numbers. -/
theorem gqa_algebraic [Cert.Pre_gqa_finite.Facts] : Cert.algebraic_GqaIdeal_GqaRefIdeal_pre_gqa_finite := by
  pair_intro
  · run_from Cert.GqaIdeal.Gen.run_main m g
    · exact Cert.GqaIdeal.Gen.V_main_arg0 m c
    · exact Cert.GqaIdeal.Gen.V_main_arg1 m c
    · exact Cert.GqaIdeal.Gen.V_main_arg2 m c
    · exact Cert.GqaIdeal.Gen.V_main_arg3 m c
    · exact Cert.GqaIdeal.Gen.V_main_arg4 m c
  · run_from Cert.GqaRefIdeal.Value.run m' g'
    obtain ⟨⟨q, hq⟩, ⟨k, hk⟩, kc, hkc⟩ := Cert.GqaPre.finite _ _ _ _ _ (fun a => a.elim0) (congrFun (hpre c) (fun a => a.elim0))
    obtain ⟨a0, a1, a2, a3, a4⟩ := hagree c
    refine Eq.trans ?_ (Cert.GqaValue.final m q k kc c hq hk hkc).symm
    exact ((Cert.GqaRefIdeal.Read.val_main_v29_eq m' c).trans (congr (congr (congr (congr (congrArg (Cert.GqaRefIdeal.Read.val_main_v29 (F := Ideal)) a0) a1) a2) a3) a4)).trans
      (gqa_ref_eq _ _ _ _ _ q k kc hq hk hkc)

/-- The reference of that attention runs, keeps its arguments and leaves every counter at zero. -/
theorem gqa_ref_frame : Cert.quiescent_GqaRefIdeal := fun m ρ _ =>
  (θ_run Cert.GqaRefIdeal.defs _ _).mono (fun r h => ⟨fun c => (h c).2,
      Idealize.ShloMosaic.sem_eq_zero_of_no_sems (by decide) r.2⟩)
    (Cert.GqaRefIdeal.Value.run (F := Ideal) m ρ)

/-- Every claim of the certificate holds. -/
theorem claim : Cert.Claim :=
  ⟨Cert.Experts.Gen.facts, Cert.ExpertsIdeal.Gen.facts, Cert.ExpertsRefIdeal.Gen.facts,
    Cert.Mla.Gen.facts, Cert.MlaIdeal.Gen.facts, Cert.MlaRefIdeal.Gen.facts,
    Cert.EvenIn.Gen.facts, Cert.EvenInIdeal.Gen.facts, Cert.EvenInRefIdeal.Gen.facts,
    Cert.OddIn.Gen.facts, Cert.OddInIdeal.Gen.facts, Cert.OddInRefIdeal.Gen.facts,
    Cert.OddOut.Gen.facts, Cert.OddOutIdeal.Gen.facts, Cert.OddOutRefIdeal.Gen.facts,
    Cert.EvenOut.Gen.facts, Cert.EvenOutIdeal.Gen.facts, Cert.EvenOutRefIdeal.Gen.facts,
    Cert.Gqa.Gen.facts, Cert.GqaIdeal.Gen.facts, Cert.GqaRefIdeal.Gen.facts, Cert.MlaPre.facts, Cert.GqaPre.facts,
    fun m ρ _ => Cert.Experts.Gen.frame m ρ, fun m ρ _ => Cert.ExpertsIdeal.Gen.frame m ρ, experts_ref_frame,
    fun m ρ _ => Cert.Mla.Gen.frame m ρ, fun m ρ _ => Cert.MlaIdeal.Gen.frame m ρ, fun m ρ _ => Cert.MlaIdeal.Gen.frame m ρ,
    mla_ref_frame, fun m ρ _ => mla_ref_frame m ρ trivial,
    fun m ρ _ => Cert.EvenIn.Gen.frame m ρ, fun m ρ _ => Cert.EvenInIdeal.Gen.frame m ρ, even_in_ref_frame,
    fun m ρ _ => Cert.OddIn.Gen.frame m ρ, fun m ρ _ => Cert.OddInIdeal.Gen.frame m ρ, odd_in_ref_frame,
    fun m ρ _ => Cert.OddOut.Gen.frame m ρ, fun m ρ _ => Cert.OddOutIdeal.Gen.frame m ρ, odd_out_ref_frame,
    fun m ρ _ => Cert.EvenOut.Gen.frame m ρ, fun m ρ _ => Cert.EvenOutIdeal.Gen.frame m ρ, even_out_ref_frame,
    fun m ρ _ => Cert.Gqa.Gen.frame m ρ, fun m ρ _ => Cert.GqaIdeal.Gen.frame m ρ, fun m ρ _ => Cert.GqaIdeal.Gen.frame m ρ,
    gqa_ref_frame, fun m ρ _ => gqa_ref_frame m ρ trivial,
    trivial, experts_algebraic,
    IdealRules.named_const.statement Cert.MlaIdeal.κ "mla_scale" .f32 0x3E16C740#32 _ rfl,
    (haveI := Cert.MlaPre.facts; mla_algebraic),
    trivial, even_in_algebraic, trivial, odd_in_algebraic, trivial, odd_out_algebraic, trivial, even_out_algebraic,
    IdealRules.named_const.statement Cert.GqaIdeal.κ "gqa_scale" .f32 0x3E38AA3B#32 _ rfl,
    (haveI := Cert.GqaPre.facts; gqa_algebraic)⟩

end Cert.Proof

end
